-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_2)) (v1 : (c : Dev Cert.KernelIdeal.nD) → Buf (Elt Ideal) ((c.tc : Thread Cert.KernelIdeal.nD Cert.KernelIdeal.τ).loc Cert.KernelIdeal.main_v3_2)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v4_1)) (v4 : (c : Dev Cert.KernelIdeal.nD) → Buf (Elt Ideal) ((c.tc : Thread Cert.KernelIdeal.nD Cert.KernelIdeal.τ).loc Cert.KernelIdeal.main_v5_0)) (v5 : (c : Dev Cert.KernelIdeal.nD) → Buf (Elt Ideal) ((c.tc : Thread Cert.KernelIdeal.nD Cert.KernelIdeal.τ).loc Cert.KernelIdeal.main_v5_1)) (v6 : (c : Dev Cert.KernelIdeal.nD) → Buf (Elt Ideal) ((c.tc : Thread Cert.KernelIdeal.nD Cert.KernelIdeal.τ).loc Cert.KernelIdeal.main_v3_0)) (v7 : (c : Dev Cert.KernelIdeal.nD) → Buf (Elt Ideal) ((c.tc : Thread Cert.KernelIdeal.nD Cert.KernelIdeal.τ).loc Cert.KernelIdeal.main_v3_1)) (v8 : (c : Dev Cert.KernelIdeal.nD) → Buf (Elt Ideal) ((c.tc : Thread Cert.KernelIdeal.nD Cert.KernelIdeal.τ).loc Cert.KernelIdeal.main_v2_0)) (v9 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_2) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v4_1) = v3 c
          ∧ r.2.mem ((c.tc : Thread Cert.KernelIdeal.nD Cert.KernelIdeal.τ).loc Cert.KernelIdeal.main_v5_0) = v4 c
          ∧ r.2.mem ((c.tc : Thread Cert.KernelIdeal.nD Cert.KernelIdeal.τ).loc Cert.KernelIdeal.main_v5_1) = v5 c
          ∧ r.2.mem ((c.tc : Thread Cert.KernelIdeal.nD Cert.KernelIdeal.τ).loc Cert.KernelIdeal.main_v3_0) = v6 c
          ∧ r.2.mem ((c.tc : Thread Cert.KernelIdeal.nD Cert.KernelIdeal.τ).loc Cert.KernelIdeal.main_v3_1) = v7 c
          ∧ r.2.mem ((c.tc : Thread Cert.KernelIdeal.nD Cert.KernelIdeal.τ).loc Cert.KernelIdeal.main_v2_0) = v8 c
          ∧ r.2.mem ((c.tc : Thread Cert.KernelIdeal.nD Cert.KernelIdeal.τ).loc Cert.KernelIdeal.main_v2_1) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138_0) = v0 c
          ∧ r.2.mem ((c.tc : Thread Cert.ReferenceIdeal.nD Cert.ReferenceIdeal.τ).loc Cert.ReferenceIdeal.main_v138_1) = v1 c
          ∧ r.2.mem ((c.tc : Thread Cert.ReferenceIdeal.nD Cert.ReferenceIdeal.τ).loc Cert.ReferenceIdeal.main_v138_2) = v2 c
          ∧ r.2.mem ((c.tc : Thread Cert.ReferenceIdeal.nD Cert.ReferenceIdeal.τ).loc Cert.ReferenceIdeal.main_v138_3) = v3 c
          ∧ r.2.mem ((c.tc : Thread Cert.ReferenceIdeal.nD Cert.ReferenceIdeal.τ).loc Cert.ReferenceIdeal.main_v138_4) = v4 c
          ∧ r.2.mem ((c.tc : Thread Cert.ReferenceIdeal.nD Cert.ReferenceIdeal.τ).loc Cert.ReferenceIdeal.main_v138_5) = v5 c
          ∧ r.2.mem ((c.tc : Thread Cert.ReferenceIdeal.nD Cert.ReferenceIdeal.τ).loc Cert.ReferenceIdeal.main_v138_6) = v6 c
          ∧ r.2.mem ((c.tc : Thread Cert.ReferenceIdeal.nD Cert.ReferenceIdeal.τ).loc Cert.ReferenceIdeal.main_v138_7) = v7 c
          ∧ r.2.mem ((c.tc : Thread Cert.ReferenceIdeal.nD Cert.ReferenceIdeal.τ).loc Cert.ReferenceIdeal.main_v138_8) = v8 c
          ∧ r.2.mem ((c.tc : Thread Cert.ReferenceIdeal.nD Cert.ReferenceIdeal.τ).loc Cert.ReferenceIdeal.main_v138_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x896x1536 : Shape := ⟨3, ![2, 896, 1536]⟩
abbrev S8960x1536 : Shape := ⟨2, ![8960, 1536]⟩
abbrev S2x896x8960 : Shape := ⟨3, ![2, 896, 8960]⟩
abbrev S_ : Shape := ⟨0, ![]⟩

class Facts : Prop where
  bcast_S_S2x896x1536 : S_.BroadcastsInDim S2x896x1536 (![] : Fin 0 → Fin S2x896x1536.rank)
  reducesTo_S2x896x1536_S_d0_1_2 : S2x896x1536.ReducesTo [0, 1, 2] S_
  h_S_ : 0 < S_.numel
  bcast_S_S8960x1536 : S_.BroadcastsInDim S8960x1536 (![] : Fin 0 → Fin S8960x1536.rank)
  reducesTo_S8960x1536_S_d0_1 : S8960x1536.ReducesTo [0, 1] S_
  bcast_S_S2x896x8960 : S_.BroadcastsInDim S2x896x8960 (![] : Fin 0 → Fin S2x896x8960.rank)
  reducesTo_S2x896x8960_S_d0_1_2 : S2x896x8960.ReducesTo [0, 1, 2] S_

variable [Facts]

def fn {F : FTy → Type} [FloatOps F] (main_arg0 : FVec F S2x896x1536 .bf16) (main_arg1 : FVec F S8960x1536 .bf16) (main_arg2 : FVec F S2x896x8960 .bf16) : IVec S_ 1 :=
  let main_v0 : FVec F S2x896x1536 .bf16 := Host.absf main_arg0
  let main_cst : FVec F S_ .bf16 := constant S_ .bf16 0x7F7F#16
  let main_v1 : FVec F S2x896x1536 .bf16 := broadcastInDim S2x896x1536 ![] bcast_S_S2x896x1536 main_cst
  let main_v2 : IVec S2x896x1536 1 := cmpf .ole main_v0 main_v1
  let main_c : IVec S_ 1 := constantI S_ 1 1#1
  let main_v3 : IVec S_ 1 := (fun x v => Host.reduce IntOp.andi x v reducesTo_S2x896x1536_S_d0_1_2 h_S_) main_v2 main_c
  let main_v4 : FVec F S8960x1536 .bf16 := Host.absf main_arg1
  let main_cst_0 : FVec F S_ .bf16 := constant S_ .bf16 0x7F7F#16
  let main_v5 : FVec F S8960x1536 .bf16 := broadcastInDim S8960x1536 ![] bcast_S_S8960x1536 main_cst_0
  let main_v6 : IVec S8960x1536 1 := cmpf .ole main_v4 main_v5
  let main_c_1 : IVec S_ 1 := constantI S_ 1 1#1
  let main_v7 : IVec S_ 1 := (fun x v => Host.reduce IntOp.andi x v reducesTo_S8960x1536_S_d0_1 h_S_) main_v6 main_c_1
  let main_v8 : IVec S_ 1 := andi main_v3 main_v7
  let main_v9 : FVec F S2x896x8960 .bf16 := Host.absf main_arg2
  let main_cst_2 : FVec F S_ .bf16 := constant S_ .bf16 0x7F7F#16
  let main_v10 : FVec F S2x896x8960 .bf16 := broadcastInDim S2x896x8960 ![] bcast_S_S2x896x8960 main_cst_2
  let main_v11 : IVec S2x896x8960 1 := cmpf .ole main_v9 main_v10
  let main_c_3 : IVec S_ 1 := constantI S_ 1 1#1
  let main_v12 : IVec S_ 1 := (fun x v => Host.reduce IntOp.andi x v reducesTo_S2x896x8960_S_d0_1_2 h_S_) main_v11 main_c_3
  let main_v13 : IVec S_ 1 := andi main_v8 main_v12
  main_v13
-- ==== Kernel.lean ====
abbrev S2x896x1536 : Shape := ⟨3, ![2, 896, 1536]⟩
abbrev S8960x1536 : Shape := ⟨2, ![8960, 1536]⟩
abbrev S2x896x8960 : Shape := ⟨3, ![2, 896, 8960]⟩
abbrev S256x256 : Shape := ⟨2, ![256, 256]⟩
abbrev S1792x1536 : Shape := ⟨2, ![1792, 1536]⟩
abbrev S1792x8960 : Shape := ⟨2, ![1792, 8960]⟩
abbrev S1x1536 : Shape := ⟨2, ![1, 1536]⟩
abbrev S1792x256 : Shape := ⟨2, ![1792, 256]⟩
abbrev S1x256 : Shape := ⟨2, ![1, 256]⟩
abbrev S256 : Shape := ⟨1, ![256]⟩
abbrev S1x8960 : Shape := ⟨2, ![1, 8960]⟩
abbrev S256x1536 : Shape := ⟨2, ![256, 1536]⟩
abbrev S8x256 : Shape := ⟨2, ![8, 256]⟩
abbrev S256x8 : Shape := ⟨2, ![256, 8]⟩
abbrev S256x1 : Shape := ⟨2, ![256, 1]⟩
abbrev S1792x1 : Shape := ⟨2, ![1792, 1]⟩
abbrev S128x8960 : Shape := ⟨2, ![128, 8960]⟩
abbrev S128x1 : Shape := ⟨2, ![128, 1]⟩
abbrev S128x128 : Shape := ⟨2, ![128, 128]⟩
abbrev S128x256 : Shape := ⟨2, ![128, 256]⟩
abbrev S128 : Shape := ⟨1, ![128]⟩
abbrev S8960x256 : Shape := ⟨2, ![8960, 256]⟩

abbrev nBuf : Space → Nat
  | .hbm => 17
  | .vmem => 40
  | .smem => 0
  | _ => 0

abbrev bufTy : (tb : Table) → Fin (tcTables nBuf tb) → BufTy
  | .hbm, ⟨0, _⟩ => ⟨S2x896x1536, .bf16⟩
  | .hbm, ⟨1, _⟩ => ⟨S8960x1536, .bf16⟩
  | .hbm, ⟨2, _⟩ => ⟨S2x896x8960, .bf16⟩
  | .hbm, ⟨3, _⟩ => ⟨S256x256, .bf16⟩
  | .hbm, ⟨4, _⟩ => ⟨S256x256, .bf16⟩
  | .hbm, ⟨5, _⟩ => ⟨S1792x1536, .bf16⟩
  | .hbm, ⟨6, _⟩ => ⟨S1792x8960, .bf16⟩
  | .hbm, ⟨7, _⟩ => ⟨S1792x1536, .fp8e4m3⟩
  | .hbm, ⟨8, _⟩ => ⟨S1x1536, .f32⟩
  | .hbm, ⟨9, _⟩ => ⟨S1792x8960, .fp8e4m3⟩
  | .hbm, ⟨10, _⟩ => ⟨S1x8960, .f32⟩
  | .hbm, ⟨11, _⟩ => ⟨S8960x1536, .f32⟩
  | .hbm, ⟨12, _⟩ => ⟨S1792x8960, .fp8e4m3⟩
  | .hbm, ⟨13, _⟩ => ⟨S1792x1, .f32⟩
  | .hbm, ⟨14, _⟩ => ⟨S8960x1536, .fp8e4m3⟩
  | .hbm, ⟨15, _⟩ => ⟨S1x1536, .f32⟩
  | .hbm, ⟨16, _⟩ => ⟨S1792x1536, .bf16⟩
  | .local _ .vmem, ⟨0, _⟩ => ⟨S256x256, .bf16⟩
  | .local _ .vmem, ⟨1, _⟩ => ⟨S1792x256, .bf16⟩
  | .local _ .vmem, ⟨2, _⟩ => ⟨S1792x256, .bf16⟩
  | .local _ .vmem, ⟨3, _⟩ => ⟨S1792x256, .fp8e4m3⟩
  | .local _ .vmem, ⟨4, _⟩ => ⟨S1792x256, .fp8e4m3⟩
  | .local _ .vmem, ⟨5, _⟩ => ⟨S1x256, .f32⟩
  | .local _ .vmem, ⟨6, _⟩ => ⟨S1x256, .f32⟩
  | .local _ .vmem, ⟨7, _⟩ => ⟨S1792x256, .f32⟩
  | .local _ .vmem, ⟨8, _⟩ => ⟨S256x256, .bf16⟩
  | .local _ .vmem, ⟨9, _⟩ => ⟨S1792x1536, .fp8e4m3⟩
  | .local _ .vmem, ⟨10, _⟩ => ⟨S1x1536, .f32⟩
  | .local _ .vmem, ⟨11, _⟩ => ⟨S1792x256, .bf16⟩
  | .local _ .vmem, ⟨12, _⟩ => ⟨S1792x256, .bf16⟩
  | .local _ .vmem, ⟨13, _⟩ => ⟨S1792x256, .fp8e4m3⟩
  | .local _ .vmem, ⟨14, _⟩ => ⟨S1792x256, .fp8e4m3⟩
  | .local _ .vmem, ⟨15, _⟩ => ⟨S1x256, .f32⟩
  | .local _ .vmem, ⟨16, _⟩ => ⟨S1x256, .f32⟩
  | .local _ .vmem, ⟨17, _⟩ => ⟨S256x1536, .f32⟩
  | .local _ .vmem, ⟨18, _⟩ => ⟨S256x1536, .f32⟩
  | .local _ .vmem, ⟨19, _⟩ => ⟨S1792x256, .f32⟩
  | .local _ .vmem, ⟨20, _⟩ => ⟨S256x256, .bf16⟩
  | .local _ .vmem, ⟨21, _⟩ => ⟨S128x8960, .bf16⟩
  | .local _ .vmem, ⟨22, _⟩ => ⟨S128x8960, .bf16⟩
  | .local _ .vmem, ⟨23, _⟩ => ⟨S128x8960, .fp8e4m3⟩
  | .local _ .vmem, ⟨24, _⟩ => ⟨S128x8960, .fp8e4m3⟩
  | .local _ .vmem, ⟨25, _⟩ => ⟨S128x1, .f32⟩
  | .local _ .vmem, ⟨26, _⟩ => ⟨S128x1, .f32⟩
  | .local _ .vmem, ⟨27, _⟩ => ⟨S128x8960, .f32⟩
  | .local _ .vmem, ⟨28, _⟩ => ⟨S256x256, .bf16⟩
  | .local _ .vmem, ⟨29, _⟩ => ⟨S1792x8960, .fp8e4m3⟩
  | .local _ .vmem, ⟨30, _⟩ => ⟨S1792x1, .f32⟩
  | .local _ .vmem, ⟨31, _⟩ => ⟨S8960x256, .bf16⟩
  | .local _ .vmem, ⟨32, _⟩ => ⟨S8960x256, .bf16⟩
  | .local _ .vmem, ⟨33, _⟩ => ⟨S8960x256, .fp8e4m3⟩
  | .local _ .vmem, ⟨34, _⟩ => ⟨S8960x256, .fp8e4m3⟩
  | .local _ .vmem, ⟨35, _⟩ => ⟨S1x256, .f32⟩
  | .local _ .vmem, ⟨36, _⟩ => ⟨S1x256, .f32⟩
  | .local _ .vmem, ⟨37, _⟩ => ⟨S1792x256, .bf16⟩
  | .local _ .vmem, ⟨38, _⟩ => ⟨S1792x256, .bf16⟩
  | .local _ .vmem, ⟨39, _⟩ => ⟨S8960x256, .f32⟩
  | _, _ => ⟨S2x896x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4_0 : Ref sig .tc := ⟨.hbm, 12, rfl⟩
abbrev main_v4_1 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc3_scratch0 : Ref sig .tc := ⟨.vmem, 39, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31
abbrev cc3_sem5_0 : DmaSem sig := 32
abbrev cc3_sem5_1 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1792x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![35], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1792x1536 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1792x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1792x256 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![14], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S256x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x8960 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x8960 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S256x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1792x8960 .fp8e4m3 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1792x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8960x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8960x256 .fp8e4m3 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1792x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== ReferenceIdeal.lean ====
abbrev S2x896x1536 : Shape := ⟨3, ![2, 896, 1536]⟩
abbrev S8960x1536 : Shape := ⟨2, ![8960, 1536]⟩
abbrev S2x896x8960 : Shape := ⟨3, ![2, 896, 8960]⟩
abbrev S1792x1536 : Shape := ⟨2, ![1792, 1536]⟩
abbrev S1792x8960 : Shape := ⟨2, ![1792, 8960]⟩
abbrev S256x256 : Shape := ⟨2, ![256, 256]⟩
abbrev S_ : Shape := ⟨0, ![]⟩
abbrev S128x128 : Shape := ⟨2, ![128, 128]⟩
abbrev S1792x35x256 : Shape := ⟨3, ![1792, 35, 256]⟩
abbrev S1792 : Shape := ⟨1, ![1792]⟩
abbrev S1792x1 : Shape := ⟨2, ![1792, 1]⟩
abbrev S35x256x1536 : Shape := ⟨3, ![35, 256, 1536]⟩
abbrev S256x35x1536 : Shape := ⟨3, ![256, 35, 1536]⟩
abbrev S1536 : Shape := ⟨1, ![1536]⟩
abbrev S1x1536 : Shape := ⟨2, ![1, 1536]⟩
abbrev S14x128x8960 : Shape := ⟨3, ![14, 128, 8960]⟩
abbrev S128x14x8960 : Shape := ⟨3, ![128, 14, 8960]⟩
abbrev S8960 : Shape := ⟨1, ![8960]⟩
abbrev S1x8960 : Shape := ⟨2, ![1, 8960]⟩
abbrev S14x128x1536 : Shape := ⟨3, ![14, 128, 1536]⟩
abbrev S128x14x1536 : Shape := ⟨3, ![128, 14, 1536]⟩
abbrev S8960x1 : Shape := ⟨2, ![8960, 1]⟩

abbrev nBuf : Space → Nat
  | .hbm => 235
  | .vmem => 19
  | .smem => 0
  | _ => 0

abbrev hbmTy0_0 (i : Nat) : BufTy := match i % 128 with
  | 0 => ⟨S2x896x1536, .bf16⟩
  | 1 => ⟨S8960x1536, .bf16⟩
  | 2 => ⟨S2x896x8960, .bf16⟩
  | 3 => ⟨S1792x1536, .bf16⟩
  | 4 => ⟨S1792x8960, .bf16⟩
  | 5 => ⟨S256x256, .i32⟩
  | 6 => ⟨S256x256, .i32⟩
  | 7 => ⟨S256x256, .i32⟩
  | 8 => ⟨S256x256, .i32⟩
  | 9 => ⟨S_, .i32⟩
  | 10 => ⟨S256x256, .i32⟩
  | 11 => ⟨S256x256, .i32⟩
  | 12 => ⟨S_, .i32⟩
  | 13 => ⟨S256x256, .i32⟩
  | 14 => ⟨S256x256, .i1⟩
  | 15 => ⟨S_, .f32⟩
  | 16 => ⟨S_, .f32⟩
  | 17 => ⟨S256x256, .f32⟩
  | 18 => ⟨S256x256, .f32⟩
  | 19 => ⟨S256x256, .f32⟩
  | 20 => ⟨S256x256, .bf16⟩
  | 21 => ⟨S128x128, .i32⟩
  | 22 => ⟨S128x128, .i32⟩
  | 23 => ⟨S128x128, .i32⟩
  | 24 => ⟨S128x128, .i32⟩
  | 25 => ⟨S_, .i32⟩
  | 26 => ⟨S128x128, .i32⟩
  | 27 => ⟨S128x128, .i32⟩
  | 28 => ⟨S_, .i32⟩
  | 29 => ⟨S128x128, .i32⟩
  | 30 => ⟨S128x128, .i1⟩
  | 31 => ⟨S_, .f32⟩
  | 32 => ⟨S_, .f32⟩
  | 33 => ⟨S128x128, .f32⟩
  | 34 => ⟨S128x128, .f32⟩
  | 35 => ⟨S128x128, .f32⟩
  | 36 => ⟨S128x128, .bf16⟩
  | 37 => ⟨S1792x35x256, .bf16⟩
  | 38 => ⟨S1792x35x256, .f32⟩
  | 39 => ⟨S_, .f32⟩
  | 40 => ⟨S1792x35x256, .f32⟩
  | 41 => ⟨S1792x35x256, .f32⟩
  | 42 => ⟨S1792x8960, .f32⟩
  | 43 => ⟨S1792x8960, .f32⟩
  | 44 => ⟨S_, .f32⟩
  | 45 => ⟨S1792, .f32⟩
  | 46 => ⟨S1792x1, .f32⟩
  | 47 => ⟨S_, .f32⟩
  | 48 => ⟨S1792x1, .f32⟩
  | 49 => ⟨S1792x1, .f32⟩
  | 50 => ⟨S1792x1, .f32⟩
  | 51 => ⟨S_, .f32⟩
  | 52 => ⟨S_, .f32⟩
  | 53 => ⟨S1792x1, .f32⟩
  | 54 => ⟨S1792x1, .f32⟩
  | 55 => ⟨S1792x1, .f32⟩
  | 56 => ⟨S_, .f32⟩
  | 57 => ⟨S1792x1, .f32⟩
  | 58 => ⟨S1792x1, .f32⟩
  | 59 => ⟨S_, .f32⟩
  | 60 => ⟨S1792x1, .f32⟩
  | 61 => ⟨S1792x1, .i1⟩
  | 62 => ⟨S_, .f32⟩
  | 63 => ⟨S_, .f32⟩
  | 64 => ⟨S1792x1, .f32⟩
  | 65 => ⟨S1792x1, .f32⟩
  | 66 => ⟨S_, .f32⟩
  | 67 => ⟨S1792x1, .f32⟩
  | 68 => ⟨S1792x1, .f32⟩
  | 69 => ⟨S1792x1, .f32⟩
  | 70 => ⟨S_, .f32⟩
  | 71 => ⟨S1792x1, .f32⟩
  | 72 => ⟨S1792x1, .f32⟩
  | 73 => ⟨S1792x8960, .f32⟩
  | 74 => ⟨S1792x8960, .f32⟩
  | 75 => ⟨S_, .f32⟩
  | 76 => ⟨S_, .f32⟩
  | 77 => ⟨S_, .f32⟩
  | 78 => ⟨S1792x8960, .f32⟩
  | 79 => ⟨S1792x8960, .f32⟩
  | 80 => ⟨S_, .f32⟩
  | 81 => ⟨S1792x8960, .f32⟩
  | 82 => ⟨S1792x8960, .f32⟩
  | 83 => ⟨S35x256x1536, .bf16⟩
  | 84 => ⟨S256x35x1536, .f32⟩
  | 85 => ⟨S35x256x1536, .f32⟩
  | 86 => ⟨S_, .f32⟩
  | 87 => ⟨S35x256x1536, .f32⟩
  | 88 => ⟨S35x256x1536, .f32⟩
  | 89 => ⟨S8960x1536, .f32⟩
  | 90 => ⟨S8960x1536, .f32⟩
  | 91 => ⟨S_, .f32⟩
  | 92 => ⟨S1536, .f32⟩
  | 93 => ⟨S1x1536, .f32⟩
  | 94 => ⟨S_, .f32⟩
  | 95 => ⟨S1x1536, .f32⟩
  | 96 => ⟨S1x1536, .f32⟩
  | 97 => ⟨S1x1536, .f32⟩
  | 98 => ⟨S_, .f32⟩
  | 99 => ⟨S_, .f32⟩
  | 100 => ⟨S1x1536, .f32⟩
  | 101 => ⟨S1x1536, .f32⟩
  | 102 => ⟨S1x1536, .f32⟩
  | 103 => ⟨S_, .f32⟩
  | 104 => ⟨S1x1536, .f32⟩
  | 105 => ⟨S1x1536, .f32⟩
  | 106 => ⟨S_, .f32⟩
  | 107 => ⟨S1x1536, .f32⟩
  | 108 => ⟨S1x1536, .i1⟩
  | 109 => ⟨S_, .f32⟩
  | 110 => ⟨S_, .f32⟩
  | 111 => ⟨S1x1536, .f32⟩
  | 112 => ⟨S1x1536, .f32⟩
  | 113 => ⟨S_, .f32⟩
  | 114 => ⟨S1x1536, .f32⟩
  | 115 => ⟨S1x1536, .f32⟩
  | 116 => ⟨S1x1536, .f32⟩
  | 117 => ⟨S_, .f32⟩
  | 118 => ⟨S1x1536, .f32⟩
  | 119 => ⟨S1x1536, .f32⟩
  | 120 => ⟨S8960x1536, .f32⟩
  | 121 => ⟨S8960x1536, .f32⟩
  | 122 => ⟨S_, .f32⟩
  | 123 => ⟨S_, .f32⟩
  | 124 => ⟨S_, .f32⟩
  | 125 => ⟨S8960x1536, .f32⟩
  | 126 => ⟨S8960x1536, .f32⟩
  | 127 => ⟨S_, .f32⟩
  | _ => ⟨S2x896x1536, .bf16⟩

abbrev hbmTy0_1 (i : Nat) : BufTy := match i % 128 with
  | 0 => ⟨S8960x1536, .f32⟩
  | 1 => ⟨S8960x1536, .f32⟩
  | 2 => ⟨S14x128x8960, .bf16⟩
  | 3 => ⟨S128x14x8960, .f32⟩
  | 4 => ⟨S14x128x8960, .f32⟩
  | 5 => ⟨S_, .f32⟩
  | 6 => ⟨S14x128x8960, .f32⟩
  | 7 => ⟨S14x128x8960, .f32⟩
  | 8 => ⟨S1792x8960, .f32⟩
  | 9 => ⟨S1792x8960, .f32⟩
  | 10 => ⟨S_, .f32⟩
  | 11 => ⟨S8960, .f32⟩
  | 12 => ⟨S1x8960, .f32⟩
  | 13 => ⟨S_, .f32⟩
  | 14 => ⟨S1x8960, .f32⟩
  | 15 => ⟨S1x8960, .f32⟩
  | 16 => ⟨S1x8960, .f32⟩
  | 17 => ⟨S_, .f32⟩
  | 18 => ⟨S_, .f32⟩
  | 19 => ⟨S1x8960, .f32⟩
  | 20 => ⟨S1x8960, .f32⟩
  | 21 => ⟨S1x8960, .f32⟩
  | 22 => ⟨S_, .f32⟩
  | 23 => ⟨S1x8960, .f32⟩
  | 24 => ⟨S1x8960, .f32⟩
  | 25 => ⟨S_, .f32⟩
  | 26 => ⟨S1x8960, .f32⟩
  | 27 => ⟨S1x8960, .i1⟩
  | 28 => ⟨S_, .f32⟩
  | 29 => ⟨S_, .f32⟩
  | 30 => ⟨S1x8960, .f32⟩
  | 31 => ⟨S1x8960, .f32⟩
  | 32 => ⟨S_, .f32⟩
  | 33 => ⟨S1x8960, .f32⟩
  | 34 => ⟨S1x8960, .f32⟩
  | 35 => ⟨S1x8960, .f32⟩
  | 36 => ⟨S_, .f32⟩
  | 37 => ⟨S1x8960, .f32⟩
  | 38 => ⟨S1x8960, .f32⟩
  | 39 => ⟨S1792x8960, .f32⟩
  | 40 => ⟨S1792x8960, .f32⟩
  | 41 => ⟨S_, .f32⟩
  | 42 => ⟨S_, .f32⟩
  | 43 => ⟨S_, .f32⟩
  | 44 => ⟨S1792x8960, .f32⟩
  | 45 => ⟨S1792x8960, .f32⟩
  | 46 => ⟨S_, .f32⟩
  | 47 => ⟨S1792x8960, .f32⟩
  | 48 => ⟨S1792x8960, .f32⟩
  | 49 => ⟨S14x128x1536, .bf16⟩
  | 50 => ⟨S128x14x1536, .f32⟩
  | 51 => ⟨S14x128x1536, .f32⟩
  | 52 => ⟨S_, .f32⟩
  | 53 => ⟨S14x128x1536, .f32⟩
  | 54 => ⟨S14x128x1536, .f32⟩
  | 55 => ⟨S1792x1536, .f32⟩
  | 56 => ⟨S1792x1536, .f32⟩
  | 57 => ⟨S_, .f32⟩
  | 58 => ⟨S1536, .f32⟩
  | 59 => ⟨S1x1536, .f32⟩
  | 60 => ⟨S_, .f32⟩
  | 61 => ⟨S1x1536, .f32⟩
  | 62 => ⟨S1x1536, .f32⟩
  | 63 => ⟨S1x1536, .f32⟩
  | 64 => ⟨S_, .f32⟩
  | 65 => ⟨S_, .f32⟩
  | 66 => ⟨S1x1536, .f32⟩
  | 67 => ⟨S1x1536, .f32⟩
  | 68 => ⟨S1x1536, .f32⟩
  | 69 => ⟨S_, .f32⟩
  | 70 => ⟨S1x1536, .f32⟩
  | 71 => ⟨S1x1536, .f32⟩
  | 72 => ⟨S_, .f32⟩
  | 73 => ⟨S1x1536, .f32⟩
  | 74 => ⟨S1x1536, .i1⟩
  | 75 => ⟨S_, .f32⟩
  | 76 => ⟨S_, .f32⟩
  | 77 => ⟨S1x1536, .f32⟩
  | 78 => ⟨S1x1536, .f32⟩
  | 79 => ⟨S_, .f32⟩
  | 80 => ⟨S1x1536, .f32⟩
  | 81 => ⟨S1x1536, .f32⟩
  | 82 => ⟨S1x1536, .f32⟩
  | 83 => ⟨S_, .f32⟩
  | 84 => ⟨S1x1536, .f32⟩
  | 85 => ⟨S1x1536, .f32⟩
  | 86 => ⟨S1792x1536, .f32⟩
  | 87 => ⟨S1792x1536, .f32⟩
  | 88 => ⟨S_, .f32⟩
  | 89 => ⟨S_, .f32⟩
  | 90 => ⟨S_, .f32⟩
  | 91 => ⟨S1792x1536, .f32⟩
  | 92 => ⟨S1792x1536, .f32⟩
  | 93 => ⟨S_, .f32⟩
  | 94 => ⟨S1792x1536, .f32⟩
  | 95 => ⟨S1792x1536, .f32⟩
  | 96 => ⟨S8960x1, .f32⟩
  | 97 => ⟨S1792x1536, .bf16⟩
  | 98 => ⟨S8960x1536, .f32⟩
  | 99 => ⟨S1792x8960, .fp8e4m3⟩
  | 100 => ⟨S1792x1, .f32⟩
  | 101 => ⟨S8960x1536, .fp8e4m3⟩
  | 102 => ⟨S1x1536, .f32⟩
  | 103 => ⟨S1792x8960, .fp8e4m3⟩
  | 104 => ⟨S1x8960, .f32⟩
  | 105 => ⟨S1792x1536, .fp8e4m3⟩
  | 106 => ⟨S1x1536, .f32⟩
  | _ => ⟨S2x896x1536, .bf16⟩

abbrev hbmTy (i : Nat) : BufTy := match i / 128 with
  | 0 => hbmTy0_0 i
  | 1 => hbmTy0_1 i
  | _ => ⟨S2x896x1536, .bf16⟩

abbrev bufTy : (tb : Table) → Fin (tcTables nBuf tb) → BufTy
  | .hbm, ⟨i, _⟩ => hbmTy i
  | .local _ .vmem, ⟨0, _⟩ => ⟨S1792x8960, .f32⟩
  | .local _ .vmem, ⟨1, _⟩ => ⟨S1792x1, .f32⟩
  | .local _ .vmem, ⟨2, _⟩ => ⟨S8960x1536, .f32⟩
  | .local _ .vmem, ⟨3, _⟩ => ⟨S1x1536, .f32⟩
  | .local _ .vmem, ⟨4, _⟩ => ⟨S1792x8960, .f32⟩
  | .local _ .vmem, ⟨5, _⟩ => ⟨S1x8960, .f32⟩
  | .local _ .vmem, ⟨6, _⟩ => ⟨S1792x1536, .f32⟩
  | .local _ .vmem, ⟨7, _⟩ => ⟨S1x1536, .f32⟩
  | .local _ .vmem, ⟨8, _⟩ => ⟨S8960x1, .f32⟩
  | .local _ .vmem, ⟨9, _⟩ => ⟨S1792x1536, .bf16⟩
  | .local _ .vmem, ⟨10, _⟩ => ⟨S8960x1536, .f32⟩
  | .local _ .vmem, ⟨11, _⟩ => ⟨S1792x8960, .fp8e4m3⟩
  | .local _ .vmem, ⟨12, _⟩ => ⟨S1792x1, .f32⟩
  | .local _ .vmem, ⟨13, _⟩ => ⟨S8960x1536, .fp8e4m3⟩
  | .local _ .vmem, ⟨14, _⟩ => ⟨S1x1536, .f32⟩
  | .local _ .vmem, ⟨15, _⟩ => ⟨S1792x8960, .fp8e4m3⟩
  | .local _ .vmem, ⟨16, _⟩ => ⟨S1x8960, .f32⟩
  | .local _ .vmem, ⟨17, _⟩ => ⟨S1792x1536, .fp8e4m3⟩
  | .local _ .vmem, ⟨18, _⟩ => ⟨S1x1536, .f32⟩
  | _, _ => ⟨S2x896x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_call2_v0 : Ref sig .tc := ⟨.hbm, 63, rfl⟩
abbrev main_call2_v1 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_14 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_15 : Ref sig .tc := ⟨.hbm, 75, rfl⟩
abbrev main_cst_16 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_17 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_18 : Ref sig .tc := ⟨.hbm, 91, rfl⟩
abbrev main_v57 : Ref sig .tc := ⟨.hbm, 92, rfl⟩
abbrev main_v58 : Ref sig .tc := ⟨.hbm, 93, rfl⟩
abbrev main_cst_19 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_20 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_21 : Ref sig .tc := ⟨.hbm, 103, rfl⟩
abbrev main_v66 : Ref sig .tc := ⟨.hbm, 104, rfl⟩
abbrev main_v67 : Ref sig .tc := ⟨.hbm, 105, rfl⟩
abbrev main_cst_22 : Ref sig .tc := ⟨.hbm, 106, rfl⟩
abbrev main_v68 : Ref sig .tc := ⟨.hbm, 107, rfl⟩
abbrev main_v69 : Ref sig .tc := ⟨.hbm, 108, rfl⟩
abbrev main_cst_23 : Ref sig .tc := ⟨.hbm, 109, rfl⟩
abbrev main_call4_v0 : Ref sig .tc := ⟨.hbm, 110, rfl⟩
abbrev main_call4_v1 : Ref sig .tc := ⟨.hbm, 111, rfl⟩
abbrev main_v70 : Ref sig .tc := ⟨.hbm, 112, rfl⟩
abbrev main_cst_24 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_25 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_26 : Ref sig .tc := ⟨.hbm, 122, rfl⟩
abbrev main_cst_27 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_28 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_29 : Ref sig .tc := ⟨.hbm, 138, rfl⟩
abbrev main_v86 : Ref sig .tc := ⟨.hbm, 139, rfl⟩
abbrev main_v87 : Ref sig .tc := ⟨.hbm, 140, rfl⟩
abbrev main_cst_30 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_31 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_32 : Ref sig .tc := ⟨.hbm, 150, rfl⟩
abbrev main_v95 : Ref sig .tc := ⟨.hbm, 151, rfl⟩
abbrev main_v96 : Ref sig .tc := ⟨.hbm, 152, rfl⟩
abbrev main_cst_33 : Ref sig .tc := ⟨.hbm, 153, rfl⟩
abbrev main_v97 : Ref sig .tc := ⟨.hbm, 154, rfl⟩
abbrev main_v98 : Ref sig .tc := ⟨.hbm, 155, rfl⟩
abbrev main_cst_34 : Ref sig .tc := ⟨.hbm, 156, rfl⟩
abbrev main_call6_v0 : Ref sig .tc := ⟨.hbm, 157, rfl⟩
abbrev main_call6_v1 : Ref sig .tc := ⟨.hbm, 158, rfl⟩
abbrev main_v99 : Ref sig .tc := ⟨.hbm, 159, rfl⟩
abbrev main_cst_35 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_36 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_37 : Ref sig .tc := ⟨.hbm, 169, rfl⟩
abbrev main_cst_38 : Ref sig .tc := ⟨.hbm, 170, rfl⟩
abbrev main_call7_v0 : Ref sig .tc := ⟨.hbm, 171, rfl⟩
abbrev main_call7_v1 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_cst_39 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_cst_40 : Ref sig .tc := ⟨.hbm, 185, rfl⟩
abbrev main_v115 : Ref sig .tc := ⟨.hbm, 186, rfl⟩
abbrev main_v116 : Ref sig .tc := ⟨.hbm, 187, rfl⟩
abbrev main_cst_41 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_cst_42 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_43 : Ref sig .tc := ⟨.hbm, 197, rfl⟩
abbrev main_v124 : Ref sig .tc := ⟨.hbm, 198, rfl⟩
abbrev main_v125 : Ref sig .tc := ⟨.hbm, 199, rfl⟩
abbrev main_cst_44 : Ref sig .tc := ⟨.hbm, 200, rfl⟩
abbrev main_v126 : Ref sig .tc := ⟨.hbm, 201, rfl⟩
abbrev main_v127 : Ref sig .tc := ⟨.hbm, 202, rfl⟩
abbrev main_cst_45 : Ref sig .tc := ⟨.hbm, 203, rfl⟩
abbrev main_call8_v0 : Ref sig .tc := ⟨.hbm, 204, rfl⟩
abbrev main_call8_v1 : Ref sig .tc := ⟨.hbm, 205, rfl⟩
abbrev main_v128 : Ref sig .tc := ⟨.hbm, 206, rfl⟩
abbrev main_cst_46 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_cst_47 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_cst_48 : Ref sig .tc := ⟨.hbm, 216, rfl⟩
abbrev main_cst_49 : Ref sig .tc := ⟨.hbm, 217, rfl⟩
abbrev main_call9_v0 : Ref sig .tc := ⟨.hbm, 218, rfl⟩
abbrev main_call9_v1 : Ref sig .tc := ⟨.hbm, 219, rfl⟩
abbrev main_call9_v2 : Ref sig .tc := ⟨.hbm, 220, rfl⟩
abbrev main_call9_v3 : Ref sig .tc := ⟨.hbm, 221, rfl⟩
abbrev main_call9_v4 : Ref sig .tc := ⟨.hbm, 222, rfl⟩
abbrev main_v136 : Ref sig .tc := ⟨.hbm, 223, rfl⟩
abbrev main_v137 : Ref sig .tc := ⟨.hbm, 224, rfl⟩
abbrev main_v138_0 : Ref sig .tc := ⟨.hbm, 225, rfl⟩
abbrev main_v138_1 : Ref sig .tc := ⟨.hbm, 226, rfl⟩
abbrev main_v138_2 : Ref sig .tc := ⟨.hbm, 227, rfl⟩
abbrev main_v138_3 : Ref sig .tc := ⟨.hbm, 228, rfl⟩
abbrev main_v138_4 : Ref sig .tc := ⟨.hbm, 229, rfl⟩
abbrev main_v138_5 : Ref sig .tc := ⟨.hbm, 230, rfl⟩
abbrev main_v138_6 : Ref sig .tc := ⟨.hbm, 231, rfl⟩
abbrev main_v138_7 : Ref sig .tc := ⟨.hbm, 232, rfl⟩
abbrev main_v138_8 : Ref sig .tc := ⟨.hbm, 233, rfl⟩
abbrev main_v138_9 : Ref sig .tc := ⟨.hbm, 234, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S1792x8960 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x8960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8960x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1792x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8960x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1792x8960 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1792x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8960x1536 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1792x8960 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8960 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1792x1536 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.Scale.lean ====
/- The power-of-two scale of a quantiser, as the kernel finds it (the exponent field of a float32) and as the reference states it
   (the floor of a logarithm), on the extended reals. Nothing here speaks of a program. -/
module

public import Idealize.ShloMosaic.PureOps.Ideal.Laws

@[expose] public section

set_option maxRecDepth 16384

noncomputable section

namespace Cert.Scale

open Idealize.ShloMosaic

/-- The number whose float32 pattern has exponent field `k` and nothing else. -/
def fieldVal (k : ℕ) : EReal := Ideal.ofBits .f32 (BitVec.ofNat 32 k <<< (23 : ℕ))

/-- The three fields of the pattern `k << 23`. -/
theorem field_parts : ∀ k : Fin 256, ((BitVec.ofNat 32 k.val <<< (23 : ℕ)).extractLsb' 23 8).toNat = k.val
    ∧ ((BitVec.ofNat 32 k.val <<< (23 : ℕ)).extractLsb' 0 23).toNat = 0
    ∧ ((BitVec.ofNat 32 k.val <<< (23 : ℕ)).extractLsb' 31 1 == 1#1) = false := by decide +kernel

/-- A positive float32 pattern with an empty significand, by its exponent field. -/
theorem ieee_plain (b : BitVec 32) (k : ℕ) (e1 : (b.extractLsb' 23 8).toNat = k) (e2 : (b.extractLsb' 0 23).toNat = 0)
    (e3 : (b.extractLsb' 31 1 == 1#1) = false) :
    Ideal.ieee 8 23 b = if k = 255 then ⊤ else if k = 0 then 0 else (((2 : ℝ) ^ ((k : ℤ) - 127) : ℝ) : EReal) := by
  unfold Ideal.ieee
  simp only [Nat.reduceAdd, e1, e2, e3, Nat.reducePow, Nat.reduceSub]
  by_cases h : k = 255
  · rw [if_pos h, if_pos h]; simp
  · rw [if_neg h, if_neg h]
    by_cases h' : k = 0
    · rw [if_pos h', if_pos h']; simp
    · rw [if_neg h', if_neg h']
      congr 1
      simp only [Bool.false_eq_true, if_false, one_mul, Nat.add_zero]
      rw [show ((8388608 : ℕ) : ℝ) = (2 : ℝ) ^ (23 : ℤ) by norm_num, ← zpow_add₀ (by norm_num : (2 : ℝ) ≠ 0)]
      congr 1
      push_cast
      ring

/-- The value of field `k`. -/
theorem fieldVal_eq (k : ℕ) (h : k < 256) :
    fieldVal k = if k = 255 then ⊤ else if k = 0 then 0 else (((2 : ℝ) ^ ((k : ℤ) - 127) : ℝ) : EReal) :=
  have hp := field_parts ⟨k, h⟩
  ieee_plain _ k hp.1 hp.2.1 hp.2.2

/-- Field 0 is zero. -/
theorem fieldVal_zero : fieldVal 0 = 0 := by
  rw [fieldVal_eq 0 (by omega), if_neg (by omega), if_pos rfl]

/-- A normal field `k` is `2 ^ (k - 127)`. -/
theorem fieldVal_normal (k : ℕ) (h1 : 1 ≤ k) (h2 : k ≤ 254) : fieldVal k = (((2 : ℝ) ^ ((k : ℤ) - 127) : ℝ) : EReal) := by
  rw [fieldVal_eq k (by omega), if_neg (by omega), if_neg (by omega)]

/-- Field 255 is infinite. -/
theorem fieldVal_top : fieldVal 255 = ⊤ := by
  rw [fieldVal_eq 255 (by omega), if_pos rfl]

open Classical in
/-- The exponent field of `x`: the largest `k` up to 255 whose number `x` reaches. -/
def expField (x : EReal) : ℕ := Nat.findGreatest (fun k => fieldVal k ≤ x) 255

/-- The scale the kernel stores: one field above `x`'s, or one. -/
def kScale (x : EReal) : EReal := fieldVal (if expField x = 0 then 127 else expField x + 1)

/-- The inverse scale the kernel multiplies by. -/
def kInv (x : EReal) : EReal := fieldVal (if expField x = 0 then 127 else 253 - expField x)

/-- The exponent the reference states: the floor of the base-two logarithm plus one, zero below the least normal number. -/
def refExp (x : EReal) : EReal :=
  if x < Ideal.ofBits .f32 0x00800000#32 then Ideal.ofBits .f32 0x00000000#32
  else Ideal.liftRound Int.floor (Ideal.div (Ideal.log x) (Ideal.log (Ideal.ofBits .f32 0x40000000#32)))
    + Ideal.ofBits .f32 0x3F800000#32

theorem ofBits_two : Ideal.ofBits .f32 0x40000000#32 = ((2 : ℝ) : EReal) := by
  have := fieldVal_normal 128 (by omega) (by omega)
  rw [show ((2 : ℝ) ^ (((128 : ℕ) : ℤ) - 127)) = 2 by norm_num] at this
  exact this

theorem ofBits_one : Ideal.ofBits .f32 0x3F800000#32 = ((1 : ℝ) : EReal) := by
  have := fieldVal_normal 127 (by omega) (by omega)
  rw [show ((2 : ℝ) ^ (((127 : ℕ) : ℤ) - 127)) = 1 by norm_num] at this
  exact this

theorem ofBits_tiny : Ideal.ofBits .f32 0x00800000#32 = (((2 : ℝ) ^ (-126 : ℤ) : ℝ) : EReal) := by
  have := fieldVal_normal 1 (by omega) (by omega)
  rw [show (((1 : ℕ) : ℤ) - 127) = -126 by norm_num] at this
  exact this

/-- Two to a real integer. -/
theorem pow_two_int (n : ℤ) : Ideal.pow (Ideal.ofBits .f32 0x40000000#32) (((n : ℝ)) : EReal) = (((2 : ℝ) ^ n : ℝ) : EReal) := by
  rw [ofBits_two]
  show ((Real.rpow 2 (n : ℝ) : ℝ) : EReal) = _
  congr 1
  exact Real.rpow_intCast 2 n

/-- Below the least normal number no field is reached. -/
theorem expField_small (x : ℝ) (h0 : 0 ≤ x) (h : x < (2 : ℝ) ^ (-126 : ℤ)) : expField (x : EReal) = 0 := by
  classical
  unfold expField
  rw [Nat.findGreatest_eq_zero_iff]
  intro k hk hk' hle
  rcases Nat.lt_or_ge k 255 with hlt | hge
  · rw [fieldVal_normal k (by omega) (by omega)] at hle
    have h1 : (2 : ℝ) ^ ((k : ℤ) - 127) ≤ x := by exact_mod_cast hle
    have h2 : (2 : ℝ) ^ (-126 : ℤ) ≤ (2 : ℝ) ^ ((k : ℤ) - 127) := zpow_le_zpow_right₀ (by norm_num) (by omega)
    linarith
  · obtain rfl : k = 255 := by omega
    rw [fieldVal_top] at hle
    exact absurd hle (by simp)

/-- Between two consecutive powers of two the field is the lower one's. -/
theorem expField_normal (x : ℝ) (n : ℤ) (hn : -126 ≤ n) (hn' : n ≤ 127) (h1 : (2 : ℝ) ^ n ≤ x) (h2 : x < (2 : ℝ) ^ (n + 1)) :
    expField (x : EReal) = (n + 127).toNat := by
  classical
  unfold expField
  rw [Nat.findGreatest_eq_iff]
  refine ⟨by omega, fun _ => ?_, fun k hk hk' hle => ?_⟩
  · rw [fieldVal_normal _ (by omega) (by omega)]
    rw [show (((n + 127).toNat : ℤ) - 127) = n by omega]
    exact_mod_cast h1
  · rcases Nat.lt_or_ge k 255 with hlt | hge
    · rw [fieldVal_normal k (by omega) (by omega)] at hle
      have h3 : (2 : ℝ) ^ ((k : ℤ) - 127) ≤ x := by exact_mod_cast hle
      have h4 : (2 : ℝ) ^ (n + 1) ≤ (2 : ℝ) ^ ((k : ℤ) - 127) := zpow_le_zpow_right₀ (by norm_num) (by omega)
      linarith
    · obtain rfl : k = 255 := by omega
      rw [fieldVal_top] at hle
      exact absurd hle (by simp)

/-- The reference's exponent is an integer, and the kernel's two fields are two to it and to its negative. -/
theorem scale_cases (x : ℝ) (h0 : 0 ≤ x) (h : x < (2 : ℝ) ^ (126 : ℤ)) :
    ∃ n : ℤ, refExp (x : EReal) = ((n : ℝ) : EReal) ∧ kScale (x : EReal) = (((2 : ℝ) ^ n : ℝ) : EReal)
      ∧ kInv (x : EReal) = (((2 : ℝ) ^ (-n) : ℝ) : EReal) := by
  by_cases hs : x < (2 : ℝ) ^ (-126 : ℤ)
  · refine ⟨0, ?_, ?_, ?_⟩
    · unfold refExp
      rw [ofBits_tiny, if_pos (by exact_mod_cast hs), Ideal.ofBits_zero_f32]
      simp
    · unfold kScale
      rw [expField_small x h0 hs, if_pos rfl, fieldVal_normal 127 (by omega) (by omega)]
      norm_num
    · unfold kInv
      rw [expField_small x h0 hs, if_pos rfl, fieldVal_normal 127 (by omega) (by omega)]
      norm_num
  · have hs' : (2 : ℝ) ^ (-126 : ℤ) ≤ x := not_lt.mp hs
    have hx : 0 < x := lt_of_lt_of_le (by positivity) hs'
    obtain ⟨n, e1, e2⟩ := exists_mem_Ico_zpow hx (by norm_num : (1 : ℝ) < 2)
    have b1 : -126 ≤ n := by
      have := lt_of_le_of_lt hs' e2
      have := (zpow_lt_zpow_iff_right₀ (by norm_num : (1 : ℝ) < 2)).mp this
      omega
    have b2 : n < 126 := by
      have := lt_of_le_of_lt e1 h
      exact (zpow_lt_zpow_iff_right₀ (by norm_num : (1 : ℝ) < 2)).mp this
    have ef := expField_normal x n b1 (by omega) e1 e2
    have en : expField (x : EReal) ≠ 0 := by omega
    refine ⟨n + 1, ?_, ?_, ?_⟩
    · unfold refExp
      rw [ofBits_tiny, if_neg (by exact_mod_cast hs), ofBits_two, ofBits_one]
      have l1 : Ideal.log (x : EReal) = ((Real.log x : ℝ) : EReal) := by
        show (if x ≤ 0 then (⊥ : EReal) else ((Real.log x : ℝ) : EReal)) = _
        rw [if_neg (not_le.mpr hx)]
      have l2 : Ideal.log ((2 : ℝ) : EReal) = ((Real.log 2 : ℝ) : EReal) := by
        show (if (2 : ℝ) ≤ 0 then (⊥ : EReal) else ((Real.log 2 : ℝ) : EReal)) = _
        rw [if_neg (by norm_num)]
      rw [l1, l2, Ideal.div_coe (Real.log_pos (by norm_num)).ne', ← EReal.coe_mul]
      have l3 : ⌊Real.log x * (1 / Real.log 2)⌋ = n := by
        have p2 : 0 < Real.log 2 := Real.log_pos (by norm_num)
        rw [mul_one_div, Int.floor_eq_iff, le_div_iff₀ p2, div_lt_iff₀ p2]
        constructor
        · rw [← Real.log_zpow]
          exact Real.log_le_log (by positivity) e1
        · rw [show (n : ℝ) + 1 = ((n + 1 : ℤ) : ℝ) by push_cast; rfl, ← Real.log_zpow]
          exact Real.log_lt_log hx e2
      show (((⌊Real.log x * (1 / Real.log 2)⌋ : ℤ) : ℝ) : EReal) + _ = _
      rw [l3, ← EReal.coe_add]
      push_cast
      rfl
    · unfold kScale
      rw [if_neg en, ef, fieldVal_normal _ (by omega) (by omega)]
      congr 2
      omega
    · unfold kInv
      rw [if_neg en, ef, fieldVal_normal _ (by omega) (by omega)]
      congr 2
      omega

/-- The stored scale is two to the reference's exponent. -/
theorem kScale_eq (x : ℝ) (h0 : 0 ≤ x) (h : x < (2 : ℝ) ^ (126 : ℤ)) :
    kScale (x : EReal) = Ideal.pow (Ideal.ofBits .f32 0x40000000#32) (refExp (x : EReal)) := by
  obtain ⟨n, e1, e2, -⟩ := scale_cases x h0 h
  rw [e1, e2, pow_two_int]

/-- The inverse scale is two to the negative of the reference's exponent. -/
theorem kInv_eq (x : ℝ) (h0 : 0 ≤ x) (h : x < (2 : ℝ) ^ (126 : ℤ)) :
    kInv (x : EReal) = Ideal.pow (Ideal.ofBits .f32 0x40000000#32) (-refExp (x : EReal)) := by
  obtain ⟨n, e1, -, e3⟩ := scale_cases x h0 h
  rw [e1, e3, ← EReal.coe_neg, ← Int.cast_neg, pow_two_int]

/-- The exponent field is at most 255. -/
theorem expField_le (x : EReal) : expField x ≤ 255 := by
  classical
  exact Nat.findGreatest_le 255

/-- A nonnegative number reaches the value of its own field. -/
theorem expField_reached (x : EReal) (h0 : 0 ≤ x) : fieldVal (expField x) ≤ x := by
  classical
  unfold expField
  exact Nat.findGreatest_spec (P := fun k => fieldVal k ≤ x) (m := 0) (Nat.zero_le _) (by rw [fieldVal_zero]; exact h0)

theorem toInt_maxsi (a b : BitVec 32) : (IntOp.maxsi a b).toInt = max a.toInt b.toInt := by
  unfold IntOp.maxsi
  by_cases h : b.slt a = true
  · rw [if_pos h]
    rw [BitVec.slt_iff_toInt_lt] at h
    omega
  · rw [if_neg h]
    rw [BitVec.slt_iff_toInt_lt] at h
    omega

theorem toInt_small : ∀ k : Fin 256, (BitVec.ofNat 32 k.val).toInt = k.val := by decide +kernel

open Classical in
/-- The signed maximum over the 256 fields, of the fields `x` reaches, is the exponent field. -/
theorem fold_maxsi (x : EReal) (h0 : 0 ≤ x) (f : Fin 256 → BitVec 32)
    (hf : ∀ k, f k = if fieldVal k.val ≤ x then BitVec.ofNat 32 k.val else 0#32) :
    (Finset.univ : Finset (Fin 256)).fold IntOp.maxsi 2147483648#32 f = BitVec.ofNat 32 (expField x) := by
  apply BitVec.eq_of_toInt_eq
  have hm := expField_le x
  rw [toInt_small ⟨expField x, by omega⟩]
  rw [← Finset.fold_hom (op' := (max : ℤ → ℤ → ℤ)) (m := BitVec.toInt) toInt_maxsi]
  have hP : ∀ k : Fin 256, (f k).toInt = if fieldVal k.val ≤ x then (k.val : ℤ) else 0 := by
    intro k
    rw [hf]
    split
    · exact toInt_small k
    · rfl
  apply le_antisymm
  · rw [Finset.fold_max_le]
    refine ⟨?_, fun k _ => ?_⟩
    · have : (2147483648#32 : BitVec 32).toInt = -2147483648 := by decide
      rw [this]
      omega
    · rw [hP]
      split
      · rename_i h
        have : k.val ≤ expField x := Nat.le_findGreatest (by omega) h
        exact_mod_cast this
      · exact Int.natCast_nonneg _
  · rw [Finset.le_fold_max]
    right
    refine ⟨⟨expField x, by omega⟩, Finset.mem_univ _, ?_⟩
    rw [hP, if_pos (expField_reached x h0)]

end Cert.Scale

end

end
-- ==== Proof.Quant.lean ====
/- A quantiser over a family of numbers: the scale from the family's largest magnitude, the codes scaled and clipped. The kernel's way
   of writing it, the reference's way of writing it, and their equality for families of moderate size. Nothing here speaks of a program. -/
module

public import proofs.«01_k».proof.Proof.Scale

@[expose] public section

set_option maxRecDepth 16384

noncomputable section

namespace Cert.Quant

open Idealize.ShloMosaic Cert.Scale

/-- The float32 nearest 1/448. -/
def c448 : EReal := Ideal.ofBits .f32 0x3B124925#32

/-- A normal positive float32 pattern. -/
theorem ieee_pos (b : BitVec 32) (k fr : ℕ) (e1 : (b.extractLsb' 23 8).toNat = k) (e2 : (b.extractLsb' 0 23).toNat = fr)
    (e3 : (b.extractLsb' 31 1 == 1#1) = false) (h1 : k ≠ 255) (h2 : k ≠ 0) :
    Ideal.ieee 8 23 b = (((8388608 + fr : ℕ) : ℝ) * (2 : ℝ) ^ ((k : ℤ) - 150) : ℝ) := by
  unfold Ideal.ieee
  simp only [Nat.reduceAdd, e1, e2, e3, Nat.reducePow, Nat.reduceSub]
  rw [if_neg h1, if_neg h2]
  congr 1
  simp only [Bool.false_eq_true, if_false, one_mul]
  congr 2
  push_cast
  ring

theorem c448_coe : c448 = ((9586981 * (2 : ℝ) ^ (-32 : ℤ) : ℝ) : EReal) := by
  have h := ieee_pos 0x3B124925#32 118 1198373 (by decide) (by decide) (by decide) (by decide) (by decide)
  norm_num at h
  refine Eq.trans (show c448 = _ from h) ?_
  norm_num

/-- The token rotation's factor, the float32 nearest 1/√128. -/
def hTok : EReal := Ideal.ofBits .f32 0x3DB504F3#32

/-- The output rotation's factor, 1/16. -/
def hOut : EReal := Ideal.ofBits .f32 0x3D800000#32

theorem hTok_coe : hTok = ((11863283 * (2 : ℝ) ^ (-27 : ℤ) : ℝ) : EReal) := by
  have h := ieee_pos 0x3DB504F3#32 123 3474675 (by decide) (by decide) (by decide) (by decide) (by decide)
  norm_num at h
  refine Eq.trans (show hTok = _ from h) ?_
  norm_num

theorem hOut_coe : hOut = (((2 : ℝ) ^ (-4 : ℤ) : ℝ) : EReal) :=
  fieldVal_normal 123 (by omega) (by omega)

/-- A factor a rotation may carry: a real number above zero and at most 1/8. -/
def Factor (h : EReal) : Prop := ∃ r : ℝ, h = (r : EReal) ∧ 0 < r ∧ r ≤ 1 / 8

theorem factor_hTok : Factor hTok := ⟨_, hTok_coe, by norm_num, by norm_num⟩
theorem factor_hOut : Factor hOut := ⟨_, hOut_coe, by norm_num, by norm_num⟩

variable {ι : Type} (h : EReal) (g : ι → EReal)

/-- The largest magnitude of a family. -/
def amax (g : ι → EReal) : EReal := ⨆ i, max (g i) (-g i)

/-- The quotient whose power of two is taken: the largest magnitude, times the rotation's factor, over 448. -/
def quot : EReal := amax g * h * c448

/-- The scale of the family. -/
def scale : EReal := kScale (quot h g)

/-- The code of one number `v` of the family. -/
def code (v : EReal) : EReal :=
  min (Ideal.ofBits .f32 0x43E00000#32) (max (Ideal.ofBits .f32 0xC3E00000#32) (v * (kInv (quot h g) * h)))

theorem amax_le_iff (b : EReal) : amax g ≤ b ↔ ∀ i, max (g i) (-g i) ≤ b := iSup_le_iff

/-- A value with the upper bounds of the family's magnitudes is the largest magnitude. -/
theorem eq_amax (a : EReal) (ha : ∀ b, a ≤ b ↔ ∀ i, max (g i) (-g i) ≤ b) : a = amax g :=
  eq_of_forall_ge_iff fun b => (ha b).trans (amax_le_iff g b).symm

theorem abs_nonneg' (x : EReal) : 0 ≤ max x (-x) := by
  rcases le_total 0 x with hx | hx
  · exact le_max_of_le_left hx
  · exact le_max_of_le_right (by rw [← neg_zero]; exact EReal.neg_le_neg_iff.mpr hx)

/-- As `eq_amax`, where the value was started at zero. -/
theorem eq_amax_zero [Nonempty ι] (a : EReal) (ha : ∀ b, a ≤ b ↔ 0 ≤ b ∧ ∀ i, max (g i) (-g i) ≤ b) : a = amax g :=
  eq_amax g a fun b => (ha b).trans ⟨fun hb => hb.2, fun hb =>
    ⟨(abs_nonneg' (g (Classical.arbitrary ι))).trans (hb _), hb⟩⟩

theorem amax_nonneg [Nonempty ι] : 0 ≤ amax g :=
  (abs_nonneg' (g (Classical.arbitrary ι))).trans ((amax_le_iff g _).mp le_rfl _)

/-- The magnitude of a product with a nonnegative factor. -/
theorem abs_mul (hh : Factor h) (x : EReal) : max (x * h) (-(x * h)) = max x (-x) * h := by
  obtain ⟨r, rfl, hr, -⟩ := hh
  have hm : Monotone fun y : EReal => y * (r : EReal) := fun a b hab =>
    mul_le_mul_of_nonneg_right hab (by exact_mod_cast hr.le)
  rw [← EReal.neg_mul]
  exact (hm.map_max).symm

/-- The largest magnitude of the family times a factor. -/
theorem amax_mul (hh : Factor h) : amax (fun i => g i * h) = amax g * h := by
  symm
  apply eq_amax
  intro b
  have hh' := hh
  obtain ⟨r, hr0, hr, -⟩ := hh
  have p1 : (0 : EReal) < h := by rw [hr0]; exact_mod_cast hr
  have p2 : h ≠ ⊤ := by rw [hr0]; exact EReal.coe_ne_top r
  rw [← EReal.le_div_iff_mul_le p1 p2, amax_le_iff]
  refine forall_congr' fun i => ?_
  rw [abs_mul h hh', EReal.le_div_iff_mul_le p1 p2]

/-- The size every family here stays within. -/
def Bounded (g : ι → EReal) : Prop := ∀ i, max (g i) (-g i) ≤ (((2 : ℝ) ^ (136 : ℤ) : ℝ) : EReal)

/-- The quotient of a bounded family is a real number below `2 ^ 126`. -/
theorem quot_real [Nonempty ι] (hh : Factor h) (hb : Bounded g) :
    ∃ x : ℝ, quot h g = (x : EReal) ∧ 0 ≤ x ∧ x < (2 : ℝ) ^ (126 : ℤ) := by
  obtain ⟨r, rfl, hr, hr'⟩ := hh
  have h1 : amax g ≤ _ := (amax_le_iff g _).mpr hb
  have h0 := amax_nonneg g
  lift amax g to ℝ using ⟨fun e => by rw [e] at h1; exact absurd (top_le_iff.mp h1) (EReal.coe_ne_top _), fun e => by rw [e] at h0; exact absurd h0 (by simp)⟩ with a ha
  have h1' : a ≤ (2 : ℝ) ^ (136 : ℤ) := by exact_mod_cast h1
  have h0' : 0 ≤ a := by exact_mod_cast h0
  refine ⟨a * r * (9586981 * (2 : ℝ) ^ (-32 : ℤ)), ?_, by positivity, ?_⟩
  · unfold quot
    rw [← ha, c448_coe, EReal.coe_mul (a * r), EReal.coe_mul a]
  · have : a * r ≤ (2 : ℝ) ^ (136 : ℤ) * (1 / 8) := mul_le_mul h1' hr' hr.le (by positivity)
    calc a * r * (9586981 * (2 : ℝ) ^ (-32 : ℤ)) ≤ (2 : ℝ) ^ (136 : ℤ) * (1 / 8) * (9586981 * (2 : ℝ) ^ (-32 : ℤ)) :=
          mul_le_mul_of_nonneg_right this (by positivity)
      _ < (2 : ℝ) ^ (126 : ℤ) := by norm_num

/-- The quotient of a nonempty family is at least zero. -/
theorem quot_nonneg [Nonempty ι] (hh : Factor h) : 0 ≤ quot h g := by
  obtain ⟨r, rfl, hr, -⟩ := hh
  unfold quot
  have h0 := amax_nonneg g
  rw [c448_coe]
  exact mul_nonneg (mul_nonneg h0 (by exact_mod_cast hr.le)) (by exact_mod_cast (by norm_num : (0 : ℝ) ≤ 9586981 * 2 ^ (-32 : ℤ)))

/-- The reference's scale of the family with the factor multiplied in: two to the stated exponent. -/
theorem scale_eq_ref [Nonempty ι] (hh : Factor h) (hb : Bounded g) :
    scale h g = Ideal.pow (Ideal.ofBits .f32 0x40000000#32) (refExp (amax (fun i => g i * h) * c448)) := by
  obtain ⟨x, hx, h0, h1⟩ := quot_real h g hh hb
  rw [amax_mul h g hh, show amax g * h * c448 = quot h g from rfl]
  unfold scale
  rw [hx, kScale_eq x h0 h1]

/-- The reference's code of a number of that family. -/
theorem code_eq_ref [Nonempty ι] (hh : Factor h) (hb : Bounded g) (v : EReal) :
    code h g v = min (Ideal.ofBits .f32 0x43E00000#32) (max (Ideal.ofBits .f32 0xC3E00000#32)
      (v * h * Ideal.pow (Ideal.ofBits .f32 0x40000000#32) (-refExp (amax (fun i => g i * h) * c448)))) := by
  obtain ⟨x, hx, h0, h1⟩ := quot_real h g hh hb
  rw [amax_mul h g hh, show amax g * h * c448 = quot h g from rfl]
  unfold code
  rw [hx, kInv_eq x h0 h1, mul_comm (Ideal.pow _ _) h, mul_assoc]

/-- A finite bfloat16's size: the largest one is below `2 ^ 128`. -/
def Small (x : EReal) : Prop := max x (-x) ≤ (((2 : ℝ) ^ (128 : ℤ) : ℝ) : EReal)

/-- A sum of at most 256 small numbers, each with a sign or dropped, is bounded. -/
theorem bounded_sum (n : ℕ) (hn : n ≤ 256) (s x : Fin n → EReal) (hs : ∀ q, s q = 1 ∨ s q = -1 ∨ s q = 0) (hx : ∀ q, Small (x q)) :
    max (∑ q, s q * x q) (-∑ q, s q * x q) ≤ (((2 : ℝ) ^ (136 : ℤ) : ℝ) : EReal) := by
  have hreal : ∀ q, ∃ r : ℝ, s q * x q = (r : EReal) ∧ |r| ≤ (2 : ℝ) ^ (128 : ℤ) := by
    intro q
    have hq := hx q
    unfold Small at hq
    have a1 := (le_max_left _ _).trans hq
    have a2 := (le_max_right _ _).trans hq
    generalize x q = y at a1 a2 ⊢
    induction y with
    | bot => exact absurd (top_le_iff.mp (by simpa only [EReal.neg_bot] using a2)) (EReal.coe_ne_top _)
    | top => exact absurd (top_le_iff.mp a1) (EReal.coe_ne_top _)
    | coe y =>
      have b1 : y ≤ (2 : ℝ) ^ (128 : ℤ) := by exact_mod_cast a1
      have b2 : -y ≤ (2 : ℝ) ^ (128 : ℤ) := by exact_mod_cast a2
      rcases hs q with e | e | e
      · exact ⟨y, by rw [e, one_mul], abs_le.mpr ⟨by linarith, b1⟩⟩
      · exact ⟨-y, by rw [e, EReal.neg_mul, one_mul]; rfl, abs_le.mpr ⟨by linarith, by linarith⟩⟩
      · exact ⟨0, by rw [e, zero_mul]; rfl, by simp⟩
  choose r hr hb using hreal
  have hsum : ∑ q, s q * x q = ((∑ q, r q : ℝ) : EReal) := by
    rw [Finset.sum_congr rfl fun q _ => hr q]
    exact (map_sum (⟨⟨fun a : ℝ => (a : EReal), rfl⟩, EReal.coe_add⟩ : ℝ →+ EReal) r Finset.univ).symm
  have habs : |∑ q, r q| ≤ (2 : ℝ) ^ (136 : ℤ) := by
    refine (Finset.abs_sum_le_sum_abs _ _).trans ((Finset.sum_le_sum fun q _ => hb q).trans ?_)
    rw [Finset.sum_const, Finset.card_univ, Fintype.card_fin, nsmul_eq_mul]
    have : (n : ℝ) ≤ 256 := by exact_mod_cast hn
    calc (n : ℝ) * (2 : ℝ) ^ (128 : ℤ) ≤ 256 * (2 : ℝ) ^ (128 : ℤ) := mul_le_mul_of_nonneg_right this (by positivity)
      _ = (2 : ℝ) ^ (136 : ℤ) := by norm_num
  rw [hsum, ← EReal.coe_neg, max_le_iff]
  have := abs_le.mp habs
  exact ⟨by exact_mod_cast this.2, by exact_mod_cast (by linarith : -∑ q, r q ≤ (2 : ℝ) ^ (136 : ℤ))⟩

end Cert.Quant

end

end
-- ==== Proof.Finite.lean ====
/- What the precondition says of the arguments: every entry is at most the largest finite bfloat16 in size. -/
module

public import proofs.«01_k».proof.Proof.Quant
public import proofs.«01_k».proof.Pre_finite
public import Idealize.ShloMosaic.Lib.ReduceAll

@[expose] public section

noncomputable section

namespace Cert.Finite

open Idealize.ShloMosaic
open Cert.Quant Cert.Pre_finite

/-- The largest finite bfloat16 is below `2 ^ 128`. -/
theorem largest : Ideal.ofBits .bf16 0x7F7F#16 ≤ (((2 : ℝ) ^ (128 : ℤ) : ℝ) : EReal) := by
  simp [Ideal.ofBits, Ideal.ieee]
  norm_cast

/-- One comparison of the precondition, read back. -/
theorem small_of (x : EReal) (h : Ideal.cmp .ole (max x (-x)) (Ideal.ofBits .bf16 0x7F7F#16) = 1#1) : Small x := by
  refine le_trans ?_ largest
  by_contra hn
  have : Ideal.cmp .ole (max x (-x)) (Ideal.ofBits .bf16 0x7F7F#16) = 0#1 := by
    show BitVec.ofBool (decide _) = _
    rw [decide_eq_false hn]
    rfl
  rw [this] at h
  exact absurd h (by decide)

/-- A conjunction of bits that is one has both ones. -/
theorem and_one {a b : BitVec 1} (h : IntOp.andi a b = 1#1) : a = 1#1 ∧ b = 1#1 := by
  revert a b
  decide

instance : Subsingleton S_.Idx := ⟨fun a b => funext fun i => i.elim0⟩

variable [Facts] (x : FVec Ideal S2x896x1536 .bf16) (w : FVec Ideal S8960x1536 .bf16) (d : FVec Ideal S2x896x8960 .bf16)

/-- Under the precondition every entry of the three arguments is small. -/
theorem small (h : fn (F := Ideal) x w d = fun _ => 1#1) : (∀ y, Small (x y)) ∧ (∀ y, Small (w y)) ∧ ∀ y, Small (d y) := by
  have h0 := congrFun h (fun i => i.elim0)
  obtain ⟨h1, h2⟩ := and_one (a := _) (b := _) h0
  obtain ⟨h3, h4⟩ := and_one (a := _) (b := _) h1
  refine ⟨fun y => small_of _ ?_, fun y => small_of _ ?_, fun y => small_of _ ?_⟩
  · exact Host.reduce_andi_all _ _ _ _ _ h3 y
  · exact Host.reduce_andi_all _ _ _ _ _ h4 y
  · exact Host.reduce_andi_all _ _ _ _ _ h2 y

end Cert.Finite

end
end
-- ==== Proof.HostVals.lean ====
/- What the reference's host lines leave in the arrays its last step reads, as terms of the arguments: the two Sylvester tables, the four
   rotated arrays, and each one's scales and clamped quotients. -/
module

public import proofs.«01_k».proof.Proof.Gen.ReferenceIdeal.Frame
public import proofs.«01_k».proof.Proof.Quant
public import Idealize.ShloMosaic.Lib.StableHlo.RunRead

@[expose] public section

set_option maxRecDepth 16384

noncomputable section

namespace Cert.HostVals

open Idealize.ShloMosaic Idealize.ShloMosaic.TcCoe Idealize.ShloMosaic.Tactic
open Cert.ReferenceIdeal Cert.ReferenceIdeal.Gen

/-- A scalar constant in every entry of a shape. -/
def fill (T : Shape) (h : S_.BroadcastsInDim T ![]) (b : BitVec 32) : FVec Ideal T .f32 := broadcastInDim T ![] h (constant (F := Ideal) S_ .f32 b)

/-- Where two index arrays share an even number of bits. -/
def even (T : Shape) (h : S_.BroadcastsInDim T ![]) (i j : IVec T 32) : IVec T 1 :=
  cmpi .eq (andi (ctpop (andi i j)) (broadcastInDim T ![] h (constantI S_ 32 1#32))) (broadcastInDim T ![] h (constantI S_ 32 0#32))

/-- The parity table of a shape, from its two index arrays. -/
def table (T : Shape) (h : S_.BroadcastsInDim T ![]) (i j : IVec T 32) : FVec Ideal T .bf16 :=
  truncf .bf16 (select (even T h i j) (fill T h 0x3F800000#32) (fill T h 0xBF800000#32)) bitsLt_bf16_f32

/-- The 256-row table. -/
def table256 : FVec Ideal S256x256 .bf16 := table S256x256 bcast_S_S256x256 (iotaInDim S256x256 32 0) (iotaInDim S256x256 32 1)

/-- The 128-row table. -/
def table128 : FVec Ideal S128x128 .bf16 := table S128x128 bcast_S_S128x128 (iotaInDim S128x128 32 0) (iotaInDim S128x128 32 1)

/-- Where a quotient is below the least normal number. -/
def tiny (T : Shape) (h : S_.BroadcastsInDim T ![]) (q : FVec Ideal T .f32) : IVec T 1 := cmpf .olt q (fill T h 0x00800000#32)

/-- The floor of the base-two logarithm plus one. -/
def logs (T : Shape) (h : S_.BroadcastsInDim T ![]) (q : FVec Ideal T .f32) : FVec Ideal T .f32 :=
  addf (Host.floor (Host.divf (Host.log q) (broadcastInDim T ![] h (Host.log (constant (F := Ideal) S_ .f32 0x40000000#32))))) (fill T h 0x3F800000#32)

/-- The exponent of each quotient. -/
def exps (T : Shape) (h : S_.BroadcastsInDim T ![]) (q : FVec Ideal T .f32) : FVec Ideal T .f32 :=
  select (tiny T h q) (fill T h 0x00000000#32) (logs T h q)

/-- The scales of given exponents. -/
def pows (T : Shape) (h : S_.BroadcastsInDim T ![]) (e : FVec Ideal T .f32) : FVec Ideal T .f32 := Host.powf (fill T h 0x40000000#32) e

/-- The clamp to the codes' range. -/
def clamp (T : Shape) (h : S_.BroadcastsInDim T ![]) (x : FVec Ideal T .f32) : FVec Ideal T .f32 :=
  minimumf (fill T h 0x43E00000#32) (maximumf (fill T h 0xC3E00000#32) x)

/-- The quotient of each column: its largest magnitude over 448. -/
def colQuot (M n : ℕ) (hr : (⟨2, ![M, n]⟩ : Shape).ReducesTo [0] ⟨1, ![n]⟩) (h1 : (⟨1, ![n]⟩ : Shape).BroadcastsInDim ⟨2, ![1, n]⟩ ![1])
    (h : S_.BroadcastsInDim ⟨2, ![1, n]⟩ ![]) (x : FVec Ideal ⟨2, ![M, n]⟩ .f32) : FVec Ideal ⟨2, ![1, n]⟩ .f32 :=
  mulf (broadcastInDim ⟨2, ![1, n]⟩ ![1] h1 (Host.reduce FloatOps.maximumf (Host.absf x) (constant (F := Ideal) S_ .f32 0xFF800000#32) hr h_S_))
    (fill _ h 0x3B124925#32)

/-- The quotient of each row. -/
def rowQuot (m N : ℕ) (hr : (⟨2, ![m, N]⟩ : Shape).ReducesTo [1] ⟨1, ![m]⟩) (h1 : (⟨1, ![m]⟩ : Shape).BroadcastsInDim ⟨2, ![m, 1]⟩ ![0])
    (h : S_.BroadcastsInDim ⟨2, ![m, 1]⟩ ![]) (x : FVec Ideal ⟨2, ![m, N]⟩ .f32) : FVec Ideal ⟨2, ![m, 1]⟩ .f32 :=
  mulf (broadcastInDim ⟨2, ![m, 1]⟩ ![0] h1 (Host.reduce FloatOps.maximumf (Host.absf x) (constant (F := Ideal) S_ .f32 0xFF800000#32) hr h_S_))
    (fill _ h 0x3B124925#32)

/-- An array times inverse scales repeated over it. -/
def scaled (T U : Shape) (d : Fin U.rank → Fin T.rank) (hU : S_.BroadcastsInDim U ![]) (hd : U.BroadcastsInDim T d)
    (x : FVec Ideal T .f32) (e : FVec Ideal U .f32) : FVec Ideal T .f32 :=
  mulf x (broadcastInDim T d hd (pows U hU (Host.negf e)))

/-- The clamped quotients of an array by inverse scales repeated over it. -/
def coded (T U : Shape) (d : Fin U.rank → Fin T.rank) (hU : S_.BroadcastsInDim U ![]) (hT : S_.BroadcastsInDim T ![]) (hd : U.BroadcastsInDim T d)
    (x : FVec Ideal T .f32) (e : FVec Ideal U .f32) : FVec Ideal T .f32 :=
  clamp T hT (scaled T U d hU hd x e)

/-- The output gradient rotated over outputs, by a given table. -/
def rotDyoBy (h : FVec Ideal S256x256 .bf16) (x : FVec Ideal S1792x8960 .bf16) : FVec Ideal S1792x8960 .f32 :=
  shapeCast S1792x8960 (mulf (Host.dotGeneral dot_S1792x35x256_S256x256_S1792x35x256_2_0_01_1_n_n none (shapeCast S1792x35x256 x shapeCasts_S1792x8960_S1792x35x256) h)
    (fill S1792x35x256 bcast_S_S1792x35x256 0x3D800000#32)) shapeCasts_S1792x35x256_S1792x8960

/-- The output gradient rotated over outputs. -/
def rotDyo (x : FVec Ideal S1792x8960 .bf16) : FVec Ideal S1792x8960 .f32 := rotDyoBy table256 x

/-- The weights rotated over outputs, by a given table. -/
def rotWBy (h : FVec Ideal S256x256 .bf16) (x : FVec Ideal S8960x1536 .bf16) : FVec Ideal S8960x1536 .f32 :=
  shapeCast S8960x1536 (mulf (transpose S35x256x1536 [1, 0, 2] (Host.dotGeneral dot_S256x256_S35x256x1536_S256x35x1536_0_1_1_02_n_n none h (shapeCast S35x256x1536 x shapeCasts_S8960x1536_S35x256x1536)) transposes_S256x35x1536_S35x256x1536_1_0_2)
    (fill S35x256x1536 bcast_S_S35x256x1536 0x3D800000#32)) shapeCasts_S35x256x1536_S8960x1536

/-- The weights rotated over outputs. -/
def rotW (x : FVec Ideal S8960x1536 .bf16) : FVec Ideal S8960x1536 .f32 := rotWBy table256 x

/-- The output gradient rotated over tokens, by a given table. -/
def rotDytBy (h : FVec Ideal S128x128 .bf16) (x : FVec Ideal S1792x8960 .bf16) : FVec Ideal S1792x8960 .f32 :=
  shapeCast S1792x8960 (mulf (transpose S14x128x8960 [1, 0, 2] (Host.dotGeneral dot_S128x128_S14x128x8960_S128x14x8960_0_1_1_02_n_n none h (shapeCast S14x128x8960 x shapeCasts_S1792x8960_S14x128x8960)) transposes_S128x14x8960_S14x128x8960_1_0_2)
    (fill S14x128x8960 bcast_S_S14x128x8960 0x3DB504F3#32)) shapeCasts_S14x128x8960_S1792x8960

/-- The output gradient rotated over tokens. -/
def rotDyt (x : FVec Ideal S1792x8960 .bf16) : FVec Ideal S1792x8960 .f32 := rotDytBy table128 x

/-- The activations rotated over tokens, by a given table. -/
def rotXBy (h : FVec Ideal S128x128 .bf16) (x : FVec Ideal S1792x1536 .bf16) : FVec Ideal S1792x1536 .f32 :=
  shapeCast S1792x1536 (mulf (transpose S14x128x1536 [1, 0, 2] (Host.dotGeneral dot_S128x128_S14x128x1536_S128x14x1536_0_1_1_02_n_n none h (shapeCast S14x128x1536 x shapeCasts_S1792x1536_S14x128x1536)) transposes_S128x14x1536_S14x128x1536_1_0_2)
    (fill S14x128x1536 bcast_S_S14x128x1536 0x3DB504F3#32)) shapeCasts_S14x128x1536_S1792x1536

/-- The activations rotated over tokens. -/
def rotX (x : FVec Ideal S1792x1536 .bf16) : FVec Ideal S1792x1536 .f32 := rotXBy table128 x

/-- The quotients of the four rotated arrays. -/
def qDyo (x : FVec Ideal S1792x8960 .bf16) : FVec Ideal S1792x1 .f32 :=
  rowQuot 1792 8960 reducesTo_S1792x8960_S1792_d1 bcast_S1792_S1792x1_0 bcast_S_S1792x1 (rotDyo x)

@[inherit_doc qDyo]
def qW (x : FVec Ideal S8960x1536 .bf16) : FVec Ideal S1x1536 .f32 :=
  colQuot 8960 1536 reducesTo_S8960x1536_S1536_d0 bcast_S1536_S1x1536_1 bcast_S_S1x1536 (rotW x)

@[inherit_doc qDyo]
def qDyt (x : FVec Ideal S1792x8960 .bf16) : FVec Ideal S1x8960 .f32 :=
  colQuot 1792 8960 reducesTo_S1792x8960_S8960_d0 bcast_S8960_S1x8960_1 bcast_S_S1x8960 (rotDyt x)

@[inherit_doc qDyo]
def qX (x : FVec Ideal S1792x1536 .bf16) : FVec Ideal S1x1536 .f32 :=
  colQuot 1792 1536 reducesTo_S1792x1536_S1536_d0 bcast_S1536_S1x1536_1 bcast_S_S1x1536 (rotX x)

/-- The exponents of the four rotated arrays. -/
def eDyo (x : FVec Ideal S1792x8960 .bf16) : FVec Ideal S1792x1 .f32 :=
  exps S1792x1 bcast_S_S1792x1 (qDyo x)

@[inherit_doc eDyo]
def eW (x : FVec Ideal S8960x1536 .bf16) : FVec Ideal S1x1536 .f32 :=
  exps S1x1536 bcast_S_S1x1536 (qW x)

@[inherit_doc eDyo]
def eDyt (x : FVec Ideal S1792x8960 .bf16) : FVec Ideal S1x8960 .f32 :=
  exps S1x8960 bcast_S_S1x8960 (qDyt x)

@[inherit_doc eDyo]
def eX (x : FVec Ideal S1792x1536 .bf16) : FVec Ideal S1x1536 .f32 :=
  exps S1x1536 bcast_S_S1x1536 (qX x)

variable (m : (ℓ : Loc nD τ sig) → Buf (Elt Ideal) ℓ) (c : Dev nD)

/-- The activations with the tokens flattened. -/
def x0 : FVec Ideal S1792x1536 .bf16 := shapeCast S1792x1536 (m ((c : Thread nD τ).loc main_arg0)) shapeCasts_S2x896x1536_S1792x1536

/-- The weights. -/
def w0 : FVec Ideal S8960x1536 .bf16 := m ((c : Thread nD τ).loc main_arg1)

/-- The output gradient with the tokens flattened. -/
def dy0 : FVec Ideal S1792x8960 .bf16 := shapeCast S1792x8960 (m ((c : Thread nD τ).loc main_arg2)) shapeCasts_S2x896x8960_S1792x8960

/-! ## The host lines, one stretch after another -/

/-- The buffers after stretch 0. -/
def U0 : Valuation τ sig (Elt Ideal) := StableHlo.after hostOps0 (fun b => m (c, b))

/-- Stretch 0 leaves the buffers it does not write. -/
theorem keep0 {r : Ref sig .tc} (hr : r ∉ ([main_v0, main_v1, main_v2, main_v3, main_v4, main_v5, main_c, main_v6, main_v7, main_c_0, main_v8, main_v9, main_cst, main_cst_1] : List (Ref sig .tc))) :
    U0 m c (Proc.devRef .tc r) = (fun b => m (c, b)) (Proc.devRef .tc r) := StableHlo.after_unwritten _ rfl hr _

/-- The buffers after stretch 1. -/
def U1 : Valuation τ sig (Elt Ideal) := StableHlo.after hostOps0_1 (U0 m c)

/-- Stretch 1 leaves the buffers it does not write. -/
theorem keep1 {r : Ref sig .tc} (hr : r ∉ ([main_call0_v0, main_call0_v1, main_v10] : List (Ref sig .tc))) :
    U1 m c (Proc.devRef .tc r) = (U0 m c) (Proc.devRef .tc r) := StableHlo.after_unwritten _ rfl hr _

/-- The buffers after stretch 2. -/
def U2 : Valuation τ sig (Elt Ideal) := StableHlo.after hostOps0_2 (U1 m c)

/-- Stretch 2 leaves the buffers it does not write. -/
theorem keep2 {r : Ref sig .tc} (hr : r ∉ ([main_v11, main_v12, main_v13, main_v14, main_v15, main_c_2, main_v16, main_v17, main_c_3, main_v18, main_v19, main_cst_4, main_cst_5] : List (Ref sig .tc))) :
    U2 m c (Proc.devRef .tc r) = (U1 m c) (Proc.devRef .tc r) := StableHlo.after_unwritten _ rfl hr _

/-- The buffers after stretch 3. -/
def U3 : Valuation τ sig (Elt Ideal) := StableHlo.after hostOps0_3 (U2 m c)

/-- Stretch 3 leaves the buffers it does not write. -/
theorem keep3 {r : Ref sig .tc} (hr : r ∉ ([main_call1_v0, main_call1_v1, main_v20] : List (Ref sig .tc))) :
    U3 m c (Proc.devRef .tc r) = (U2 m c) (Proc.devRef .tc r) := StableHlo.after_unwritten _ rfl hr _

/-- The buffers after stretch 4. -/
def U4 : Valuation τ sig (Elt Ideal) := StableHlo.after hostOps0_4 (U3 m c)

/-- Stretch 4 leaves the buffers it does not write. -/
theorem keep4 {r : Ref sig .tc} (hr : r ∉ ([main_v21, main_v22, main_v23, main_cst_6, main_v24, main_v25, main_v26, main_v27, main_cst_7, main_v28, main_v29, main_cst_8, main_v30, main_v31, main_v32, main_cst_9, main_v33, main_v34, main_v35, main_v36, main_cst_10, main_v37, main_v38, main_cst_11, main_v39, main_v40, main_cst_12] : List (Ref sig .tc))) :
    U4 m c (Proc.devRef .tc r) = (U3 m c) (Proc.devRef .tc r) := StableHlo.after_unwritten _ rfl hr _

/-- The buffers after stretch 5. -/
def U5 : Valuation τ sig (Elt Ideal) := StableHlo.after hostOps0_5 (U4 m c)

/-- Stretch 5 leaves the buffers it does not write. -/
theorem keep5 {r : Ref sig .tc} (hr : r ∉ ([main_call2_v0, main_call2_v1, main_v41] : List (Ref sig .tc))) :
    U5 m c (Proc.devRef .tc r) = (U4 m c) (Proc.devRef .tc r) := StableHlo.after_unwritten _ rfl hr _

/-- The buffers after stretch 6. -/
def U6 : Valuation τ sig (Elt Ideal) := StableHlo.after hostOps0_6 (U5 m c)

/-- Stretch 6 leaves the buffers it does not write. -/
theorem keep6 {r : Ref sig .tc} (hr : r ∉ ([main_cst_13, main_v42, main_v43, main_v44, main_cst_14, main_v45, main_v46, main_v47, main_v48, main_cst_15, main_cst_16] : List (Ref sig .tc))) :
    U6 m c (Proc.devRef .tc r) = (U5 m c) (Proc.devRef .tc r) := StableHlo.after_unwritten _ rfl hr _

/-- The buffers after stretch 7. -/
def U7 : Valuation τ sig (Elt Ideal) := StableHlo.after hostOps0_7 (U6 m c)

/-- Stretch 7 leaves the buffers it does not write. -/
theorem keep7 {r : Ref sig .tc} (hr : r ∉ ([main_call3_v0, main_call3_v1, main_call3_v2, main_call3_v3, main_call3_v4, main_v49] : List (Ref sig .tc))) :
    U7 m c (Proc.devRef .tc r) = (U6 m c) (Proc.devRef .tc r) := StableHlo.after_unwritten _ rfl hr _

/-- The buffers after stretch 8. -/
def U8 : Valuation τ sig (Elt Ideal) := StableHlo.after hostOps0_8 (U7 m c)

/-- Stretch 8 leaves the buffers it does not write. -/
theorem keep8 {r : Ref sig .tc} (hr : r ∉ ([main_v50, main_v51, main_v52, main_cst_17, main_v53, main_v54, main_v55, main_v56, main_cst_18, main_v57, main_v58, main_cst_19, main_v59, main_v60, main_v61, main_cst_20, main_v62, main_v63, main_v64, main_v65, main_cst_21, main_v66, main_v67, main_cst_22, main_v68, main_v69, main_cst_23] : List (Ref sig .tc))) :
    U8 m c (Proc.devRef .tc r) = (U7 m c) (Proc.devRef .tc r) := StableHlo.after_unwritten _ rfl hr _

/-- The buffers after stretch 9. -/
def U9 : Valuation τ sig (Elt Ideal) := StableHlo.after hostOps0_9 (U8 m c)

/-- Stretch 9 leaves the buffers it does not write. -/
theorem keep9 {r : Ref sig .tc} (hr : r ∉ ([main_call4_v0, main_call4_v1, main_v70] : List (Ref sig .tc))) :
    U9 m c (Proc.devRef .tc r) = (U8 m c) (Proc.devRef .tc r) := StableHlo.after_unwritten _ rfl hr _

/-- The buffers after stretch 10. -/
def U10 : Valuation τ sig (Elt Ideal) := StableHlo.after hostOps0_10 (U9 m c)

/-- Stretch 10 leaves the buffers it does not write. -/
theorem keep10 {r : Ref sig .tc} (hr : r ∉ ([main_cst_24, main_v71, main_v72, main_v73, main_cst_25, main_v74, main_v75, main_v76, main_v77, main_cst_26, main_cst_27] : List (Ref sig .tc))) :
    U10 m c (Proc.devRef .tc r) = (U9 m c) (Proc.devRef .tc r) := StableHlo.after_unwritten _ rfl hr _

/-- The buffers after stretch 11. -/
def U11 : Valuation τ sig (Elt Ideal) := StableHlo.after hostOps0_11 (U10 m c)

/-- Stretch 11 leaves the buffers it does not write. -/
theorem keep11 {r : Ref sig .tc} (hr : r ∉ ([main_call5_v0, main_call5_v1, main_call5_v2, main_call5_v3, main_call5_v4, main_v78] : List (Ref sig .tc))) :
    U11 m c (Proc.devRef .tc r) = (U10 m c) (Proc.devRef .tc r) := StableHlo.after_unwritten _ rfl hr _

/-- The buffers after stretch 12. -/
def U12 : Valuation τ sig (Elt Ideal) := StableHlo.after hostOps0_12 (U11 m c)

/-- Stretch 12 leaves the buffers it does not write. -/
theorem keep12 {r : Ref sig .tc} (hr : r ∉ ([main_v79, main_v80, main_v81, main_cst_28, main_v82, main_v83, main_v84, main_v85, main_cst_29, main_v86, main_v87, main_cst_30, main_v88, main_v89, main_v90, main_cst_31, main_v91, main_v92, main_v93, main_v94, main_cst_32, main_v95, main_v96, main_cst_33, main_v97, main_v98, main_cst_34] : List (Ref sig .tc))) :
    U12 m c (Proc.devRef .tc r) = (U11 m c) (Proc.devRef .tc r) := StableHlo.after_unwritten _ rfl hr _

/-- The buffers after stretch 13. -/
def U13 : Valuation τ sig (Elt Ideal) := StableHlo.after hostOps0_13 (U12 m c)

/-- Stretch 13 leaves the buffers it does not write. -/
theorem keep13 {r : Ref sig .tc} (hr : r ∉ ([main_call6_v0, main_call6_v1, main_v99] : List (Ref sig .tc))) :
    U13 m c (Proc.devRef .tc r) = (U12 m c) (Proc.devRef .tc r) := StableHlo.after_unwritten _ rfl hr _

/-- The buffers after stretch 14. -/
def U14 : Valuation τ sig (Elt Ideal) := StableHlo.after hostOps0_14 (U13 m c)

/-- Stretch 14 leaves the buffers it does not write. -/
theorem keep14 {r : Ref sig .tc} (hr : r ∉ ([main_cst_35, main_v100, main_v101, main_v102, main_cst_36, main_v103, main_v104, main_v105, main_v106, main_cst_37, main_cst_38] : List (Ref sig .tc))) :
    U14 m c (Proc.devRef .tc r) = (U13 m c) (Proc.devRef .tc r) := StableHlo.after_unwritten _ rfl hr _

/-- The buffers after stretch 15. -/
def U15 : Valuation τ sig (Elt Ideal) := StableHlo.after hostOps0_15 (U14 m c)

/-- Stretch 15 leaves the buffers it does not write. -/
theorem keep15 {r : Ref sig .tc} (hr : r ∉ ([main_call7_v0, main_call7_v1, main_call7_v2, main_call7_v3, main_call7_v4, main_v107] : List (Ref sig .tc))) :
    U15 m c (Proc.devRef .tc r) = (U14 m c) (Proc.devRef .tc r) := StableHlo.after_unwritten _ rfl hr _

/-- The buffers after stretch 16. -/
def U16 : Valuation τ sig (Elt Ideal) := StableHlo.after hostOps0_16 (U15 m c)

/-- Stretch 16 leaves the buffers it does not write. -/
theorem keep16 {r : Ref sig .tc} (hr : r ∉ ([main_v108, main_v109, main_v110, main_cst_39, main_v111, main_v112, main_v113, main_v114, main_cst_40, main_v115, main_v116, main_cst_41, main_v117, main_v118, main_v119, main_cst_42, main_v120, main_v121, main_v122, main_v123, main_cst_43, main_v124, main_v125, main_cst_44, main_v126, main_v127, main_cst_45] : List (Ref sig .tc))) :
    U16 m c (Proc.devRef .tc r) = (U15 m c) (Proc.devRef .tc r) := StableHlo.after_unwritten _ rfl hr _

/-- The buffers after stretch 17. -/
def U17 : Valuation τ sig (Elt Ideal) := StableHlo.after hostOps0_17 (U16 m c)

/-- Stretch 17 leaves the buffers it does not write. -/
theorem keep17 {r : Ref sig .tc} (hr : r ∉ ([main_call8_v0, main_call8_v1, main_v128] : List (Ref sig .tc))) :
    U17 m c (Proc.devRef .tc r) = (U16 m c) (Proc.devRef .tc r) := StableHlo.after_unwritten _ rfl hr _

/-- The buffers after stretch 18. -/
def U18 : Valuation τ sig (Elt Ideal) := StableHlo.after hostOps0_18 (U17 m c)

/-- Stretch 18 leaves the buffers it does not write. -/
theorem keep18 {r : Ref sig .tc} (hr : r ∉ ([main_cst_46, main_v129, main_v130, main_v131, main_cst_47, main_v132, main_v133, main_v134, main_v135, main_cst_48, main_cst_49] : List (Ref sig .tc))) :
    U18 m c (Proc.devRef .tc r) = (U17 m c) (Proc.devRef .tc r) := StableHlo.after_unwritten _ rfl hr _

/-- The buffers after stretch 19. -/
def U19 : Valuation τ sig (Elt Ideal) := StableHlo.after hostOps0_19 (U18 m c)

/-- Stretch 19 leaves the buffers it does not write. -/
theorem keep19 {r : Ref sig .tc} (hr : r ∉ ([main_call9_v0, main_call9_v1, main_call9_v2, main_call9_v3, main_call9_v4, main_v136] : List (Ref sig .tc))) :
    U19 m c (Proc.devRef .tc r) = (U18 m c) (Proc.devRef .tc r) := StableHlo.after_unwritten _ rfl hr _

/-- The buffers after stretch 20. -/
def U20 : Valuation τ sig (Elt Ideal) := StableHlo.after hostOps0_20 (U19 m c)

/-- Stretch 20 leaves the buffers it does not write. -/
theorem keep20 {r : Ref sig .tc} (hr : r ∉ ([main_v137] : List (Ref sig .tc))) :
    U20 m c (Proc.devRef .tc r) = (U19 m c) (Proc.devRef .tc r) := StableHlo.after_unwritten _ rfl hr _

/-- A line after a line. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The last step reads the buffers after the last stretch. -/
theorem V_eq (b : Ref sig .tc) : V m c b = U20 m c (Proc.devRef .tc b) := by
  unfold V
  simp only [List.flatten_cons, List.flatten_nil, List.append_nil, after_append]
  rfl

/-- The flattened activations. -/
theorem u0_v0 : U0 m c (Proc.devRef .tc main_v0) = x0 m c := by
  unfold U0
  after_results
  rfl

/-- The flattened gradient. -/
theorem u0_v1 : U0 m c (Proc.devRef .tc main_v1) = dy0 m c := by
  unfold U0
  after_results
  rfl

/-- The weights, untouched. -/
theorem u0_arg1 : U0 m c (Proc.devRef .tc main_arg1) = w0 m c := keep0 m c (by decide)

/-- Where the two indices share an even number of bits. -/
theorem u0_v9 : U0 m c (Proc.devRef .tc main_v9) = even S256x256 bcast_S_S256x256 (iotaInDim S256x256 32 0) (iotaInDim S256x256 32 1) := by
  unfold U0
  after_results
  rfl

/-- One. -/
theorem u0_cst : U0 m c (Proc.devRef .tc main_cst) = constant (F := Ideal) S_ .f32 0x3F800000#32 := by
  unfold U0
  after_results

/-- Minus one. -/
theorem u0_cst_1 : U0 m c (Proc.devRef .tc main_cst_1) = constant (F := Ideal) S_ .f32 0xBF800000#32 := by
  unfold U0
  after_results

/-- The table before its cast. -/
theorem u1_v10 : U1 m c (Proc.devRef .tc main_v10) = select (even S256x256 bcast_S_S256x256 (iotaInDim S256x256 32 0) (iotaInDim S256x256 32 1)) (fill S256x256 bcast_S_S256x256 0x3F800000#32) (fill S256x256 bcast_S_S256x256 0xBF800000#32) := by
  unfold U1
  after_results
  rw [(show U0 m c (Proc.devRef .tc main_v9) = _ from (u0_v9 m c)), (show U0 m c (Proc.devRef .tc main_cst) = _ from (u0_cst m c)), (show U0 m c (Proc.devRef .tc main_cst_1) = _ from (u0_cst_1 m c))]
  rfl

/-- The table. -/
theorem u2_v11 : U2 m c (Proc.devRef .tc main_v11) = table256 := by
  unfold U2
  after_results
  rw [(show U1 m c (Proc.devRef .tc main_v10) = _ from (u1_v10 m c))]
  rfl

/-- Where the two indices share an even number of bits. -/
theorem u2_v19 : U2 m c (Proc.devRef .tc main_v19) = even S128x128 bcast_S_S128x128 (iotaInDim S128x128 32 0) (iotaInDim S128x128 32 1) := by
  unfold U2
  after_results
  rfl

/-- One. -/
theorem u2_cst_4 : U2 m c (Proc.devRef .tc main_cst_4) = constant (F := Ideal) S_ .f32 0x3F800000#32 := by
  unfold U2
  after_results

/-- Minus one. -/
theorem u2_cst_5 : U2 m c (Proc.devRef .tc main_cst_5) = constant (F := Ideal) S_ .f32 0xBF800000#32 := by
  unfold U2
  after_results

/-- The table before its cast. -/
theorem u3_v20 : U3 m c (Proc.devRef .tc main_v20) = select (even S128x128 bcast_S_S128x128 (iotaInDim S128x128 32 0) (iotaInDim S128x128 32 1)) (fill S128x128 bcast_S_S128x128 0x3F800000#32) (fill S128x128 bcast_S_S128x128 0xBF800000#32) := by
  unfold U3
  after_results
  rw [(show U2 m c (Proc.devRef .tc main_v19) = _ from (u2_v19 m c)), (show U2 m c (Proc.devRef .tc main_cst_4) = _ from (u2_cst_4 m c)), (show U2 m c (Proc.devRef .tc main_cst_5) = _ from (u2_cst_5 m c))]
  rfl

/-- The table. -/
theorem u4_v21 : U4 m c (Proc.devRef .tc main_v21) = table128 := by
  unfold U4
  after_results
  rw [(show U3 m c (Proc.devRef .tc main_v20) = _ from (u3_v20 m c))]
  rfl

/-- What stretch 4 puts there, from what it reads. -/
theorem step4_v26 (V : Valuation τ sig (Elt Ideal)) : StableHlo.after hostOps0_4 V (Proc.devRef .tc main_v26) =
    rotDyoBy (V (Proc.devRef .tc main_v11) : FVec Ideal S256x256 .bf16) (V (Proc.devRef .tc main_v1) : FVec Ideal S1792x8960 .bf16) := by
  after_results
  rfl

/-- The rotated array. -/
theorem u4_v26 : U4 m c (Proc.devRef .tc main_v26) = rotDyo (dy0 m c) := by
  refine (step4_v26 _).trans ?_
  rw [((keep3 m c (by decide)).trans ((keep2 m c (by decide)).trans ((keep1 m c (by decide)).trans (u0_v1 m c)))), ((keep3 m c (by decide)).trans (u2_v11 m c))]
  rfl

/-- What stretch 4 puts there, from what it reads. -/
theorem step4_v38 (V : Valuation τ sig (Elt Ideal)) : StableHlo.after hostOps0_4 V (Proc.devRef .tc main_v38) =
    logs S1792x1 bcast_S_S1792x1 (rowQuot 1792 8960 reducesTo_S1792x8960_S1792_d1 bcast_S1792_S1792x1_0 bcast_S_S1792x1 (rotDyoBy (V (Proc.devRef .tc main_v11) : FVec Ideal S256x256 .bf16) (V (Proc.devRef .tc main_v1) : FVec Ideal S1792x8960 .bf16))) := by
  after_results
  rfl

/-- Its logarithms. -/
theorem u4_v38 : U4 m c (Proc.devRef .tc main_v38) = logs S1792x1 bcast_S_S1792x1 (qDyo (dy0 m c)) := by
  refine (step4_v38 _).trans ?_
  rw [((keep3 m c (by decide)).trans ((keep2 m c (by decide)).trans ((keep1 m c (by decide)).trans (u0_v1 m c)))), ((keep3 m c (by decide)).trans (u2_v11 m c))]
  rfl

/-- What stretch 4 puts there, from what it reads. -/
theorem step4_v40 (V : Valuation τ sig (Elt Ideal)) : StableHlo.after hostOps0_4 V (Proc.devRef .tc main_v40) =
    tiny S1792x1 bcast_S_S1792x1 (rowQuot 1792 8960 reducesTo_S1792x8960_S1792_d1 bcast_S1792_S1792x1_0 bcast_S_S1792x1 (rotDyoBy (V (Proc.devRef .tc main_v11) : FVec Ideal S256x256 .bf16) (V (Proc.devRef .tc main_v1) : FVec Ideal S1792x8960 .bf16))) := by
  after_results
  rfl

/-- Its tiny quotients. -/
theorem u4_v40 : U4 m c (Proc.devRef .tc main_v40) = tiny S1792x1 bcast_S_S1792x1 (qDyo (dy0 m c)) := by
  refine (step4_v40 _).trans ?_
  rw [((keep3 m c (by decide)).trans ((keep2 m c (by decide)).trans ((keep1 m c (by decide)).trans (u0_v1 m c)))), ((keep3 m c (by decide)).trans (u2_v11 m c))]
  rfl

/-- Zero. -/
theorem u4_cst_12 : U4 m c (Proc.devRef .tc main_cst_12) = constant (F := Ideal) S_ .f32 0x00000000#32 := by
  unfold U4
  after_results

/-- What stretch 5 puts there, from what it reads. -/
theorem step5_v41 (V : Valuation τ sig (Elt Ideal)) : StableHlo.after hostOps0_5 V (Proc.devRef .tc main_v41) =
    select (V (Proc.devRef .tc main_v40) : IVec S1792x1 1) (broadcastInDim S1792x1 ![] bcast_S_S1792x1 (V (Proc.devRef .tc main_cst_12) : FVec Ideal S_ .f32)) (V (Proc.devRef .tc main_v38) : FVec Ideal S1792x1 .f32) := by
  after_results
  rfl

/-- Its exponents. -/
theorem u5_v41 : U5 m c (Proc.devRef .tc main_v41) = eDyo (dy0 m c) := by
  refine (step5_v41 _).trans ?_
  rw [(u4_v40 m c), (u4_cst_12 m c), (u4_v38 m c)]
  rfl

/-- What stretch 6 puts there, from what it reads. -/
theorem step6_v43 (V : Valuation τ sig (Elt Ideal)) : StableHlo.after hostOps0_6 V (Proc.devRef .tc main_v43) =
    pows S1792x1 bcast_S_S1792x1 (V (Proc.devRef .tc main_v41) : FVec Ideal S1792x1 .f32) := by
  after_results
  rfl

/-- Its scales. -/
theorem u6_v43 : U6 m c (Proc.devRef .tc main_v43) = pows S1792x1 bcast_S_S1792x1 (eDyo (dy0 m c)) := by
  refine (step6_v43 _).trans ?_
  rw [(u5_v41 m c)]

/-- What stretch 6 puts there, from what it reads. -/
theorem step6_v48 (V : Valuation τ sig (Elt Ideal)) : StableHlo.after hostOps0_6 V (Proc.devRef .tc main_v48) =
    scaled S1792x8960 S1792x1 ![0, 1] bcast_S_S1792x1 bcast_S1792x1_S1792x8960_0_1 (V (Proc.devRef .tc main_v26) : FVec Ideal S1792x8960 .f32) (V (Proc.devRef .tc main_v41) : FVec Ideal S1792x1 .f32) := by
  after_results
  rfl

/-- The rotated array times its inverse scales. -/
theorem u6_v48 : U6 m c (Proc.devRef .tc main_v48) = scaled S1792x8960 S1792x1 ![0, 1] bcast_S_S1792x1 bcast_S1792x1_S1792x8960_0_1 (rotDyo (dy0 m c)) (eDyo (dy0 m c)) := by
  refine (step6_v48 _).trans ?_
  rw [((keep5 m c (by decide)).trans (u4_v26 m c)), (u5_v41 m c)]

/-- The least code. -/
theorem u6_cst_15 : U6 m c (Proc.devRef .tc main_cst_15) = constant (F := Ideal) S_ .f32 0xC3E00000#32 := by
  unfold U6
  after_results

/-- The greatest code. -/
theorem u6_cst_16 : U6 m c (Proc.devRef .tc main_cst_16) = constant (F := Ideal) S_ .f32 0x43E00000#32 := by
  unfold U6
  after_results

/-- What stretch 7 puts there, from what it reads. -/
theorem step7_v49 (V : Valuation τ sig (Elt Ideal)) : StableHlo.after hostOps0_7 V (Proc.devRef .tc main_v49) =
    (minimumf (broadcastInDim S1792x8960 ![] bcast_S_S1792x8960 (V (Proc.devRef .tc main_cst_16) : FVec Ideal S_ .f32)) (maximumf (broadcastInDim S1792x8960 ![] bcast_S_S1792x8960 (V (Proc.devRef .tc main_cst_15) : FVec Ideal S_ .f32)) (V (Proc.devRef .tc main_v48) : FVec Ideal S1792x8960 .f32)) : FVec Ideal S1792x8960 .f32) := by
  after_results
  rfl

/-- Its clamped quotients. -/
theorem u7_v49 : U7 m c (Proc.devRef .tc main_v49) = coded S1792x8960 S1792x1 ![0, 1] bcast_S_S1792x1 bcast_S_S1792x8960 bcast_S1792x1_S1792x8960_0_1 (rotDyo (dy0 m c)) (eDyo (dy0 m c)) := by
  refine (step7_v49 _).trans ?_
  rw [(u6_v48 m c), (u6_cst_15 m c), (u6_cst_16 m c)]
  rfl

/-- What stretch 8 puts there, from what it reads. -/
theorem step8_v55 (V : Valuation τ sig (Elt Ideal)) : StableHlo.after hostOps0_8 V (Proc.devRef .tc main_v55) =
    rotWBy (V (Proc.devRef .tc main_v11) : FVec Ideal S256x256 .bf16) (V (Proc.devRef .tc main_arg1) : FVec Ideal S8960x1536 .bf16) := by
  after_results
  rfl

/-- The rotated array. -/
theorem u8_v55 : U8 m c (Proc.devRef .tc main_v55) = rotW (w0 m c) := by
  refine (step8_v55 _).trans ?_
  rw [((keep7 m c (by decide)).trans ((keep6 m c (by decide)).trans ((keep5 m c (by decide)).trans ((keep4 m c (by decide)).trans ((keep3 m c (by decide)).trans ((keep2 m c (by decide)).trans ((keep1 m c (by decide)).trans (u0_arg1 m c)))))))), ((keep7 m c (by decide)).trans ((keep6 m c (by decide)).trans ((keep5 m c (by decide)).trans ((keep4 m c (by decide)).trans ((keep3 m c (by decide)).trans (u2_v11 m c))))))]
  rfl

/-- What stretch 8 puts there, from what it reads. -/
theorem step8_v67 (V : Valuation τ sig (Elt Ideal)) : StableHlo.after hostOps0_8 V (Proc.devRef .tc main_v67) =
    logs S1x1536 bcast_S_S1x1536 (colQuot 8960 1536 reducesTo_S8960x1536_S1536_d0 bcast_S1536_S1x1536_1 bcast_S_S1x1536 (rotWBy (V (Proc.devRef .tc main_v11) : FVec Ideal S256x256 .bf16) (V (Proc.devRef .tc main_arg1) : FVec Ideal S8960x1536 .bf16))) := by
  after_results
  rfl

/-- Its logarithms. -/
theorem u8_v67 : U8 m c (Proc.devRef .tc main_v67) = logs S1x1536 bcast_S_S1x1536 (qW (w0 m c)) := by
  refine (step8_v67 _).trans ?_
  rw [((keep7 m c (by decide)).trans ((keep6 m c (by decide)).trans ((keep5 m c (by decide)).trans ((keep4 m c (by decide)).trans ((keep3 m c (by decide)).trans ((keep2 m c (by decide)).trans ((keep1 m c (by decide)).trans (u0_arg1 m c)))))))), ((keep7 m c (by decide)).trans ((keep6 m c (by decide)).trans ((keep5 m c (by decide)).trans ((keep4 m c (by decide)).trans ((keep3 m c (by decide)).trans (u2_v11 m c))))))]
  rfl

/-- What stretch 8 puts there, from what it reads. -/
theorem step8_v69 (V : Valuation τ sig (Elt Ideal)) : StableHlo.after hostOps0_8 V (Proc.devRef .tc main_v69) =
    tiny S1x1536 bcast_S_S1x1536 (colQuot 8960 1536 reducesTo_S8960x1536_S1536_d0 bcast_S1536_S1x1536_1 bcast_S_S1x1536 (rotWBy (V (Proc.devRef .tc main_v11) : FVec Ideal S256x256 .bf16) (V (Proc.devRef .tc main_arg1) : FVec Ideal S8960x1536 .bf16))) := by
  after_results
  rfl

/-- Its tiny quotients. -/
theorem u8_v69 : U8 m c (Proc.devRef .tc main_v69) = tiny S1x1536 bcast_S_S1x1536 (qW (w0 m c)) := by
  refine (step8_v69 _).trans ?_
  rw [((keep7 m c (by decide)).trans ((keep6 m c (by decide)).trans ((keep5 m c (by decide)).trans ((keep4 m c (by decide)).trans ((keep3 m c (by decide)).trans ((keep2 m c (by decide)).trans ((keep1 m c (by decide)).trans (u0_arg1 m c)))))))), ((keep7 m c (by decide)).trans ((keep6 m c (by decide)).trans ((keep5 m c (by decide)).trans ((keep4 m c (by decide)).trans ((keep3 m c (by decide)).trans (u2_v11 m c))))))]
  rfl

/-- Zero. -/
theorem u8_cst_23 : U8 m c (Proc.devRef .tc main_cst_23) = constant (F := Ideal) S_ .f32 0x00000000#32 := by
  unfold U8
  after_results

/-- What stretch 9 puts there, from what it reads. -/
theorem step9_v70 (V : Valuation τ sig (Elt Ideal)) : StableHlo.after hostOps0_9 V (Proc.devRef .tc main_v70) =
    select (V (Proc.devRef .tc main_v69) : IVec S1x1536 1) (broadcastInDim S1x1536 ![] bcast_S_S1x1536 (V (Proc.devRef .tc main_cst_23) : FVec Ideal S_ .f32)) (V (Proc.devRef .tc main_v67) : FVec Ideal S1x1536 .f32) := by
  after_results
  rfl

/-- Its exponents. -/
theorem u9_v70 : U9 m c (Proc.devRef .tc main_v70) = eW (w0 m c) := by
  refine (step9_v70 _).trans ?_
  rw [(u8_v69 m c), (u8_cst_23 m c), (u8_v67 m c)]
  rfl

/-- What stretch 10 puts there, from what it reads. -/
theorem step10_v72 (V : Valuation τ sig (Elt Ideal)) : StableHlo.after hostOps0_10 V (Proc.devRef .tc main_v72) =
    pows S1x1536 bcast_S_S1x1536 (V (Proc.devRef .tc main_v70) : FVec Ideal S1x1536 .f32) := by
  after_results
  rfl

/-- Its scales. -/
theorem u10_v72 : U10 m c (Proc.devRef .tc main_v72) = pows S1x1536 bcast_S_S1x1536 (eW (w0 m c)) := by
  refine (step10_v72 _).trans ?_
  rw [(u9_v70 m c)]

/-- What stretch 10 puts there, from what it reads. -/
theorem step10_v77 (V : Valuation τ sig (Elt Ideal)) : StableHlo.after hostOps0_10 V (Proc.devRef .tc main_v77) =
    scaled S8960x1536 S1x1536 ![0, 1] bcast_S_S1x1536 bcast_S1x1536_S8960x1536_0_1 (V (Proc.devRef .tc main_v55) : FVec Ideal S8960x1536 .f32) (V (Proc.devRef .tc main_v70) : FVec Ideal S1x1536 .f32) := by
  after_results
  rfl

/-- The rotated array times its inverse scales. -/
theorem u10_v77 : U10 m c (Proc.devRef .tc main_v77) = scaled S8960x1536 S1x1536 ![0, 1] bcast_S_S1x1536 bcast_S1x1536_S8960x1536_0_1 (rotW (w0 m c)) (eW (w0 m c)) := by
  refine (step10_v77 _).trans ?_
  rw [((keep9 m c (by decide)).trans (u8_v55 m c)), (u9_v70 m c)]

/-- The least code. -/
theorem u10_cst_26 : U10 m c (Proc.devRef .tc main_cst_26) = constant (F := Ideal) S_ .f32 0xC3E00000#32 := by
  unfold U10
  after_results

/-- The greatest code. -/
theorem u10_cst_27 : U10 m c (Proc.devRef .tc main_cst_27) = constant (F := Ideal) S_ .f32 0x43E00000#32 := by
  unfold U10
  after_results

/-- What stretch 11 puts there, from what it reads. -/
theorem step11_v78 (V : Valuation τ sig (Elt Ideal)) : StableHlo.after hostOps0_11 V (Proc.devRef .tc main_v78) =
    (minimumf (broadcastInDim S8960x1536 ![] bcast_S_S8960x1536 (V (Proc.devRef .tc main_cst_27) : FVec Ideal S_ .f32)) (maximumf (broadcastInDim S8960x1536 ![] bcast_S_S8960x1536 (V (Proc.devRef .tc main_cst_26) : FVec Ideal S_ .f32)) (V (Proc.devRef .tc main_v77) : FVec Ideal S8960x1536 .f32)) : FVec Ideal S8960x1536 .f32) := by
  after_results
  rfl

/-- Its clamped quotients. -/
theorem u11_v78 : U11 m c (Proc.devRef .tc main_v78) = coded S8960x1536 S1x1536 ![0, 1] bcast_S_S1x1536 bcast_S_S8960x1536 bcast_S1x1536_S8960x1536_0_1 (rotW (w0 m c)) (eW (w0 m c)) := by
  refine (step11_v78 _).trans ?_
  rw [(u10_v77 m c), (u10_cst_26 m c), (u10_cst_27 m c)]
  rfl

/-- What stretch 12 puts there, from what it reads. -/
theorem step12_v84 (V : Valuation τ sig (Elt Ideal)) : StableHlo.after hostOps0_12 V (Proc.devRef .tc main_v84) =
    rotDytBy (V (Proc.devRef .tc main_v21) : FVec Ideal S128x128 .bf16) (V (Proc.devRef .tc main_v1) : FVec Ideal S1792x8960 .bf16) := by
  after_results
  rfl

/-- The rotated array. -/
theorem u12_v84 : U12 m c (Proc.devRef .tc main_v84) = rotDyt (dy0 m c) := by
  refine (step12_v84 _).trans ?_
  rw [((keep11 m c (by decide)).trans ((keep10 m c (by decide)).trans ((keep9 m c (by decide)).trans ((keep8 m c (by decide)).trans ((keep7 m c (by decide)).trans ((keep6 m c (by decide)).trans ((keep5 m c (by decide)).trans ((keep4 m c (by decide)).trans ((keep3 m c (by decide)).trans ((keep2 m c (by decide)).trans ((keep1 m c (by decide)).trans (u0_v1 m c)))))))))))), ((keep11 m c (by decide)).trans ((keep10 m c (by decide)).trans ((keep9 m c (by decide)).trans ((keep8 m c (by decide)).trans ((keep7 m c (by decide)).trans ((keep6 m c (by decide)).trans ((keep5 m c (by decide)).trans (u4_v21 m c))))))))]
  rfl

/-- What stretch 12 puts there, from what it reads. -/
theorem step12_v96 (V : Valuation τ sig (Elt Ideal)) : StableHlo.after hostOps0_12 V (Proc.devRef .tc main_v96) =
    logs S1x8960 bcast_S_S1x8960 (colQuot 1792 8960 reducesTo_S1792x8960_S8960_d0 bcast_S8960_S1x8960_1 bcast_S_S1x8960 (rotDytBy (V (Proc.devRef .tc main_v21) : FVec Ideal S128x128 .bf16) (V (Proc.devRef .tc main_v1) : FVec Ideal S1792x8960 .bf16))) := by
  after_results
  rfl

/-- Its logarithms. -/
theorem u12_v96 : U12 m c (Proc.devRef .tc main_v96) = logs S1x8960 bcast_S_S1x8960 (qDyt (dy0 m c)) := by
  refine (step12_v96 _).trans ?_
  rw [((keep11 m c (by decide)).trans ((keep10 m c (by decide)).trans ((keep9 m c (by decide)).trans ((keep8 m c (by decide)).trans ((keep7 m c (by decide)).trans ((keep6 m c (by decide)).trans ((keep5 m c (by decide)).trans ((keep4 m c (by decide)).trans ((keep3 m c (by decide)).trans ((keep2 m c (by decide)).trans ((keep1 m c (by decide)).trans (u0_v1 m c)))))))))))), ((keep11 m c (by decide)).trans ((keep10 m c (by decide)).trans ((keep9 m c (by decide)).trans ((keep8 m c (by decide)).trans ((keep7 m c (by decide)).trans ((keep6 m c (by decide)).trans ((keep5 m c (by decide)).trans (u4_v21 m c))))))))]
  rfl

/-- What stretch 12 puts there, from what it reads. -/
theorem step12_v98 (V : Valuation τ sig (Elt Ideal)) : StableHlo.after hostOps0_12 V (Proc.devRef .tc main_v98) =
    tiny S1x8960 bcast_S_S1x8960 (colQuot 1792 8960 reducesTo_S1792x8960_S8960_d0 bcast_S8960_S1x8960_1 bcast_S_S1x8960 (rotDytBy (V (Proc.devRef .tc main_v21) : FVec Ideal S128x128 .bf16) (V (Proc.devRef .tc main_v1) : FVec Ideal S1792x8960 .bf16))) := by
  after_results
  rfl

/-- Its tiny quotients. -/
theorem u12_v98 : U12 m c (Proc.devRef .tc main_v98) = tiny S1x8960 bcast_S_S1x8960 (qDyt (dy0 m c)) := by
  refine (step12_v98 _).trans ?_
  rw [((keep11 m c (by decide)).trans ((keep10 m c (by decide)).trans ((keep9 m c (by decide)).trans ((keep8 m c (by decide)).trans ((keep7 m c (by decide)).trans ((keep6 m c (by decide)).trans ((keep5 m c (by decide)).trans ((keep4 m c (by decide)).trans ((keep3 m c (by decide)).trans ((keep2 m c (by decide)).trans ((keep1 m c (by decide)).trans (u0_v1 m c)))))))))))), ((keep11 m c (by decide)).trans ((keep10 m c (by decide)).trans ((keep9 m c (by decide)).trans ((keep8 m c (by decide)).trans ((keep7 m c (by decide)).trans ((keep6 m c (by decide)).trans ((keep5 m c (by decide)).trans (u4_v21 m c))))))))]
  rfl

/-- Zero. -/
theorem u12_cst_34 : U12 m c (Proc.devRef .tc main_cst_34) = constant (F := Ideal) S_ .f32 0x00000000#32 := by
  unfold U12
  after_results

/-- What stretch 13 puts there, from what it reads. -/
theorem step13_v99 (V : Valuation τ sig (Elt Ideal)) : StableHlo.after hostOps0_13 V (Proc.devRef .tc main_v99) =
    select (V (Proc.devRef .tc main_v98) : IVec S1x8960 1) (broadcastInDim S1x8960 ![] bcast_S_S1x8960 (V (Proc.devRef .tc main_cst_34) : FVec Ideal S_ .f32)) (V (Proc.devRef .tc main_v96) : FVec Ideal S1x8960 .f32) := by
  after_results
  rfl

/-- Its exponents. -/
theorem u13_v99 : U13 m c (Proc.devRef .tc main_v99) = eDyt (dy0 m c) := by
  refine (step13_v99 _).trans ?_
  rw [(u12_v98 m c), (u12_cst_34 m c), (u12_v96 m c)]
  rfl

/-- What stretch 14 puts there, from what it reads. -/
theorem step14_v101 (V : Valuation τ sig (Elt Ideal)) : StableHlo.after hostOps0_14 V (Proc.devRef .tc main_v101) =
    pows S1x8960 bcast_S_S1x8960 (V (Proc.devRef .tc main_v99) : FVec Ideal S1x8960 .f32) := by
  after_results
  rfl

/-- Its scales. -/
theorem u14_v101 : U14 m c (Proc.devRef .tc main_v101) = pows S1x8960 bcast_S_S1x8960 (eDyt (dy0 m c)) := by
  refine (step14_v101 _).trans ?_
  rw [(u13_v99 m c)]

/-- What stretch 14 puts there, from what it reads. -/
theorem step14_v106 (V : Valuation τ sig (Elt Ideal)) : StableHlo.after hostOps0_14 V (Proc.devRef .tc main_v106) =
    scaled S1792x8960 S1x8960 ![0, 1] bcast_S_S1x8960 bcast_S1x8960_S1792x8960_0_1 (V (Proc.devRef .tc main_v84) : FVec Ideal S1792x8960 .f32) (V (Proc.devRef .tc main_v99) : FVec Ideal S1x8960 .f32) := by
  after_results
  rfl

/-- The rotated array times its inverse scales. -/
theorem u14_v106 : U14 m c (Proc.devRef .tc main_v106) = scaled S1792x8960 S1x8960 ![0, 1] bcast_S_S1x8960 bcast_S1x8960_S1792x8960_0_1 (rotDyt (dy0 m c)) (eDyt (dy0 m c)) := by
  refine (step14_v106 _).trans ?_
  rw [((keep13 m c (by decide)).trans (u12_v84 m c)), (u13_v99 m c)]

/-- The least code. -/
theorem u14_cst_37 : U14 m c (Proc.devRef .tc main_cst_37) = constant (F := Ideal) S_ .f32 0xC3E00000#32 := by
  unfold U14
  after_results

/-- The greatest code. -/
theorem u14_cst_38 : U14 m c (Proc.devRef .tc main_cst_38) = constant (F := Ideal) S_ .f32 0x43E00000#32 := by
  unfold U14
  after_results

/-- What stretch 15 puts there, from what it reads. -/
theorem step15_v107 (V : Valuation τ sig (Elt Ideal)) : StableHlo.after hostOps0_15 V (Proc.devRef .tc main_v107) =
    (minimumf (broadcastInDim S1792x8960 ![] bcast_S_S1792x8960 (V (Proc.devRef .tc main_cst_38) : FVec Ideal S_ .f32)) (maximumf (broadcastInDim S1792x8960 ![] bcast_S_S1792x8960 (V (Proc.devRef .tc main_cst_37) : FVec Ideal S_ .f32)) (V (Proc.devRef .tc main_v106) : FVec Ideal S1792x8960 .f32)) : FVec Ideal S1792x8960 .f32) := by
  after_results
  rfl

/-- Its clamped quotients. -/
theorem u15_v107 : U15 m c (Proc.devRef .tc main_v107) = coded S1792x8960 S1x8960 ![0, 1] bcast_S_S1x8960 bcast_S_S1792x8960 bcast_S1x8960_S1792x8960_0_1 (rotDyt (dy0 m c)) (eDyt (dy0 m c)) := by
  refine (step15_v107 _).trans ?_
  rw [(u14_v106 m c), (u14_cst_37 m c), (u14_cst_38 m c)]
  rfl

/-- What stretch 16 puts there, from what it reads. -/
theorem step16_v113 (V : Valuation τ sig (Elt Ideal)) : StableHlo.after hostOps0_16 V (Proc.devRef .tc main_v113) =
    rotXBy (V (Proc.devRef .tc main_v21) : FVec Ideal S128x128 .bf16) (V (Proc.devRef .tc main_v0) : FVec Ideal S1792x1536 .bf16) := by
  after_results
  rfl

/-- The rotated array. -/
theorem u16_v113 : U16 m c (Proc.devRef .tc main_v113) = rotX (x0 m c) := by
  refine (step16_v113 _).trans ?_
  rw [((keep15 m c (by decide)).trans ((keep14 m c (by decide)).trans ((keep13 m c (by decide)).trans ((keep12 m c (by decide)).trans ((keep11 m c (by decide)).trans ((keep10 m c (by decide)).trans ((keep9 m c (by decide)).trans ((keep8 m c (by decide)).trans ((keep7 m c (by decide)).trans ((keep6 m c (by decide)).trans ((keep5 m c (by decide)).trans ((keep4 m c (by decide)).trans ((keep3 m c (by decide)).trans ((keep2 m c (by decide)).trans ((keep1 m c (by decide)).trans (u0_v0 m c)))))))))))))))), ((keep15 m c (by decide)).trans ((keep14 m c (by decide)).trans ((keep13 m c (by decide)).trans ((keep12 m c (by decide)).trans ((keep11 m c (by decide)).trans ((keep10 m c (by decide)).trans ((keep9 m c (by decide)).trans ((keep8 m c (by decide)).trans ((keep7 m c (by decide)).trans ((keep6 m c (by decide)).trans ((keep5 m c (by decide)).trans (u4_v21 m c))))))))))))]
  rfl

/-- What stretch 16 puts there, from what it reads. -/
theorem step16_v125 (V : Valuation τ sig (Elt Ideal)) : StableHlo.after hostOps0_16 V (Proc.devRef .tc main_v125) =
    logs S1x1536 bcast_S_S1x1536 (colQuot 1792 1536 reducesTo_S1792x1536_S1536_d0 bcast_S1536_S1x1536_1 bcast_S_S1x1536 (rotXBy (V (Proc.devRef .tc main_v21) : FVec Ideal S128x128 .bf16) (V (Proc.devRef .tc main_v0) : FVec Ideal S1792x1536 .bf16))) := by
  after_results
  rfl

/-- Its logarithms. -/
theorem u16_v125 : U16 m c (Proc.devRef .tc main_v125) = logs S1x1536 bcast_S_S1x1536 (qX (x0 m c)) := by
  refine (step16_v125 _).trans ?_
  rw [((keep15 m c (by decide)).trans ((keep14 m c (by decide)).trans ((keep13 m c (by decide)).trans ((keep12 m c (by decide)).trans ((keep11 m c (by decide)).trans ((keep10 m c (by decide)).trans ((keep9 m c (by decide)).trans ((keep8 m c (by decide)).trans ((keep7 m c (by decide)).trans ((keep6 m c (by decide)).trans ((keep5 m c (by decide)).trans ((keep4 m c (by decide)).trans ((keep3 m c (by decide)).trans ((keep2 m c (by decide)).trans ((keep1 m c (by decide)).trans (u0_v0 m c)))))))))))))))), ((keep15 m c (by decide)).trans ((keep14 m c (by decide)).trans ((keep13 m c (by decide)).trans ((keep12 m c (by decide)).trans ((keep11 m c (by decide)).trans ((keep10 m c (by decide)).trans ((keep9 m c (by decide)).trans ((keep8 m c (by decide)).trans ((keep7 m c (by decide)).trans ((keep6 m c (by decide)).trans ((keep5 m c (by decide)).trans (u4_v21 m c))))))))))))]
  rfl

/-- What stretch 16 puts there, from what it reads. -/
theorem step16_v127 (V : Valuation τ sig (Elt Ideal)) : StableHlo.after hostOps0_16 V (Proc.devRef .tc main_v127) =
    tiny S1x1536 bcast_S_S1x1536 (colQuot 1792 1536 reducesTo_S1792x1536_S1536_d0 bcast_S1536_S1x1536_1 bcast_S_S1x1536 (rotXBy (V (Proc.devRef .tc main_v21) : FVec Ideal S128x128 .bf16) (V (Proc.devRef .tc main_v0) : FVec Ideal S1792x1536 .bf16))) := by
  after_results
  rfl

/-- Its tiny quotients. -/
theorem u16_v127 : U16 m c (Proc.devRef .tc main_v127) = tiny S1x1536 bcast_S_S1x1536 (qX (x0 m c)) := by
  refine (step16_v127 _).trans ?_
  rw [((keep15 m c (by decide)).trans ((keep14 m c (by decide)).trans ((keep13 m c (by decide)).trans ((keep12 m c (by decide)).trans ((keep11 m c (by decide)).trans ((keep10 m c (by decide)).trans ((keep9 m c (by decide)).trans ((keep8 m c (by decide)).trans ((keep7 m c (by decide)).trans ((keep6 m c (by decide)).trans ((keep5 m c (by decide)).trans ((keep4 m c (by decide)).trans ((keep3 m c (by decide)).trans ((keep2 m c (by decide)).trans ((keep1 m c (by decide)).trans (u0_v0 m c)))))))))))))))), ((keep15 m c (by decide)).trans ((keep14 m c (by decide)).trans ((keep13 m c (by decide)).trans ((keep12 m c (by decide)).trans ((keep11 m c (by decide)).trans ((keep10 m c (by decide)).trans ((keep9 m c (by decide)).trans ((keep8 m c (by decide)).trans ((keep7 m c (by decide)).trans ((keep6 m c (by decide)).trans ((keep5 m c (by decide)).trans (u4_v21 m c))))))))))))]
  rfl

/-- Zero. -/
theorem u16_cst_45 : U16 m c (Proc.devRef .tc main_cst_45) = constant (F := Ideal) S_ .f32 0x00000000#32 := by
  unfold U16
  after_results

/-- What stretch 17 puts there, from what it reads. -/
theorem step17_v128 (V : Valuation τ sig (Elt Ideal)) : StableHlo.after hostOps0_17 V (Proc.devRef .tc main_v128) =
    select (V (Proc.devRef .tc main_v127) : IVec S1x1536 1) (broadcastInDim S1x1536 ![] bcast_S_S1x1536 (V (Proc.devRef .tc main_cst_45) : FVec Ideal S_ .f32)) (V (Proc.devRef .tc main_v125) : FVec Ideal S1x1536 .f32) := by
  after_results
  rfl

/-- Its exponents. -/
theorem u17_v128 : U17 m c (Proc.devRef .tc main_v128) = eX (x0 m c) := by
  refine (step17_v128 _).trans ?_
  rw [(u16_v127 m c), (u16_cst_45 m c), (u16_v125 m c)]
  rfl

/-- What stretch 18 puts there, from what it reads. -/
theorem step18_v130 (V : Valuation τ sig (Elt Ideal)) : StableHlo.after hostOps0_18 V (Proc.devRef .tc main_v130) =
    pows S1x1536 bcast_S_S1x1536 (V (Proc.devRef .tc main_v128) : FVec Ideal S1x1536 .f32) := by
  after_results
  rfl

/-- Its scales. -/
theorem u18_v130 : U18 m c (Proc.devRef .tc main_v130) = pows S1x1536 bcast_S_S1x1536 (eX (x0 m c)) := by
  refine (step18_v130 _).trans ?_
  rw [(u17_v128 m c)]

/-- What stretch 18 puts there, from what it reads. -/
theorem step18_v135 (V : Valuation τ sig (Elt Ideal)) : StableHlo.after hostOps0_18 V (Proc.devRef .tc main_v135) =
    scaled S1792x1536 S1x1536 ![0, 1] bcast_S_S1x1536 bcast_S1x1536_S1792x1536_0_1 (V (Proc.devRef .tc main_v113) : FVec Ideal S1792x1536 .f32) (V (Proc.devRef .tc main_v128) : FVec Ideal S1x1536 .f32) := by
  after_results
  rfl

/-- The rotated array times its inverse scales. -/
theorem u18_v135 : U18 m c (Proc.devRef .tc main_v135) = scaled S1792x1536 S1x1536 ![0, 1] bcast_S_S1x1536 bcast_S1x1536_S1792x1536_0_1 (rotX (x0 m c)) (eX (x0 m c)) := by
  refine (step18_v135 _).trans ?_
  rw [((keep17 m c (by decide)).trans (u16_v113 m c)), (u17_v128 m c)]

/-- The least code. -/
theorem u18_cst_48 : U18 m c (Proc.devRef .tc main_cst_48) = constant (F := Ideal) S_ .f32 0xC3E00000#32 := by
  unfold U18
  after_results

/-- The greatest code. -/
theorem u18_cst_49 : U18 m c (Proc.devRef .tc main_cst_49) = constant (F := Ideal) S_ .f32 0x43E00000#32 := by
  unfold U18
  after_results

/-- What stretch 19 puts there, from what it reads. -/
theorem step19_v136 (V : Valuation τ sig (Elt Ideal)) : StableHlo.after hostOps0_19 V (Proc.devRef .tc main_v136) =
    (minimumf (broadcastInDim S1792x1536 ![] bcast_S_S1792x1536 (V (Proc.devRef .tc main_cst_49) : FVec Ideal S_ .f32)) (maximumf (broadcastInDim S1792x1536 ![] bcast_S_S1792x1536 (V (Proc.devRef .tc main_cst_48) : FVec Ideal S_ .f32)) (V (Proc.devRef .tc main_v135) : FVec Ideal S1792x1536 .f32)) : FVec Ideal S1792x1536 .f32) := by
  after_results
  rfl

/-- Its clamped quotients. -/
theorem u19_v136 : U19 m c (Proc.devRef .tc main_v136) = coded S1792x1536 S1x1536 ![0, 1] bcast_S_S1x1536 bcast_S_S1792x1536 bcast_S1x1536_S1792x1536_0_1 (rotX (x0 m c)) (eX (x0 m c)) := by
  refine (step19_v136 _).trans ?_
  rw [(u18_v135 m c), (u18_cst_48 m c), (u18_cst_49 m c)]
  rfl

/-- What stretch 20 puts there, from what it reads. -/
theorem step20_v137 (V : Valuation τ sig (Elt Ideal)) : StableHlo.after hostOps0_20 V (Proc.devRef .tc main_v137) =
    shapeCast S8960x1 (V (Proc.devRef .tc main_v101) : FVec Ideal S1x8960 .f32) shapeCasts_S1x8960_S8960x1 := by
  after_results
  rfl

/-- The gradient's token scales, as a column. -/
theorem u20_v137 : U20 m c (Proc.devRef .tc main_v137) = shapeCast S8960x1 (pows S1x8960 bcast_S_S1x8960 (eDyt (dy0 m c))) shapeCasts_S1x8960_S8960x1 := by
  refine (step20_v137 _).trans ?_
  rw [((keep19 m c (by decide)).trans ((keep18 m c (by decide)).trans ((keep17 m c (by decide)).trans ((keep16 m c (by decide)).trans ((keep15 m c (by decide)).trans (u14_v101 m c))))))]

/-! ## What the last step reads -/

/-- What the last step finds in `main_v43`. -/
theorem V_v43 : V m c main_v43 = pows S1792x1 bcast_S_S1792x1 (eDyo (dy0 m c)) :=
  (V_eq m c main_v43).trans ((keep20 m c (by decide)).trans ((keep19 m c (by decide)).trans ((keep18 m c (by decide)).trans ((keep17 m c (by decide)).trans ((keep16 m c (by decide)).trans ((keep15 m c (by decide)).trans ((keep14 m c (by decide)).trans ((keep13 m c (by decide)).trans ((keep12 m c (by decide)).trans ((keep11 m c (by decide)).trans ((keep10 m c (by decide)).trans ((keep9 m c (by decide)).trans ((keep8 m c (by decide)).trans ((keep7 m c (by decide)).trans (u6_v43 m c)))))))))))))))

/-- What the last step finds in `main_v49`. -/
theorem V_v49 : V m c main_v49 = coded S1792x8960 S1792x1 ![0, 1] bcast_S_S1792x1 bcast_S_S1792x8960 bcast_S1792x1_S1792x8960_0_1 (rotDyo (dy0 m c)) (eDyo (dy0 m c)) :=
  (V_eq m c main_v49).trans ((keep20 m c (by decide)).trans ((keep19 m c (by decide)).trans ((keep18 m c (by decide)).trans ((keep17 m c (by decide)).trans ((keep16 m c (by decide)).trans ((keep15 m c (by decide)).trans ((keep14 m c (by decide)).trans ((keep13 m c (by decide)).trans ((keep12 m c (by decide)).trans ((keep11 m c (by decide)).trans ((keep10 m c (by decide)).trans ((keep9 m c (by decide)).trans ((keep8 m c (by decide)).trans (u7_v49 m c))))))))))))))

/-- What the last step finds in `main_v72`. -/
theorem V_v72 : V m c main_v72 = pows S1x1536 bcast_S_S1x1536 (eW (w0 m c)) :=
  (V_eq m c main_v72).trans ((keep20 m c (by decide)).trans ((keep19 m c (by decide)).trans ((keep18 m c (by decide)).trans ((keep17 m c (by decide)).trans ((keep16 m c (by decide)).trans ((keep15 m c (by decide)).trans ((keep14 m c (by decide)).trans ((keep13 m c (by decide)).trans ((keep12 m c (by decide)).trans ((keep11 m c (by decide)).trans (u10_v72 m c)))))))))))

/-- What the last step finds in `main_v78`. -/
theorem V_v78 : V m c main_v78 = coded S8960x1536 S1x1536 ![0, 1] bcast_S_S1x1536 bcast_S_S8960x1536 bcast_S1x1536_S8960x1536_0_1 (rotW (w0 m c)) (eW (w0 m c)) :=
  (V_eq m c main_v78).trans ((keep20 m c (by decide)).trans ((keep19 m c (by decide)).trans ((keep18 m c (by decide)).trans ((keep17 m c (by decide)).trans ((keep16 m c (by decide)).trans ((keep15 m c (by decide)).trans ((keep14 m c (by decide)).trans ((keep13 m c (by decide)).trans ((keep12 m c (by decide)).trans (u11_v78 m c))))))))))

/-- What the last step finds in `main_v101`. -/
theorem V_v101 : V m c main_v101 = pows S1x8960 bcast_S_S1x8960 (eDyt (dy0 m c)) :=
  (V_eq m c main_v101).trans ((keep20 m c (by decide)).trans ((keep19 m c (by decide)).trans ((keep18 m c (by decide)).trans ((keep17 m c (by decide)).trans ((keep16 m c (by decide)).trans ((keep15 m c (by decide)).trans (u14_v101 m c)))))))

/-- What the last step finds in `main_v107`. -/
theorem V_v107 : V m c main_v107 = coded S1792x8960 S1x8960 ![0, 1] bcast_S_S1x8960 bcast_S_S1792x8960 bcast_S1x8960_S1792x8960_0_1 (rotDyt (dy0 m c)) (eDyt (dy0 m c)) :=
  (V_eq m c main_v107).trans ((keep20 m c (by decide)).trans ((keep19 m c (by decide)).trans ((keep18 m c (by decide)).trans ((keep17 m c (by decide)).trans ((keep16 m c (by decide)).trans (u15_v107 m c))))))

/-- What the last step finds in `main_v130`. -/
theorem V_v130 : V m c main_v130 = pows S1x1536 bcast_S_S1x1536 (eX (x0 m c)) :=
  (V_eq m c main_v130).trans ((keep20 m c (by decide)).trans ((keep19 m c (by decide)).trans (u18_v130 m c)))

/-- What the last step finds in `main_v136`. -/
theorem V_v136 : V m c main_v136 = coded S1792x1536 S1x1536 ![0, 1] bcast_S_S1x1536 bcast_S_S1792x1536 bcast_S1x1536_S1792x1536_0_1 (rotX (x0 m c)) (eX (x0 m c)) :=
  (V_eq m c main_v136).trans ((keep20 m c (by decide)).trans (u19_v136 m c))

/-- What the last step finds in `main_v137`. -/
theorem V_v137 : V m c main_v137 = shapeCast S8960x1 (pows S1x8960 bcast_S_S1x8960 (eDyt (dy0 m c))) shapeCasts_S1x8960_S8960x1 :=
  (V_eq m c main_v137).trans (u20_v137 m c)

end Cert.HostVals

end
end
-- ==== Proof.Forms.lean ====
/- The quantiser's vector operations, as functions of the tiles: the running maximum, the exponent field, the scale, its reciprocal, and
   the scratch array the tiles fill. Once over columns (tiles of 256 rows), once over rows (tiles of 256 columns). -/
module

public import proofs.«01_k».proof.Proof.Gen.KernelIdeal
public import proofs.«01_k».proof.Proof.Quant
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Forms

open Idealize.ShloMosaic
open Cert.KernelIdeal Cert.KernelIdeal.Gen Cert.Scale Cert.Quant

/-- The absolute value as the kernel takes it. -/
abbrev mag (x : EReal) : EReal := max x (-x)

theorem neg_inf : Ideal.ofBits .f32 0xFF800000#32 = ⊥ := by
  simp [Ideal.ofBits, Ideal.ieee]

/-- A shift by 23 of a vector lane. -/
theorem shl23 (x : BitVec 32) : IntOp.shli ArithUnit.vector x 23#32 = x <<< (23 : ℕ) := rfl

/-- The scale's exponent field: 127 where the field is zero, else one more. -/
theorem select_up (k : ℕ) (hk : k ≤ 255) :
    Scalar.select (IntOp.cmpi CmpIPredicate.eq (BitVec.ofNat 32 k) 0#32) 127#32 (IntOp.addi (BitVec.ofNat 32 k) 1#32)
      = BitVec.ofNat 32 (if k = 0 then 127 else k + 1) :=
  (by decide +kernel : ∀ k : Fin 256,
    Scalar.select (IntOp.cmpi CmpIPredicate.eq (BitVec.ofNat 32 k.val) 0#32) 127#32 (IntOp.addi (BitVec.ofNat 32 k.val) 1#32)
      = BitVec.ofNat 32 (if k.val = 0 then 127 else k.val + 1)) ⟨k, by omega⟩

/-- A quotient below `2 ^ 126` has a field of at most 253. -/
theorem expField_le_253 (x : ℝ) (h0 : 0 ≤ x) (h : x < (2 : ℝ) ^ (126 : ℤ)) : expField (x : EReal) ≤ 253 := by
  by_contra hc
  have hr := expField_reached (x : EReal) (by exact_mod_cast h0)
  have hl := expField_le (x : EReal)
  have h2 : expField (x : EReal) = 254 ∨ expField (x : EReal) = 255 := by omega
  rcases h2 with e | e
  · rw [e, fieldVal_normal 254 (by omega) (by omega), EReal.coe_le_coe_iff] at hr
    have : (2 : ℝ) ^ (126 : ℤ) ≤ (2 : ℝ) ^ (((254 : ℕ) : ℤ) - 127) := zpow_le_zpow_right₀ (by norm_num) (by norm_num)
    linarith
  · rw [e, fieldVal_top] at hr
    exact absurd (top_le_iff.mp hr) (EReal.coe_ne_top _)
/-- The reciprocal's exponent field: 127 where the field is zero, else 253 minus it. -/
theorem select_down (k : ℕ) (hk : k ≤ 253) :
    Scalar.select (IntOp.cmpi CmpIPredicate.eq (BitVec.ofNat 32 k) 0#32) 127#32 (IntOp.subi 253#32 (BitVec.ofNat 32 k))
      = BitVec.ofNat 32 (if k = 0 then 127 else 253 - k) :=
  (by decide +kernel : ∀ k : Fin 254,
    Scalar.select (IntOp.cmpi CmpIPredicate.eq (BitVec.ofNat 32 k.val) 0#32) 127#32 (IntOp.subi 253#32 (BitVec.ofNat 32 k.val))
      = BitVec.ofNat 32 (if k.val = 0 then 127 else 253 - k.val)) ⟨k, by omega⟩

/-! ## Over columns -/

/-- One tile's column maxima joined to the running ones. -/
def cMax (a : FVec Ideal S1x256 .f32) (T : FVec Ideal S256x256 .f32) : FVec Ideal S1x256 .f32 :=
  maximumf a (shapeCast S1x256 (multiReduction .maximumf [0] S256 (absf T) 0xFF800000#32 reduces_S256x256_S256 (.inl rfl) rfl)
    shapeCasts_S256_S1x256)

/-- The running column maxima after the first `n` tiles. -/
def cChain (N : ℕ) (T : Fin N → FVec Ideal S256x256 .f32) : (n : ℕ) → n ≤ N → FVec Ideal S1x256 .f32
  | 0, _ => broadcast S1x256 (Scalar.ofBits (F := Ideal) .f32 0x00000000#32)
  | n + 1, h => cMax (cChain N T n (by omega)) (T ⟨n, by omega⟩)

/-- The exponent field of each column's quotient. -/
def cExp (v : FVec Ideal S1x256 .f32) : IVec S1x256 32 :=
  shapeCast S1x256
    (multiReductionI .maxsi [0] S256
      (select (cmpf .oge (broadcastTo S256x256 v broadcasts_S1x256_S256x256)
          (bitcastToFloat .f32 (shli (iota .tc S256x256 32 [0] iota_S256x256_d0_w32) (broadcast S256x256 23#32))))
        (iota .tc S256x256 32 [0] iota_S256x256_d0_w32) (broadcast S256x256 0#32))
      2147483648#32 reduces_S256x256_S256 rfl)
    shapeCasts_S256_S1x256

/-- The scale of each column. -/
def cScale (v : FVec Ideal S1x256 .f32) : FVec Ideal S1x256 .f32 :=
  bitcastToFloat .f32 (shli (select (cmpi .eq (cExp v) (broadcast S1x256 0#32)) (broadcast S1x256 127#32) (addi (cExp v) (broadcast S1x256 1#32)))
    (broadcast S1x256 23#32))

/-- The scale's reciprocal of each column. -/
def cInv (v : FVec Ideal S1x256 .f32) : FVec Ideal S1x256 .f32 :=
  bitcastToFloat .f32 (shli (select (cmpi .eq (cExp v) (broadcast S1x256 0#32)) (broadcast S1x256 127#32) (subi (broadcast S1x256 253#32) (cExp v)))
    (broadcast S1x256 23#32))

/-- The quotient the exponent is taken of: the maxima times the Hadamard scale times one over 448. -/
def cQuot (w : BitVec 32) (a : FVec Ideal S1x256 .f32) : FVec Ideal S1x256 .f32 :=
  mulf (mulf a (broadcast S1x256 (Scalar.ofBits (F := Ideal) .f32 w))) (broadcast S1x256 (Scalar.ofBits (F := Ideal) .f32 0x3B124925#32))

theorem cMax_apply (a T j) : cMax a T (ix2 0 j) = max (a (ix2 0 j)) (Finset.univ.fold max ⊥ fun p : Fin 256 => mag (T (ix2 p j))) := by
  unfold cMax
  pointwise
  rw [neg_inf]
  rfl

/-- The running maxima after `n` tiles are at most `b` iff `b` is nonnegative and every entry of those tiles is at most `b` in magnitude. -/
theorem cChain_le (N : ℕ) (T : Fin N → FVec Ideal S256x256 .f32) (j : Fin 256) (b : EReal) : ∀ (n : ℕ) (h : n ≤ N),
    cChain N T n h (ix2 0 j) ≤ b ↔ 0 ≤ b ∧ ∀ k : Fin N, k.val < n → ∀ p : Fin 256, mag (T k (ix2 p j)) ≤ b
  | 0, h => by
    unfold cChain
    pointwise
    exact ⟨fun hb => ⟨hb, fun k hk => absurd hk (Nat.not_lt_zero _)⟩, fun hb => hb.1⟩
  | n + 1, h => by
    unfold cChain
    rw [cMax_apply, max_le_iff, cChain_le N T j b n]
    rw [Finset.fold_max_le]
    constructor
    · rintro ⟨⟨h0, h1⟩, -, h2⟩
      refine ⟨h0, fun k hk p => ?_⟩
      by_cases e : k.val = n
      · have : k = ⟨n, by omega⟩ := Fin.ext e
        rw [this]; exact h2 p (Finset.mem_univ p)
      · exact h1 k (by omega) p
    · rintro ⟨h0, h1⟩
      exact ⟨⟨h0, fun k hk p => h1 k (by omega) p⟩, bot_le, fun p _ => h1 ⟨n, by omega⟩ (Nat.lt_succ_self n) p⟩

/-- The array whose rows are the tiles' rows in order: what the scratch holds once the tiles are stored. -/
def cStack (N R : ℕ) (hR : R = N * 256) (T : Fin N → FVec Ideal S256x256 .f32) : FVec Ideal ⟨2, ![R, 256]⟩ .f32 :=
  fun y => T ⟨(y 0).val / 256, by have := (y 0).isLt; simp only [Matrix.cons_val_zero] at this; omega⟩
    (ix2 (n0 := 256) (n1 := 256) ⟨(y 0).val % 256, by omega⟩ (y 1))

theorem cStack_apply (N R : ℕ) (hR : R = N * 256) (T : Fin N → FVec Ideal S256x256 .f32) (r : Fin R) (j : Fin 256) :
    cStack N R hR T (ix2 r j) = T ⟨r.val / 256, by have := r.isLt; omega⟩ (ix2 ⟨r.val % 256, by omega⟩ j) := rfl

/-- After all tiles the running maxima are the columns' largest magnitudes. -/
theorem cChain_eq (N R : ℕ) (hR : R = N * 256) [Nonempty (Fin R)] (T : Fin N → FVec Ideal S256x256 .f32) (j : Fin 256) :
    cChain N T N le_rfl (ix2 0 j) = amax (fun r : Fin R => cStack N R hR T (ix2 r j)) := by
  refine eq_amax_zero _ _ fun b => ?_
  rw [cChain_le]
  refine and_congr_right fun _ => ⟨fun h r => h _ (Fin.isLt _) _, fun h k hk p => ?_⟩
  have hp := p.isLt
  have e := h ⟨k.val * 256 + p.val, by have := k.isLt; subst hR; omega⟩
  rw [cStack_apply] at e
  have e1 : (k.val * 256 + p.val) / 256 = k.val := by omega
  have e2 : (k.val * 256 + p.val) % 256 = p.val := by omega
  simpa only [e1, e2] using e

/-- The stores of the first `n` tiles, last first. -/
def cPieces (N R : ℕ) (hR : R = N * 256) (T : Fin N → FVec Ideal S256x256 .f32) : (n : ℕ) → n ≤ N →
    List (View.Piece (Elt Ideal) ⟨2, ![R, 256]⟩ .f32)
  | 0, _ => []
  | n + 1, h => ⟨Rect.unit (s := ⟨2, ![R, 256]⟩) ![256 * n, 0] S256x256.size (by
      intro a; match a with | ⟨0, _⟩ => show 256 * n + 256 ≤ R; omega | ⟨1, _⟩ => show 0 + 256 ≤ 256; omega), T ⟨n, by omega⟩⟩
      :: cPieces N R hR T n (by omega)

/-- Where the first `n` tiles reach, the stores leave the stacked array. -/
theorem cPieces_canon (N R : ℕ) (hR : R = N * 256) (T : Fin N → FVec Ideal S256x256 .f32) (r : Fin R) (j : Fin 256) : ∀ (n : ℕ) (h : n ≤ N),
    r.val < 256 * n → View.canon (cPieces N R hR T n h) (ix2 r j) = cStack N R hR T (ix2 r j)
  | 0, h, hr => absurd hr (Nat.not_lt_zero _)
  | n + 1, h, hr => by
    unfold cPieces
    by_cases e : r.val < 256 * n
    · rw [View.canon_cons_of_not_mem]
      · exact cPieces_canon N R hR T r j n (by omega) e
      · rw [Rect.mem_set_unit]
        intro hc
        have h1 : 256 * n ≤ r.val := (hc (0 : Fin 2)).1
        omega
    · obtain ⟨r, hr'⟩ := r
      dsimp only at e hr
      have hm : r - 256 * n < 256 := by omega
      generalize hp : r - 256 * n = p at hm
      obtain rfl : r = 256 * n + p := by omega
      have : (ix2 ⟨256 * n + p, hr'⟩ j : (⟨2, ![R, 256]⟩ : Shape).Idx)
          = (Rect.unit (s := ⟨2, ![R, 256]⟩) ![256 * n, 0] S256x256.size (by
            intro a; match a with | ⟨0, _⟩ => show 256 * n + 256 ≤ R; omega | ⟨1, _⟩ => show 0 + 256 ≤ 256; omega)).emb
              (ix2 (n0 := 256) (n1 := 256) ⟨p, hm⟩ j) := by
        funext a
        refine Fin.ext ?_
        match a with
        | ⟨0, _⟩ => show 256 * n + p = 256 * n + 1 * p; omega
        | ⟨1, _⟩ => show j.val = 0 + 1 * j.val; omega
      rw [this, View.canon_cons_emb, ← this, cStack_apply]
      have e1 : (256 * n + p) / 256 = n := by omega
      have e2 : (256 * n + p) % 256 = p := by omega
      simp only [e1, e2]

theorem cExp_apply (v : FVec Ideal S1x256 .f32) (j : Fin 256) (h0 : 0 ≤ v (ix2 0 j)) :
    cExp v (ix2 0 j) = BitVec.ofNat 32 (expField (v (ix2 0 j))) := by
  unfold cExp
  pointwise
  exact fold_maxsi _ h0 _ fun k => rfl

theorem cScale_apply (v : FVec Ideal S1x256 .f32) (j : Fin 256) (h0 : 0 ≤ v (ix2 0 j)) :
    cScale v (ix2 0 j) = kScale (v (ix2 0 j)) := by
  unfold cScale
  pointwise
  rw [cExp_apply v j h0, select_up _ (expField_le _), shl23]
  rfl

theorem cInv_apply (v : FVec Ideal S1x256 .f32) (j : Fin 256) (h0 : 0 ≤ v (ix2 0 j)) (h1 : expField (v (ix2 0 j)) ≤ 253) :
    cInv v (ix2 0 j) = kInv (v (ix2 0 j)) := by
  unfold cInv
  pointwise
  rw [cExp_apply v j h0, select_down _ h1, shl23]
  rfl

theorem cQuot_apply (w : BitVec 32) (a : FVec Ideal S1x256 .f32) (j : Fin 256) :
    cQuot w a (ix2 0 j) = a (ix2 0 j) * Ideal.ofBits .f32 w * c448 := by
  unfold cQuot
  pointwise
  rfl

/-! ## Over rows -/

/-- One tile's two halves joined to the running lane maxima. -/
def rMax (a : FVec Ideal S128x128 .f32) (T : FVec Ideal S128x256 .f32) : FVec Ideal S128x128 .f32 :=
  maximumf a (maximumf (extractStridedSlice S128x128 ![0, 0] (absf T) slices_S128x256_o0_0_S128x128)
    (extractStridedSlice S128x128 ![0, 128] (absf T) slices_S128x256_o0_128_S128x128))

/-- The running lane maxima after the first `n` tiles. -/
def rChain (N : ℕ) (T : Fin N → FVec Ideal S128x256 .f32) : (n : ℕ) → n ≤ N → FVec Ideal S128x128 .f32
  | 0, _ => broadcast S128x128 (Scalar.ofBits (F := Ideal) .f32 0x00000000#32)
  | n + 1, h => rMax (rChain N T n (by omega)) (T ⟨n, by omega⟩)

/-- The row maxima of the lane maxima. -/
def rTop (a : FVec Ideal S128x128 .f32) : FVec Ideal S128x1 .f32 :=
  shapeCast S128x1 (multiReduction .maximumf [1] S128 a 0xFF800000#32 reduces_S128x128_S128 (.inl rfl) rfl) shapeCasts_S128_S128x1

/-- The exponent field of each row's quotient. -/
def rExp (v : FVec Ideal S128x1 .f32) : IVec S128x1 32 :=
  shapeCast S128x1
    (multiReductionI .maxsi [1] S128
      (select (cmpf .oge (broadcastTo S128x256 v broadcasts_S128x1_S128x256)
          (bitcastToFloat .f32 (shli (iota .tc S128x256 32 [1] iota_S128x256_d1_w32) (broadcast S128x256 23#32))))
        (iota .tc S128x256 32 [1] iota_S128x256_d1_w32) (broadcast S128x256 0#32))
      2147483648#32 reduces_S128x256_S128 rfl)
    shapeCasts_S128_S128x1

/-- The scale of each row. -/
def rScale (v : FVec Ideal S128x1 .f32) : FVec Ideal S128x1 .f32 :=
  bitcastToFloat .f32 (shli (select (cmpi .eq (rExp v) (broadcast S128x1 0#32)) (broadcast S128x1 127#32) (addi (rExp v) (broadcast S128x1 1#32)))
    (broadcast S128x1 23#32))

/-- The scale's reciprocal of each row. -/
def rInv (v : FVec Ideal S128x1 .f32) : FVec Ideal S128x1 .f32 :=
  bitcastToFloat .f32 (shli (select (cmpi .eq (rExp v) (broadcast S128x1 0#32)) (broadcast S128x1 127#32) (subi (broadcast S128x1 253#32) (rExp v)))
    (broadcast S128x1 23#32))

/-- The quotient the exponent is taken of: the maxima times the Hadamard scale times one over 448. -/
def rQuot (w : BitVec 32) (a : FVec Ideal S128x1 .f32) : FVec Ideal S128x1 .f32 :=
  mulf (mulf a (broadcast S128x1 (Scalar.ofBits (F := Ideal) .f32 w))) (broadcast S128x1 (Scalar.ofBits (F := Ideal) .f32 0x3B124925#32))

theorem rMax_apply (a T) (i l : Fin 128) : rMax a T (ix2 i l)
    = max (a (ix2 i l)) (max (mag (T (ix2 i ⟨l.val, by omega⟩))) (mag (T (ix2 i ⟨128 + l.val, by omega⟩)))) := by
  unfold rMax
  pointwise
  rfl

/-- The running maxima after `n` tiles are at most `b` iff `b` is nonnegative and every entry of those tiles' lane pairs is. -/
theorem rChain_le (N : ℕ) (T : Fin N → FVec Ideal S128x256 .f32) (i l : Fin 128) (b : EReal) : ∀ (n : ℕ) (h : n ≤ N),
    rChain N T n h (ix2 i l) ≤ b ↔ 0 ≤ b ∧ ∀ k : Fin N, k.val < n →
      mag (T k (ix2 i ⟨l.val, by omega⟩)) ≤ b ∧ mag (T k (ix2 i ⟨128 + l.val, by omega⟩)) ≤ b
  | 0, h => by
    unfold rChain
    pointwise
    exact ⟨fun hb => ⟨hb, fun k hk => absurd hk (Nat.not_lt_zero _)⟩, fun hb => hb.1⟩
  | n + 1, h => by
    unfold rChain
    rw [rMax_apply, max_le_iff, rChain_le N T i l b n, max_le_iff]
    constructor
    · rintro ⟨⟨h0, h1⟩, h2⟩
      refine ⟨h0, fun k hk => ?_⟩
      by_cases e : k.val = n
      · have : k = ⟨n, by omega⟩ := Fin.ext e
        rw [this]; exact h2
      · exact h1 k (by omega)
    · rintro ⟨h0, h1⟩
      exact ⟨⟨h0, fun k hk => h1 k (by omega)⟩, h1 ⟨n, by omega⟩ (Nat.lt_succ_self n)⟩

/-- The array whose columns are the tiles' columns in order. -/
def rStack (N R : ℕ) (hR : R = N * 256) (T : Fin N → FVec Ideal S128x256 .f32) : FVec Ideal ⟨2, ![128, R]⟩ .f32 :=
  fun y => T ⟨(y 1).val / 256, by have := (y 1).isLt; simp only [Matrix.cons_val_one, Matrix.cons_val_zero] at this; omega⟩
    (ix2 (n0 := 128) (n1 := 256) (y 0) ⟨(y 1).val % 256, by omega⟩)

theorem rStack_apply (N R : ℕ) (hR : R = N * 256) (T : Fin N → FVec Ideal S128x256 .f32) (i : Fin 128) (r : Fin R) :
    rStack N R hR T (ix2 i r) = T ⟨r.val / 256, by have := r.isLt; omega⟩ (ix2 i ⟨r.val % 256, by omega⟩) := rfl

theorem rTop_apply (a : FVec Ideal S128x128 .f32) (i : Fin 128) :
    rTop a (ix2 i 0) = Finset.univ.fold max ⊥ fun l : Fin 128 => a (ix2 i l) := by
  unfold rTop
  pointwise
  rw [neg_inf]

/-- After all tiles the rows' maxima are the rows' largest magnitudes. -/
theorem rChain_eq (N R : ℕ) (hN : 0 < N) (hR : R = N * 256) (T : Fin N → FVec Ideal S128x256 .f32) (i : Fin 128) :
    rTop (rChain N T N le_rfl) (ix2 i 0) = amax (fun r : Fin R => rStack N R hR T (ix2 i r)) := by
  haveI : Nonempty (Fin R) := ⟨⟨0, by omega⟩⟩
  refine eq_amax_zero _ _ fun b => ?_
  rw [rTop_apply, Finset.fold_max_le]
  constructor
  · rintro ⟨-, h⟩
    refine ⟨((rChain_le N T i 0 b N le_rfl).mp (h 0 (Finset.mem_univ _))).1, fun r => ?_⟩
    rw [rStack_apply]
    by_cases hl : r.val % 256 < 128
    · exact (((rChain_le N T i ⟨r.val % 256, hl⟩ b N le_rfl).mp (h _ (Finset.mem_univ _))).2 _ (Fin.isLt _)).1
    · have := (((rChain_le N T i ⟨r.val % 256 - 128, by omega⟩ b N le_rfl).mp (h _ (Finset.mem_univ _))).2
        ⟨r.val / 256, by have := r.isLt; omega⟩ (Fin.isLt _)).2
      have e : 128 + (r.val % 256 - 128) = r.val % 256 := by omega
      simpa only [e] using this
  · rintro ⟨h0, h⟩
    refine ⟨bot_le, fun l _ => (rChain_le N T i l b N le_rfl).mpr ⟨h0, fun k hk => ?_⟩⟩
    have key : ∀ q : Fin 256, mag (T k (ix2 i q)) ≤ b := fun q => by
      have hq := q.isLt
      have e := h ⟨k.val * 256 + q.val, by have := k.isLt; subst hR; omega⟩
      rw [rStack_apply] at e
      have e1 : (k.val * 256 + q.val) / 256 = k.val := by omega
      have e2 : (k.val * 256 + q.val) % 256 = q.val := by omega
      simpa only [e1, e2] using e
    exact ⟨key _, key _⟩

/-- The stores of the first `n` tiles, last first. -/
def rPieces (N R : ℕ) (hR : R = N * 256) (T : Fin N → FVec Ideal S128x256 .f32) : (n : ℕ) → n ≤ N →
    List (View.Piece (Elt Ideal) ⟨2, ![128, R]⟩ .f32)
  | 0, _ => []
  | n + 1, h => ⟨Rect.unit (s := ⟨2, ![128, R]⟩) ![0, 256 * n] S128x256.size (by
      intro a; match a with | ⟨0, _⟩ => show 0 + 128 ≤ 128; omega | ⟨1, _⟩ => show 256 * n + 256 ≤ R; omega), T ⟨n, by omega⟩⟩
      :: rPieces N R hR T n (by omega)

/-- Where the first `n` tiles reach, the stores leave the stacked array. -/
theorem rPieces_canon (N R : ℕ) (hR : R = N * 256) (T : Fin N → FVec Ideal S128x256 .f32) (i : Fin 128) (r : Fin R) : ∀ (n : ℕ) (h : n ≤ N),
    r.val < 256 * n → View.canon (rPieces N R hR T n h) (ix2 i r) = rStack N R hR T (ix2 i r)
  | 0, h, hr => absurd hr (Nat.not_lt_zero _)
  | n + 1, h, hr => by
    unfold rPieces
    by_cases e : r.val < 256 * n
    · rw [View.canon_cons_of_not_mem]
      · exact rPieces_canon N R hR T i r n (by omega) e
      · rw [Rect.mem_set_unit]
        intro hc
        have h1 : 256 * n ≤ r.val := (hc (1 : Fin 2)).1
        omega
    · obtain ⟨r, hr'⟩ := r
      dsimp only at e hr
      have hm : r - 256 * n < 256 := by omega
      generalize hp : r - 256 * n = p at hm
      obtain rfl : r = 256 * n + p := by omega
      have : (ix2 i ⟨256 * n + p, hr'⟩ : (⟨2, ![128, R]⟩ : Shape).Idx)
          = (Rect.unit (s := ⟨2, ![128, R]⟩) ![0, 256 * n] S128x256.size (by
            intro a; match a with | ⟨0, _⟩ => show 0 + 128 ≤ 128; omega | ⟨1, _⟩ => show 256 * n + 256 ≤ R; omega)).emb
              (ix2 (n0 := 128) (n1 := 256) i ⟨p, hm⟩) := by
        funext a
        refine Fin.ext ?_
        match a with
        | ⟨0, _⟩ => show i.val = 0 + 1 * i.val; omega
        | ⟨1, _⟩ => show 256 * n + p = 256 * n + 1 * p; omega
      rw [this, View.canon_cons_emb, ← this, rStack_apply]
      have e1 : (256 * n + p) / 256 = n := by omega
      have e2 : (256 * n + p) % 256 = p := by omega
      simp only [e1, e2]

theorem rExp_apply (v : FVec Ideal S128x1 .f32) (i : Fin 128) (h0 : 0 ≤ v (ix2 i 0)) :
    rExp v (ix2 i 0) = BitVec.ofNat 32 (expField (v (ix2 i 0))) := by
  unfold rExp
  pointwise
  exact fold_maxsi _ h0 _ fun k => rfl

theorem rScale_apply (v : FVec Ideal S128x1 .f32) (i : Fin 128) (h0 : 0 ≤ v (ix2 i 0)) :
    rScale v (ix2 i 0) = kScale (v (ix2 i 0)) := by
  unfold rScale
  pointwise
  rw [rExp_apply v i h0, select_up _ (expField_le _), shl23]
  rfl

theorem rInv_apply (v : FVec Ideal S128x1 .f32) (i : Fin 128) (h0 : 0 ≤ v (ix2 i 0)) (h1 : expField (v (ix2 i 0)) ≤ 253) :
    rInv v (ix2 i 0) = kInv (v (ix2 i 0)) := by
  unfold rInv
  pointwise
  rw [rExp_apply v i h0, select_down _ h1, shl23]
  rfl

theorem rQuot_apply (w : BitVec 32) (a : FVec Ideal S128x1 .f32) (i : Fin 128) :
    rQuot w a (ix2 i 0) = a (ix2 i 0) * Ideal.ofBits .f32 w * c448 := by
  unfold rQuot
  pointwise
  rfl

end Cert.Forms

end

end
-- ==== Proof.RefQuant.lean ====
/- The reference's quantiser, entry by entry: the largest magnitude of each column or row, the exponent, the scale and the code. -/
module

public import proofs.«01_k».proof.Proof.HostVals
public import proofs.«01_k».proof.Proof.Forms
public import Idealize.ShloMosaic.Lib.IdealHost

@[expose] public section

set_option maxRecDepth 16384

noncomputable section

namespace Cert.RefQuant

open Idealize.ShloMosaic
open Cert.ReferenceIdeal Cert.ReferenceIdeal.Gen Cert.HostVals Cert.Quant Cert.Scale

/-- The largest magnitude of a column. -/
theorem colMax (M n : ℕ) (hr : (⟨2, ![M, n]⟩ : Shape).ReducesTo [0] ⟨1, ![n]⟩) (x : FVec Ideal ⟨2, ![M, n]⟩ .f32) (y : (⟨1, ![n]⟩ : Shape).Idx) :
    Host.reduce FloatOps.maximumf (Host.absf x) (constant (F := Ideal) S_ .f32 0xFF800000#32) hr h_S_ y = amax (fun r : Fin M => x (ix2 r (y 0))) := by
  apply eq_amax
  intro b
  rw [Host.reduce_eq_fold]
  change Finset.fold max (Ideal.ofBits .f32 0xFF800000#32) (fun i => max (x i) (-x i)) _ ≤ b ↔ _
  rw [Cert.Forms.neg_inf, Finset.fold_max_le]
  constructor
  · rintro ⟨_, h⟩ r
    refine h (ix2 r (y 0)) (Finset.mem_filter.mpr ⟨Finset.mem_univ _, ?_⟩)
    funext a
    obtain rfl : a = 0 := Subsingleton.elim _ _
    rfl
  · intro h
    refine ⟨bot_le, fun i hi => ?_⟩
    have e := (Finset.mem_filter.mp hi).2
    have : i = ix2 (i 0) (y 0) := by
      rw [← e]
      exact (ix2_eta i).symm
    rw [this]
    exact h _

/-- The largest magnitude of a row. -/
theorem rowMax (m N : ℕ) (hr : (⟨2, ![m, N]⟩ : Shape).ReducesTo [1] ⟨1, ![m]⟩) (x : FVec Ideal ⟨2, ![m, N]⟩ .f32) (y : (⟨1, ![m]⟩ : Shape).Idx) :
    Host.reduce FloatOps.maximumf (Host.absf x) (constant (F := Ideal) S_ .f32 0xFF800000#32) hr h_S_ y = amax (fun r : Fin N => x (ix2 (y 0) r)) := by
  apply eq_amax
  intro b
  rw [Host.reduce_eq_fold]
  change Finset.fold max (Ideal.ofBits .f32 0xFF800000#32) (fun i => max (x i) (-x i)) _ ≤ b ↔ _
  rw [Cert.Forms.neg_inf, Finset.fold_max_le]
  constructor
  · rintro ⟨_, h⟩ r
    refine h (ix2 (y 0) r) (Finset.mem_filter.mpr ⟨Finset.mem_univ _, ?_⟩)
    funext a
    obtain rfl : a = 0 := Subsingleton.elim _ _
    rfl
  · intro h
    refine ⟨bot_le, fun i hi => ?_⟩
    have e := (Finset.mem_filter.mp hi).2
    have : i = ix2 (y 0) (i 1) := by
      rw [← e]
      exact (ix2_eta i).symm
    rw [this]
    exact h _

/-- A column's quotient. -/
theorem colQuot_apply (M n : ℕ) (hr : (⟨2, ![M, n]⟩ : Shape).ReducesTo [0] ⟨1, ![n]⟩) (h1 : (⟨1, ![n]⟩ : Shape).BroadcastsInDim ⟨2, ![1, n]⟩ ![1])
    (h : S_.BroadcastsInDim ⟨2, ![1, n]⟩ ![]) (x : FVec Ideal ⟨2, ![M, n]⟩ .f32) (j : Fin n) :
    colQuot M n hr h1 h x (ix2 0 j) = amax (fun r => x (ix2 r j)) * c448 := by
  have e : broadcastInDim ⟨2, ![1, n]⟩ ![1] h1 (Host.reduce FloatOps.maximumf (Host.absf x) (constant (F := Ideal) S_ .f32 0xFF800000#32) hr h_S_) (ix2 0 j)
      = amax (fun r => x (ix2 r j)) := by
    rw [broadcastInDim_apply (k := ix1 j), colMax]
    · rfl
    · intro a
      obtain rfl : a = 0 := Subsingleton.elim _ _
      show j.val = if n = 1 then 0 else j.val
      split
      · omega
      · rfl
  exact congrArg (· * c448) e

/-- A row's quotient. -/
theorem rowQuot_apply (m N : ℕ) (hr : (⟨2, ![m, N]⟩ : Shape).ReducesTo [1] ⟨1, ![m]⟩) (h1 : (⟨1, ![m]⟩ : Shape).BroadcastsInDim ⟨2, ![m, 1]⟩ ![0])
    (h : S_.BroadcastsInDim ⟨2, ![m, 1]⟩ ![]) (x : FVec Ideal ⟨2, ![m, N]⟩ .f32) (i : Fin m) :
    rowQuot m N hr h1 h x (ix2 i 0) = amax (fun r => x (ix2 i r)) * c448 := by
  have e : broadcastInDim ⟨2, ![m, 1]⟩ ![0] h1 (Host.reduce FloatOps.maximumf (Host.absf x) (constant (F := Ideal) S_ .f32 0xFF800000#32) hr h_S_) (ix2 i 0)
      = amax (fun r => x (ix2 i r)) := by
    rw [broadcastInDim_apply (k := ix1 i), rowMax]
    · rfl
    · intro a
      obtain rfl : a = 0 := Subsingleton.elim _ _
      show i.val = if m = 1 then 0 else i.val
      split
      · omega
      · rfl
  exact congrArg (· * c448) e

/-- The exponent of a quotient. -/
theorem exps_apply (T : Shape) (h : S_.BroadcastsInDim T ![]) (q : FVec Ideal T .f32) (y : T.Idx) : exps T h q y = refExp (q y) := by
  show (if Ideal.cmp .olt (q y) (Ideal.ofBits .f32 0x00800000#32) = 1 then Ideal.ofBits .f32 0x00000000#32
    else Ideal.liftRound Int.floor (Ideal.div (Ideal.log (q y)) (Ideal.log (Ideal.ofBits .f32 0x40000000#32))) + Ideal.ofBits .f32 0x3F800000#32) = refExp (q y)
  unfold refExp Ideal.cmp
  by_cases hq : q y < Ideal.ofBits .f32 0x00800000#32 <;> simp [hq]

/-- The scale of an exponent. -/
theorem pows_apply (T : Shape) (h : S_.BroadcastsInDim T ![]) (e : FVec Ideal T .f32) (y : T.Idx) :
    pows T h e y = Ideal.pow (Ideal.ofBits .f32 0x40000000#32) (e y) := rfl

/-- The code of an array quantised by column. -/
theorem coded_col (M n : ℕ) (hU : S_.BroadcastsInDim ⟨2, ![1, n]⟩ ![]) (hT : S_.BroadcastsInDim ⟨2, ![M, n]⟩ ![])
    (hd : (⟨2, ![1, n]⟩ : Shape).BroadcastsInDim ⟨2, ![M, n]⟩ ![0, 1]) (x : FVec Ideal ⟨2, ![M, n]⟩ .f32) (e : FVec Ideal ⟨2, ![1, n]⟩ .f32) (r : Fin M) (j : Fin n) :
    coded ⟨2, ![M, n]⟩ ⟨2, ![1, n]⟩ ![0, 1] hU hT hd x e (ix2 r j)
      = min (Ideal.ofBits .f32 0x43E00000#32) (max (Ideal.ofBits .f32 0xC3E00000#32) (x (ix2 r j) * Ideal.pow (Ideal.ofBits .f32 0x40000000#32) (-e (ix2 0 j)))) := by
  have b : broadcastInDim ⟨2, ![M, n]⟩ ![0, 1] hd (pows ⟨2, ![1, n]⟩ hU (Host.negf e)) (ix2 r j) = Ideal.pow (Ideal.ofBits .f32 0x40000000#32) (-e (ix2 0 j)) := by
    rw [broadcastInDim_apply (k := ix2 0 j)]
    · rfl
    · intro a
      fin_cases a
      · rfl
      · show j.val = if n = 1 then 0 else j.val
        split
        · omega
        · rfl
  rw [← b]
  rfl

/-- The code of an array quantised by row. -/
theorem coded_row (m N : ℕ) (hU : S_.BroadcastsInDim ⟨2, ![m, 1]⟩ ![]) (hT : S_.BroadcastsInDim ⟨2, ![m, N]⟩ ![])
    (hd : (⟨2, ![m, 1]⟩ : Shape).BroadcastsInDim ⟨2, ![m, N]⟩ ![0, 1]) (x : FVec Ideal ⟨2, ![m, N]⟩ .f32) (e : FVec Ideal ⟨2, ![m, 1]⟩ .f32) (i : Fin m) (r : Fin N) :
    coded ⟨2, ![m, N]⟩ ⟨2, ![m, 1]⟩ ![0, 1] hU hT hd x e (ix2 i r)
      = min (Ideal.ofBits .f32 0x43E00000#32) (max (Ideal.ofBits .f32 0xC3E00000#32) (x (ix2 i r) * Ideal.pow (Ideal.ofBits .f32 0x40000000#32) (-e (ix2 i 0)))) := by
  have b : broadcastInDim ⟨2, ![m, N]⟩ ![0, 1] hd (pows ⟨2, ![m, 1]⟩ hU (Host.negf e)) (ix2 i r) = Ideal.pow (Ideal.ofBits .f32 0x40000000#32) (-e (ix2 i 0)) := by
    rw [broadcastInDim_apply (k := ix2 i 0)]
    · rfl
    · intro a
      fin_cases a
      · show i.val = if m = 1 then 0 else i.val
        split
        · omega
        · rfl
      · rfl
  rw [← b]
  rfl

end Cert.RefQuant

end
end
-- ==== Proof.TableBits.lean ====
/- The kernel's two constant tables, entry by entry: the printed tables look an entry up by the base-128 digits of its index, and each
   lookup is the parity formula. -/
module

public import proofs.«01_k».proof.KernelIdeal

@[expose] public section

set_option maxRecDepth 65536
set_option maxHeartbeats 4000000

noncomputable section

namespace Cert.Tables

/-- The parity of the bits of a number below 256. -/
def par (x : ℕ) : ℕ :=
  let y := x ^^^ (x >>> 4)
  let z := y ^^^ (y >>> 2)
  (z ^^^ (z >>> 1)) % 2

/-- The output table's pattern at flat index `i`: one or minus one in bfloat16. -/
def pat0 (i : ℕ) : ℕ := bif Nat.beq (par (Nat.land (i / 256) (i % 256))) 0 then 16256 else 49024

/-- The token table's pattern at flat index `i`: one or minus one on the diagonal blocks, zero or minus zero off them. -/
def pat1 (i : ℕ) : ℕ :=
  bif Nat.beq (i / 32768) (i % 256 / 128) then (bif Nat.beq (par (Nat.land (i / 256 % 128) (i % 128))) 0 then 16256 else 49024)
  else (bif Nat.beq (par (Nat.land (i / 256 % 128) (i % 128))) 0 then 0 else 32768)

/-- A lookup by one base-128 digit. -/
abbrev look (x : ℕ)
    (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127 : BitVec 16) : BitVec 16 :=
  Cert.KernelIdeal.lit0t0_348.match_1 (fun _ => BitVec 16) x
    (fun _ => c0) (fun _ => c1) (fun _ => c2) (fun _ => c3) (fun _ => c4) (fun _ => c5) (fun _ => c6) (fun _ => c7)
    (fun _ => c8) (fun _ => c9) (fun _ => c10) (fun _ => c11) (fun _ => c12) (fun _ => c13) (fun _ => c14) (fun _ => c15)
    (fun _ => c16) (fun _ => c17) (fun _ => c18) (fun _ => c19) (fun _ => c20) (fun _ => c21) (fun _ => c22) (fun _ => c23)
    (fun _ => c24) (fun _ => c25) (fun _ => c26) (fun _ => c27) (fun _ => c28) (fun _ => c29) (fun _ => c30) (fun _ => c31)
    (fun _ => c32) (fun _ => c33) (fun _ => c34) (fun _ => c35) (fun _ => c36) (fun _ => c37) (fun _ => c38) (fun _ => c39)
    (fun _ => c40) (fun _ => c41) (fun _ => c42) (fun _ => c43) (fun _ => c44) (fun _ => c45) (fun _ => c46) (fun _ => c47)
    (fun _ => c48) (fun _ => c49) (fun _ => c50) (fun _ => c51) (fun _ => c52) (fun _ => c53) (fun _ => c54) (fun _ => c55)
    (fun _ => c56) (fun _ => c57) (fun _ => c58) (fun _ => c59) (fun _ => c60) (fun _ => c61) (fun _ => c62) (fun _ => c63)
    (fun _ => c64) (fun _ => c65) (fun _ => c66) (fun _ => c67) (fun _ => c68) (fun _ => c69) (fun _ => c70) (fun _ => c71)
    (fun _ => c72) (fun _ => c73) (fun _ => c74) (fun _ => c75) (fun _ => c76) (fun _ => c77) (fun _ => c78) (fun _ => c79)
    (fun _ => c80) (fun _ => c81) (fun _ => c82) (fun _ => c83) (fun _ => c84) (fun _ => c85) (fun _ => c86) (fun _ => c87)
    (fun _ => c88) (fun _ => c89) (fun _ => c90) (fun _ => c91) (fun _ => c92) (fun _ => c93) (fun _ => c94) (fun _ => c95)
    (fun _ => c96) (fun _ => c97) (fun _ => c98) (fun _ => c99) (fun _ => c100) (fun _ => c101) (fun _ => c102) (fun _ => c103)
    (fun _ => c104) (fun _ => c105) (fun _ => c106) (fun _ => c107) (fun _ => c108) (fun _ => c109) (fun _ => c110) (fun _ => c111)
    (fun _ => c112) (fun _ => c113) (fun _ => c114) (fun _ => c115) (fun _ => c116) (fun _ => c117) (fun _ => c118) (fun _ => c119)
    (fun _ => c120) (fun _ => c121) (fun _ => c122) (fun _ => c123) (fun _ => c124) (fun _ => c125) (fun _ => c126) (fun _ => c127)
    (fun _ => 0#16)

/-- A property of every entry holds of the one looked up. -/
theorem look_all (P : ℕ → BitVec 16 → Prop)
    (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127 : BitVec 16)
    (h0 : P 0 c0) (h1 : P 1 c1) (h2 : P 2 c2) (h3 : P 3 c3) (h4 : P 4 c4) (h5 : P 5 c5) (h6 : P 6 c6) (h7 : P 7 c7)
    (h8 : P 8 c8) (h9 : P 9 c9) (h10 : P 10 c10) (h11 : P 11 c11) (h12 : P 12 c12) (h13 : P 13 c13) (h14 : P 14 c14) (h15 : P 15 c15)
    (h16 : P 16 c16) (h17 : P 17 c17) (h18 : P 18 c18) (h19 : P 19 c19) (h20 : P 20 c20) (h21 : P 21 c21) (h22 : P 22 c22) (h23 : P 23 c23)
    (h24 : P 24 c24) (h25 : P 25 c25) (h26 : P 26 c26) (h27 : P 27 c27) (h28 : P 28 c28) (h29 : P 29 c29) (h30 : P 30 c30) (h31 : P 31 c31)
    (h32 : P 32 c32) (h33 : P 33 c33) (h34 : P 34 c34) (h35 : P 35 c35) (h36 : P 36 c36) (h37 : P 37 c37) (h38 : P 38 c38) (h39 : P 39 c39)
    (h40 : P 40 c40) (h41 : P 41 c41) (h42 : P 42 c42) (h43 : P 43 c43) (h44 : P 44 c44) (h45 : P 45 c45) (h46 : P 46 c46) (h47 : P 47 c47)
    (h48 : P 48 c48) (h49 : P 49 c49) (h50 : P 50 c50) (h51 : P 51 c51) (h52 : P 52 c52) (h53 : P 53 c53) (h54 : P 54 c54) (h55 : P 55 c55)
    (h56 : P 56 c56) (h57 : P 57 c57) (h58 : P 58 c58) (h59 : P 59 c59) (h60 : P 60 c60) (h61 : P 61 c61) (h62 : P 62 c62) (h63 : P 63 c63)
    (h64 : P 64 c64) (h65 : P 65 c65) (h66 : P 66 c66) (h67 : P 67 c67) (h68 : P 68 c68) (h69 : P 69 c69) (h70 : P 70 c70) (h71 : P 71 c71)
    (h72 : P 72 c72) (h73 : P 73 c73) (h74 : P 74 c74) (h75 : P 75 c75) (h76 : P 76 c76) (h77 : P 77 c77) (h78 : P 78 c78) (h79 : P 79 c79)
    (h80 : P 80 c80) (h81 : P 81 c81) (h82 : P 82 c82) (h83 : P 83 c83) (h84 : P 84 c84) (h85 : P 85 c85) (h86 : P 86 c86) (h87 : P 87 c87)
    (h88 : P 88 c88) (h89 : P 89 c89) (h90 : P 90 c90) (h91 : P 91 c91) (h92 : P 92 c92) (h93 : P 93 c93) (h94 : P 94 c94) (h95 : P 95 c95)
    (h96 : P 96 c96) (h97 : P 97 c97) (h98 : P 98 c98) (h99 : P 99 c99) (h100 : P 100 c100) (h101 : P 101 c101) (h102 : P 102 c102) (h103 : P 103 c103)
    (h104 : P 104 c104) (h105 : P 105 c105) (h106 : P 106 c106) (h107 : P 107 c107) (h108 : P 108 c108) (h109 : P 109 c109) (h110 : P 110 c110) (h111 : P 111 c111)
    (h112 : P 112 c112) (h113 : P 113 c113) (h114 : P 114 c114) (h115 : P 115 c115) (h116 : P 116 c116) (h117 : P 117 c117) (h118 : P 118 c118) (h119 : P 119 c119)
    (h120 : P 120 c120) (h121 : P 121 c121) (h122 : P 122 c122) (h123 : P 123 c123) (h124 : P 124 c124) (h125 : P 125 c125) (h126 : P 126 c126) (h127 : P 127 c127)
    (x : ℕ) (hx : x < 128) : P x (look x
      c0 c1 c2 c3 c4 c5 c6 c7 c8 c9 c10 c11 c12 c13 c14 c15
      c16 c17 c18 c19 c20 c21 c22 c23 c24 c25 c26 c27 c28 c29 c30 c31
      c32 c33 c34 c35 c36 c37 c38 c39 c40 c41 c42 c43 c44 c45 c46 c47
      c48 c49 c50 c51 c52 c53 c54 c55 c56 c57 c58 c59 c60 c61 c62 c63
      c64 c65 c66 c67 c68 c69 c70 c71 c72 c73 c74 c75 c76 c77 c78 c79
      c80 c81 c82 c83 c84 c85 c86 c87 c88 c89 c90 c91 c92 c93 c94 c95
      c96 c97 c98 c99 c100 c101 c102 c103 c104 c105 c106 c107 c108 c109 c110 c111
      c112 c113 c114 c115 c116 c117 c118 c119 c120 c121 c122 c123 c124 c125 c126 c127) :=
  match x, hx with
  | 0, _ => h0
  | 1, _ => h1
  | 2, _ => h2
  | 3, _ => h3
  | 4, _ => h4
  | 5, _ => h5
  | 6, _ => h6
  | 7, _ => h7
  | 8, _ => h8
  | 9, _ => h9
  | 10, _ => h10
  | 11, _ => h11
  | 12, _ => h12
  | 13, _ => h13
  | 14, _ => h14
  | 15, _ => h15
  | 16, _ => h16
  | 17, _ => h17
  | 18, _ => h18
  | 19, _ => h19
  | 20, _ => h20
  | 21, _ => h21
  | 22, _ => h22
  | 23, _ => h23
  | 24, _ => h24
  | 25, _ => h25
  | 26, _ => h26
  | 27, _ => h27
  | 28, _ => h28
  | 29, _ => h29
  | 30, _ => h30
  | 31, _ => h31
  | 32, _ => h32
  | 33, _ => h33
  | 34, _ => h34
  | 35, _ => h35
  | 36, _ => h36
  | 37, _ => h37
  | 38, _ => h38
  | 39, _ => h39
  | 40, _ => h40
  | 41, _ => h41
  | 42, _ => h42
  | 43, _ => h43
  | 44, _ => h44
  | 45, _ => h45
  | 46, _ => h46
  | 47, _ => h47
  | 48, _ => h48
  | 49, _ => h49
  | 50, _ => h50
  | 51, _ => h51
  | 52, _ => h52
  | 53, _ => h53
  | 54, _ => h54
  | 55, _ => h55
  | 56, _ => h56
  | 57, _ => h57
  | 58, _ => h58
  | 59, _ => h59
  | 60, _ => h60
  | 61, _ => h61
  | 62, _ => h62
  | 63, _ => h63
  | 64, _ => h64
  | 65, _ => h65
  | 66, _ => h66
  | 67, _ => h67
  | 68, _ => h68
  | 69, _ => h69
  | 70, _ => h70
  | 71, _ => h71
  | 72, _ => h72
  | 73, _ => h73
  | 74, _ => h74
  | 75, _ => h75
  | 76, _ => h76
  | 77, _ => h77
  | 78, _ => h78
  | 79, _ => h79
  | 80, _ => h80
  | 81, _ => h81
  | 82, _ => h82
  | 83, _ => h83
  | 84, _ => h84
  | 85, _ => h85
  | 86, _ => h86
  | 87, _ => h87
  | 88, _ => h88
  | 89, _ => h89
  | 90, _ => h90
  | 91, _ => h91
  | 92, _ => h92
  | 93, _ => h93
  | 94, _ => h94
  | 95, _ => h95
  | 96, _ => h96
  | 97, _ => h97
  | 98, _ => h98
  | 99, _ => h99
  | 100, _ => h100
  | 101, _ => h101
  | 102, _ => h102
  | 103, _ => h103
  | 104, _ => h104
  | 105, _ => h105
  | 106, _ => h106
  | 107, _ => h107
  | 108, _ => h108
  | 109, _ => h109
  | 110, _ => h110
  | 111, _ => h111
  | 112, _ => h112
  | 113, _ => h113
  | 114, _ => h114
  | 115, _ => h115
  | 116, _ => h116
  | 117, _ => h117
  | 118, _ => h118
  | 119, _ => h119
  | 120, _ => h120
  | 121, _ => h121
  | 122, _ => h122
  | 123, _ => h123
  | 124, _ => h124
  | 125, _ => h125
  | 126, _ => h126
  | 127, _ => h127
  | n + 128, h => absurd h (by omega)

/-- The check of 128 entries from flat index `b` on. -/
abbrev check (f : ℕ → ℕ) (b : ℕ)
    (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127 : BitVec 16) : Bool :=
      Nat.beq c0.toNat (f (Nat.add b 0)) && Nat.beq c1.toNat (f (Nat.add b 1)) && Nat.beq c2.toNat (f (Nat.add b 2)) && Nat.beq c3.toNat (f (Nat.add b 3)) &&
      Nat.beq c4.toNat (f (Nat.add b 4)) && Nat.beq c5.toNat (f (Nat.add b 5)) && Nat.beq c6.toNat (f (Nat.add b 6)) && Nat.beq c7.toNat (f (Nat.add b 7)) &&
      Nat.beq c8.toNat (f (Nat.add b 8)) && Nat.beq c9.toNat (f (Nat.add b 9)) && Nat.beq c10.toNat (f (Nat.add b 10)) && Nat.beq c11.toNat (f (Nat.add b 11)) &&
      Nat.beq c12.toNat (f (Nat.add b 12)) && Nat.beq c13.toNat (f (Nat.add b 13)) && Nat.beq c14.toNat (f (Nat.add b 14)) && Nat.beq c15.toNat (f (Nat.add b 15)) &&
      Nat.beq c16.toNat (f (Nat.add b 16)) && Nat.beq c17.toNat (f (Nat.add b 17)) && Nat.beq c18.toNat (f (Nat.add b 18)) && Nat.beq c19.toNat (f (Nat.add b 19)) &&
      Nat.beq c20.toNat (f (Nat.add b 20)) && Nat.beq c21.toNat (f (Nat.add b 21)) && Nat.beq c22.toNat (f (Nat.add b 22)) && Nat.beq c23.toNat (f (Nat.add b 23)) &&
      Nat.beq c24.toNat (f (Nat.add b 24)) && Nat.beq c25.toNat (f (Nat.add b 25)) && Nat.beq c26.toNat (f (Nat.add b 26)) && Nat.beq c27.toNat (f (Nat.add b 27)) &&
      Nat.beq c28.toNat (f (Nat.add b 28)) && Nat.beq c29.toNat (f (Nat.add b 29)) && Nat.beq c30.toNat (f (Nat.add b 30)) && Nat.beq c31.toNat (f (Nat.add b 31)) &&
      Nat.beq c32.toNat (f (Nat.add b 32)) && Nat.beq c33.toNat (f (Nat.add b 33)) && Nat.beq c34.toNat (f (Nat.add b 34)) && Nat.beq c35.toNat (f (Nat.add b 35)) &&
      Nat.beq c36.toNat (f (Nat.add b 36)) && Nat.beq c37.toNat (f (Nat.add b 37)) && Nat.beq c38.toNat (f (Nat.add b 38)) && Nat.beq c39.toNat (f (Nat.add b 39)) &&
      Nat.beq c40.toNat (f (Nat.add b 40)) && Nat.beq c41.toNat (f (Nat.add b 41)) && Nat.beq c42.toNat (f (Nat.add b 42)) && Nat.beq c43.toNat (f (Nat.add b 43)) &&
      Nat.beq c44.toNat (f (Nat.add b 44)) && Nat.beq c45.toNat (f (Nat.add b 45)) && Nat.beq c46.toNat (f (Nat.add b 46)) && Nat.beq c47.toNat (f (Nat.add b 47)) &&
      Nat.beq c48.toNat (f (Nat.add b 48)) && Nat.beq c49.toNat (f (Nat.add b 49)) && Nat.beq c50.toNat (f (Nat.add b 50)) && Nat.beq c51.toNat (f (Nat.add b 51)) &&
      Nat.beq c52.toNat (f (Nat.add b 52)) && Nat.beq c53.toNat (f (Nat.add b 53)) && Nat.beq c54.toNat (f (Nat.add b 54)) && Nat.beq c55.toNat (f (Nat.add b 55)) &&
      Nat.beq c56.toNat (f (Nat.add b 56)) && Nat.beq c57.toNat (f (Nat.add b 57)) && Nat.beq c58.toNat (f (Nat.add b 58)) && Nat.beq c59.toNat (f (Nat.add b 59)) &&
      Nat.beq c60.toNat (f (Nat.add b 60)) && Nat.beq c61.toNat (f (Nat.add b 61)) && Nat.beq c62.toNat (f (Nat.add b 62)) && Nat.beq c63.toNat (f (Nat.add b 63)) &&
      Nat.beq c64.toNat (f (Nat.add b 64)) && Nat.beq c65.toNat (f (Nat.add b 65)) && Nat.beq c66.toNat (f (Nat.add b 66)) && Nat.beq c67.toNat (f (Nat.add b 67)) &&
      Nat.beq c68.toNat (f (Nat.add b 68)) && Nat.beq c69.toNat (f (Nat.add b 69)) && Nat.beq c70.toNat (f (Nat.add b 70)) && Nat.beq c71.toNat (f (Nat.add b 71)) &&
      Nat.beq c72.toNat (f (Nat.add b 72)) && Nat.beq c73.toNat (f (Nat.add b 73)) && Nat.beq c74.toNat (f (Nat.add b 74)) && Nat.beq c75.toNat (f (Nat.add b 75)) &&
      Nat.beq c76.toNat (f (Nat.add b 76)) && Nat.beq c77.toNat (f (Nat.add b 77)) && Nat.beq c78.toNat (f (Nat.add b 78)) && Nat.beq c79.toNat (f (Nat.add b 79)) &&
      Nat.beq c80.toNat (f (Nat.add b 80)) && Nat.beq c81.toNat (f (Nat.add b 81)) && Nat.beq c82.toNat (f (Nat.add b 82)) && Nat.beq c83.toNat (f (Nat.add b 83)) &&
      Nat.beq c84.toNat (f (Nat.add b 84)) && Nat.beq c85.toNat (f (Nat.add b 85)) && Nat.beq c86.toNat (f (Nat.add b 86)) && Nat.beq c87.toNat (f (Nat.add b 87)) &&
      Nat.beq c88.toNat (f (Nat.add b 88)) && Nat.beq c89.toNat (f (Nat.add b 89)) && Nat.beq c90.toNat (f (Nat.add b 90)) && Nat.beq c91.toNat (f (Nat.add b 91)) &&
      Nat.beq c92.toNat (f (Nat.add b 92)) && Nat.beq c93.toNat (f (Nat.add b 93)) && Nat.beq c94.toNat (f (Nat.add b 94)) && Nat.beq c95.toNat (f (Nat.add b 95)) &&
      Nat.beq c96.toNat (f (Nat.add b 96)) && Nat.beq c97.toNat (f (Nat.add b 97)) && Nat.beq c98.toNat (f (Nat.add b 98)) && Nat.beq c99.toNat (f (Nat.add b 99)) &&
      Nat.beq c100.toNat (f (Nat.add b 100)) && Nat.beq c101.toNat (f (Nat.add b 101)) && Nat.beq c102.toNat (f (Nat.add b 102)) && Nat.beq c103.toNat (f (Nat.add b 103)) &&
      Nat.beq c104.toNat (f (Nat.add b 104)) && Nat.beq c105.toNat (f (Nat.add b 105)) && Nat.beq c106.toNat (f (Nat.add b 106)) && Nat.beq c107.toNat (f (Nat.add b 107)) &&
      Nat.beq c108.toNat (f (Nat.add b 108)) && Nat.beq c109.toNat (f (Nat.add b 109)) && Nat.beq c110.toNat (f (Nat.add b 110)) && Nat.beq c111.toNat (f (Nat.add b 111)) &&
      Nat.beq c112.toNat (f (Nat.add b 112)) && Nat.beq c113.toNat (f (Nat.add b 113)) && Nat.beq c114.toNat (f (Nat.add b 114)) && Nat.beq c115.toNat (f (Nat.add b 115)) &&
      Nat.beq c116.toNat (f (Nat.add b 116)) && Nat.beq c117.toNat (f (Nat.add b 117)) && Nat.beq c118.toNat (f (Nat.add b 118)) && Nat.beq c119.toNat (f (Nat.add b 119)) &&
      Nat.beq c120.toNat (f (Nat.add b 120)) && Nat.beq c121.toNat (f (Nat.add b 121)) && Nat.beq c122.toNat (f (Nat.add b 122)) && Nat.beq c123.toNat (f (Nat.add b 123)) &&
      Nat.beq c124.toNat (f (Nat.add b 124)) && Nat.beq c125.toNat (f (Nat.add b 125)) && Nat.beq c126.toNat (f (Nat.add b 126)) && Nat.beq c127.toNat (f (Nat.add b 127))

/-- A last-digit lookup whose 128 entries pass the check is the formula. -/
theorem leaf (f : ℕ → ℕ) (i B : ℕ)
    (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127 : BitVec 16)
    (h : check f (B * 128)
      c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127 = true) (hB : i / 128 = B) :
    (look (i % 128)
      c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127).toNat = f i := by
  simp only [check, Bool.and_eq_true, and_assoc] at h
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127⟩ := h
  have key := look_all (fun k c => Nat.beq c.toNat (f (Nat.add (B * 128) k)) = true)
    c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127
    h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 (i % 128) (Nat.mod_lt _ (by omega))
  have e : Nat.add (B * 128) (i % 128) = i := by
    show B * 128 + i % 128 = i
    omega
  rw [e] at key
  exact Nat.eq_of_beq_eq_true key

/-- A middle-digit lookup whose 128 entries are the formula is the formula. -/
theorem node (f : ℕ → ℕ) (i j : ℕ) (hj : i / 16384 = j)
    (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127 : BitVec 16)
    (h0 : i / 128 = j * 128 + 0 → c0.toNat = f i) (h1 : i / 128 = j * 128 + 1 → c1.toNat = f i) (h2 : i / 128 = j * 128 + 2 → c2.toNat = f i) (h3 : i / 128 = j * 128 + 3 → c3.toNat = f i)
    (h4 : i / 128 = j * 128 + 4 → c4.toNat = f i) (h5 : i / 128 = j * 128 + 5 → c5.toNat = f i) (h6 : i / 128 = j * 128 + 6 → c6.toNat = f i) (h7 : i / 128 = j * 128 + 7 → c7.toNat = f i)
    (h8 : i / 128 = j * 128 + 8 → c8.toNat = f i) (h9 : i / 128 = j * 128 + 9 → c9.toNat = f i) (h10 : i / 128 = j * 128 + 10 → c10.toNat = f i) (h11 : i / 128 = j * 128 + 11 → c11.toNat = f i)
    (h12 : i / 128 = j * 128 + 12 → c12.toNat = f i) (h13 : i / 128 = j * 128 + 13 → c13.toNat = f i) (h14 : i / 128 = j * 128 + 14 → c14.toNat = f i) (h15 : i / 128 = j * 128 + 15 → c15.toNat = f i)
    (h16 : i / 128 = j * 128 + 16 → c16.toNat = f i) (h17 : i / 128 = j * 128 + 17 → c17.toNat = f i) (h18 : i / 128 = j * 128 + 18 → c18.toNat = f i) (h19 : i / 128 = j * 128 + 19 → c19.toNat = f i)
    (h20 : i / 128 = j * 128 + 20 → c20.toNat = f i) (h21 : i / 128 = j * 128 + 21 → c21.toNat = f i) (h22 : i / 128 = j * 128 + 22 → c22.toNat = f i) (h23 : i / 128 = j * 128 + 23 → c23.toNat = f i)
    (h24 : i / 128 = j * 128 + 24 → c24.toNat = f i) (h25 : i / 128 = j * 128 + 25 → c25.toNat = f i) (h26 : i / 128 = j * 128 + 26 → c26.toNat = f i) (h27 : i / 128 = j * 128 + 27 → c27.toNat = f i)
    (h28 : i / 128 = j * 128 + 28 → c28.toNat = f i) (h29 : i / 128 = j * 128 + 29 → c29.toNat = f i) (h30 : i / 128 = j * 128 + 30 → c30.toNat = f i) (h31 : i / 128 = j * 128 + 31 → c31.toNat = f i)
    (h32 : i / 128 = j * 128 + 32 → c32.toNat = f i) (h33 : i / 128 = j * 128 + 33 → c33.toNat = f i) (h34 : i / 128 = j * 128 + 34 → c34.toNat = f i) (h35 : i / 128 = j * 128 + 35 → c35.toNat = f i)
    (h36 : i / 128 = j * 128 + 36 → c36.toNat = f i) (h37 : i / 128 = j * 128 + 37 → c37.toNat = f i) (h38 : i / 128 = j * 128 + 38 → c38.toNat = f i) (h39 : i / 128 = j * 128 + 39 → c39.toNat = f i)
    (h40 : i / 128 = j * 128 + 40 → c40.toNat = f i) (h41 : i / 128 = j * 128 + 41 → c41.toNat = f i) (h42 : i / 128 = j * 128 + 42 → c42.toNat = f i) (h43 : i / 128 = j * 128 + 43 → c43.toNat = f i)
    (h44 : i / 128 = j * 128 + 44 → c44.toNat = f i) (h45 : i / 128 = j * 128 + 45 → c45.toNat = f i) (h46 : i / 128 = j * 128 + 46 → c46.toNat = f i) (h47 : i / 128 = j * 128 + 47 → c47.toNat = f i)
    (h48 : i / 128 = j * 128 + 48 → c48.toNat = f i) (h49 : i / 128 = j * 128 + 49 → c49.toNat = f i) (h50 : i / 128 = j * 128 + 50 → c50.toNat = f i) (h51 : i / 128 = j * 128 + 51 → c51.toNat = f i)
    (h52 : i / 128 = j * 128 + 52 → c52.toNat = f i) (h53 : i / 128 = j * 128 + 53 → c53.toNat = f i) (h54 : i / 128 = j * 128 + 54 → c54.toNat = f i) (h55 : i / 128 = j * 128 + 55 → c55.toNat = f i)
    (h56 : i / 128 = j * 128 + 56 → c56.toNat = f i) (h57 : i / 128 = j * 128 + 57 → c57.toNat = f i) (h58 : i / 128 = j * 128 + 58 → c58.toNat = f i) (h59 : i / 128 = j * 128 + 59 → c59.toNat = f i)
    (h60 : i / 128 = j * 128 + 60 → c60.toNat = f i) (h61 : i / 128 = j * 128 + 61 → c61.toNat = f i) (h62 : i / 128 = j * 128 + 62 → c62.toNat = f i) (h63 : i / 128 = j * 128 + 63 → c63.toNat = f i)
    (h64 : i / 128 = j * 128 + 64 → c64.toNat = f i) (h65 : i / 128 = j * 128 + 65 → c65.toNat = f i) (h66 : i / 128 = j * 128 + 66 → c66.toNat = f i) (h67 : i / 128 = j * 128 + 67 → c67.toNat = f i)
    (h68 : i / 128 = j * 128 + 68 → c68.toNat = f i) (h69 : i / 128 = j * 128 + 69 → c69.toNat = f i) (h70 : i / 128 = j * 128 + 70 → c70.toNat = f i) (h71 : i / 128 = j * 128 + 71 → c71.toNat = f i)
    (h72 : i / 128 = j * 128 + 72 → c72.toNat = f i) (h73 : i / 128 = j * 128 + 73 → c73.toNat = f i) (h74 : i / 128 = j * 128 + 74 → c74.toNat = f i) (h75 : i / 128 = j * 128 + 75 → c75.toNat = f i)
    (h76 : i / 128 = j * 128 + 76 → c76.toNat = f i) (h77 : i / 128 = j * 128 + 77 → c77.toNat = f i) (h78 : i / 128 = j * 128 + 78 → c78.toNat = f i) (h79 : i / 128 = j * 128 + 79 → c79.toNat = f i)
    (h80 : i / 128 = j * 128 + 80 → c80.toNat = f i) (h81 : i / 128 = j * 128 + 81 → c81.toNat = f i) (h82 : i / 128 = j * 128 + 82 → c82.toNat = f i) (h83 : i / 128 = j * 128 + 83 → c83.toNat = f i)
    (h84 : i / 128 = j * 128 + 84 → c84.toNat = f i) (h85 : i / 128 = j * 128 + 85 → c85.toNat = f i) (h86 : i / 128 = j * 128 + 86 → c86.toNat = f i) (h87 : i / 128 = j * 128 + 87 → c87.toNat = f i)
    (h88 : i / 128 = j * 128 + 88 → c88.toNat = f i) (h89 : i / 128 = j * 128 + 89 → c89.toNat = f i) (h90 : i / 128 = j * 128 + 90 → c90.toNat = f i) (h91 : i / 128 = j * 128 + 91 → c91.toNat = f i)
    (h92 : i / 128 = j * 128 + 92 → c92.toNat = f i) (h93 : i / 128 = j * 128 + 93 → c93.toNat = f i) (h94 : i / 128 = j * 128 + 94 → c94.toNat = f i) (h95 : i / 128 = j * 128 + 95 → c95.toNat = f i)
    (h96 : i / 128 = j * 128 + 96 → c96.toNat = f i) (h97 : i / 128 = j * 128 + 97 → c97.toNat = f i) (h98 : i / 128 = j * 128 + 98 → c98.toNat = f i) (h99 : i / 128 = j * 128 + 99 → c99.toNat = f i)
    (h100 : i / 128 = j * 128 + 100 → c100.toNat = f i) (h101 : i / 128 = j * 128 + 101 → c101.toNat = f i) (h102 : i / 128 = j * 128 + 102 → c102.toNat = f i) (h103 : i / 128 = j * 128 + 103 → c103.toNat = f i)
    (h104 : i / 128 = j * 128 + 104 → c104.toNat = f i) (h105 : i / 128 = j * 128 + 105 → c105.toNat = f i) (h106 : i / 128 = j * 128 + 106 → c106.toNat = f i) (h107 : i / 128 = j * 128 + 107 → c107.toNat = f i)
    (h108 : i / 128 = j * 128 + 108 → c108.toNat = f i) (h109 : i / 128 = j * 128 + 109 → c109.toNat = f i) (h110 : i / 128 = j * 128 + 110 → c110.toNat = f i) (h111 : i / 128 = j * 128 + 111 → c111.toNat = f i)
    (h112 : i / 128 = j * 128 + 112 → c112.toNat = f i) (h113 : i / 128 = j * 128 + 113 → c113.toNat = f i) (h114 : i / 128 = j * 128 + 114 → c114.toNat = f i) (h115 : i / 128 = j * 128 + 115 → c115.toNat = f i)
    (h116 : i / 128 = j * 128 + 116 → c116.toNat = f i) (h117 : i / 128 = j * 128 + 117 → c117.toNat = f i) (h118 : i / 128 = j * 128 + 118 → c118.toNat = f i) (h119 : i / 128 = j * 128 + 119 → c119.toNat = f i)
    (h120 : i / 128 = j * 128 + 120 → c120.toNat = f i) (h121 : i / 128 = j * 128 + 121 → c121.toNat = f i) (h122 : i / 128 = j * 128 + 122 → c122.toNat = f i) (h123 : i / 128 = j * 128 + 123 → c123.toNat = f i)
    (h124 : i / 128 = j * 128 + 124 → c124.toNat = f i) (h125 : i / 128 = j * 128 + 125 → c125.toNat = f i) (h126 : i / 128 = j * 128 + 126 → c126.toNat = f i) (h127 : i / 128 = j * 128 + 127 → c127.toNat = f i)
    : (look (i / 128 % 128)
      c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127).toNat = f i :=
  look_all (fun k c => i / 128 = j * 128 + k → c.toNat = f i)
    c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75 c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127
    h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 (i / 128 % 128) (Nat.mod_lt _ (by omega)) (by omega)

theorem lit0_node0 (i : ℕ) (hj : i / 16384 = 0) : (Cert.KernelIdeal.lit0t1_0 i).toNat = pat0 i := by
  refine node pat0 i 0 hj _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  all_goals exact leaf pat0 i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by decide +kernel)

theorem lit0_node1 (i : ℕ) (hj : i / 16384 = 1) : (Cert.KernelIdeal.lit0t1_1 i).toNat = pat0 i := by
  refine node pat0 i 1 hj _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  all_goals exact leaf pat0 i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by decide +kernel)

theorem lit0_node2 (i : ℕ) (hj : i / 16384 = 2) : (Cert.KernelIdeal.lit0t1_2 i).toNat = pat0 i := by
  refine node pat0 i 2 hj _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  all_goals exact leaf pat0 i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by decide +kernel)

theorem lit0_node3 (i : ℕ) (hj : i / 16384 = 3) : (Cert.KernelIdeal.lit0t1_3 i).toNat = pat0 i := by
  refine node pat0 i 3 hj _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  all_goals exact leaf pat0 i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by decide +kernel)

theorem lit1_node0 (i : ℕ) (hj : i / 16384 = 0) : (Cert.KernelIdeal.lit1t1_0 i).toNat = pat1 i := by
  refine node pat1 i 0 hj _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  all_goals exact leaf pat1 i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by decide +kernel)

theorem lit1_node1 (i : ℕ) (hj : i / 16384 = 1) : (Cert.KernelIdeal.lit1t1_1 i).toNat = pat1 i := by
  refine node pat1 i 1 hj _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  all_goals exact leaf pat1 i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by decide +kernel)

theorem lit1_node2 (i : ℕ) (hj : i / 16384 = 2) : (Cert.KernelIdeal.lit1t1_2 i).toNat = pat1 i := by
  refine node pat1 i 2 hj _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  all_goals exact leaf pat1 i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by decide +kernel)

theorem lit1_node3 (i : ℕ) (hj : i / 16384 = 3) : (Cert.KernelIdeal.lit1t1_3 i).toNat = pat1 i := by
  refine node pat1 i 3 hj _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  all_goals exact leaf pat1 i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by decide +kernel)

end Cert.Tables

end

end
-- ==== Proof.Tables.lean ====
/- The kernel's two constant tables are the Sylvester matrices: the entry at row `p` and column `q` is one or minus one by the parity of
   the bits that `p` and `q` share; the token table is two copies of the 128-row matrix on the diagonal and zero elsewhere. -/
module

public import proofs.«01_k».proof.KernelIdeal
public import proofs.«01_k».proof.Proof.Quant
public import proofs.«01_k».proof.Proof.TableBits

@[expose] public section

set_option maxRecDepth 65536

noncomputable section

namespace Cert.Tables

open Idealize.ShloMosaic

/-- The Sylvester matrix's entry: one where the shared bits are even in number, else minus one. -/
def sgn (p q : ℕ) : EReal := if par (p &&& q) = 0 then 1 else -1

/-- The token table's entry: the 128-row Sylvester matrix on the two diagonal blocks, zero off them. -/
def sgnTok (p q : ℕ) : EReal := if p / 128 = q / 128 then sgn (p % 128) (q % 128) else 0

theorem beq_ne {a b : ℕ} (h : a ≠ b) : Nat.beq a b = false := by
  cases hb : Nat.beq a b
  · rfl
  · exact absurd (Nat.eq_of_beq_eq_true hb) h

/-- The pattern of one. -/
theorem ofBits_one : Ideal.ofBits .bf16 0x3F80#16 = 1 := by
  simp [Ideal.ofBits, Ideal.ieee]
  rw [← EReal.coe_mul]
  norm_num

/-- The pattern of minus one. -/
theorem ofBits_neg_one : Ideal.ofBits .bf16 0xBF80#16 = -1 := by
  simp [Ideal.ofBits, Ideal.ieee]
  rw [← EReal.coe_mul]
  norm_num

theorem ofBits_zero : Ideal.ofBits .bf16 0x0000#16 = 0 := by
  simp [Ideal.ofBits, Ideal.ieee]

theorem ofBits_neg_zero : Ideal.ofBits .bf16 0x8000#16 = 0 := by
  simp [Ideal.ofBits, Ideal.ieee]

/-- The output table's lookup is its pattern. -/
theorem lit0_pat (i : Fin 65536) : (Cert.KernelIdeal.lit0 i).toNat = pat0 i.val := by
  obtain ⟨i, hi⟩ := i
  show (Cert.KernelIdeal.lit0t i).toNat = pat0 i
  have h : i / 16384 = 0 ∨ i / 16384 = 1 ∨ i / 16384 = 2 ∨ i / 16384 = 3 := by omega
  unfold Cert.KernelIdeal.lit0t
  rcases h with h | h | h | h
  · rw [h]; exact lit0_node0 i h
  · rw [h]; exact lit0_node1 i h
  · rw [h]; exact lit0_node2 i h
  · rw [h]; exact lit0_node3 i h

/-- The token table's lookup is its pattern. -/
theorem lit1_pat (i : Fin 65536) : (Cert.KernelIdeal.lit1 i).toNat = pat1 i.val := by
  obtain ⟨i, hi⟩ := i
  show (Cert.KernelIdeal.lit1t i).toNat = pat1 i
  have h : i / 16384 = 0 ∨ i / 16384 = 1 ∨ i / 16384 = 2 ∨ i / 16384 = 3 := by omega
  unfold Cert.KernelIdeal.lit1t
  rcases h with h | h | h | h
  · rw [h]; exact lit1_node0 i h
  · rw [h]; exact lit1_node1 i h
  · rw [h]; exact lit1_node2 i h
  · rw [h]; exact lit1_node3 i h

/-- The output table's entry. -/
theorem lit0_eq (p q : Fin 256) (h : p.val * 256 + q.val < 65536) :
    Ideal.ofBits .bf16 (Cert.KernelIdeal.lit0 ⟨p.val * 256 + q.val, h⟩) = sgn p.val q.val := by
  have e := lit0_pat ⟨p.val * 256 + q.val, h⟩
  have h1 : (p.val * 256 + q.val) / 256 = p.val := by omega
  have h2 : (p.val * 256 + q.val) % 256 = q.val := by omega
  simp only [pat0, h1, h2] at e
  unfold sgn
  by_cases c : par (p.val &&& q.val) = 0
  · rw [if_pos c, ← ofBits_one]
    refine congrArg _ (BitVec.eq_of_toNat_eq (e.trans ?_))
    rw [show Nat.land p.val q.val = p.val &&& q.val from rfl, c]; rfl
  · rw [if_neg c, ← ofBits_neg_one]
    refine congrArg _ (BitVec.eq_of_toNat_eq (e.trans ?_))
    rw [show Nat.land p.val q.val = p.val &&& q.val from rfl, beq_ne c]; rfl

/-- The token table's entry. -/
theorem lit1_eq (p q : Fin 256) (h : p.val * 256 + q.val < 65536) :
    Ideal.ofBits .bf16 (Cert.KernelIdeal.lit1 ⟨p.val * 256 + q.val, h⟩) = sgnTok p.val q.val := by
  have e := lit1_pat ⟨p.val * 256 + q.val, h⟩
  have h1 : (p.val * 256 + q.val) / 256 % 128 = p.val % 128 := by omega
  have h2 : (p.val * 256 + q.val) % 128 = q.val % 128 := by omega
  have h3 : (p.val * 256 + q.val) / 32768 = p.val / 128 := by omega
  have h4 : (p.val * 256 + q.val) % 256 / 128 = q.val / 128 := by omega
  simp only [pat1, h1, h2, h3, h4] at e
  rw [show Nat.land (p.val % 128) (q.val % 128) = p.val % 128 &&& q.val % 128 from rfl] at e
  unfold sgnTok sgn
  by_cases d : p.val / 128 = q.val / 128
  · rw [if_pos d]
    rw [d, Nat.beq_refl, cond_true] at e
    by_cases c : par (p.val % 128 &&& q.val % 128) = 0
    · rw [if_pos c, ← ofBits_one]
      refine congrArg _ (BitVec.eq_of_toNat_eq (e.trans ?_))
      rw [c]; rfl
    · rw [if_neg c, ← ofBits_neg_one]
      refine congrArg _ (BitVec.eq_of_toNat_eq (e.trans ?_))
      rw [beq_ne c]; rfl
  · rw [if_neg d]
    rw [beq_ne d, cond_false] at e
    by_cases c : par (p.val % 128 &&& q.val % 128) = 0
    · rw [← ofBits_zero]
      refine congrArg _ (BitVec.eq_of_toNat_eq (e.trans ?_))
      rw [c]; rfl
    · rw [← ofBits_neg_zero]
      refine congrArg _ (BitVec.eq_of_toNat_eq (e.trans ?_))
      rw [beq_ne c]; rfl

/-- The Sylvester matrix is symmetric. -/
theorem sgn_comm (p q : ℕ) : sgn p q = sgn q p := by
  unfold sgn
  rw [Nat.and_comm]

theorem sgn_cases (p q : ℕ) : sgn p q = 1 ∨ sgn p q = -1 ∨ sgn p q = 0 := by
  unfold sgn
  split
  · exact .inl rfl
  · exact .inr (.inl rfl)

/-- The reference's parity: the population count's low bit. -/
theorem ctpop_parity : ∀ x : Fin 256, IntOp.andi (IntOp.ctpop (BitVec.ofNat 32 x.val)) 1#32 = BitVec.ofNat 32 (par x.val) := by
  decide +kernel

end Cert.Tables

end

end
-- ==== Proof.RefRot.lean ====
/- The reference's tables and rotations, entry by entry. -/
module

public import proofs.«01_k».proof.Proof.HostVals
public import proofs.«01_k».proof.Proof.Tables
public import Idealize.ShloMosaic.Lib.Pointwise

@[expose] public section

set_option maxRecDepth 16384

noncomputable section

namespace Cert.RefRot

open Idealize.ShloMosaic
open Cert.ReferenceIdeal Cert.HostVals Cert.Quant Cert.Tables

/-- The pattern of minus one. -/
theorem neg_one_f32 : Ideal.ofBits .f32 0xBF800000#32 = -1 := by
  simp [Ideal.ofBits, Ideal.ieee]
  rw [← EReal.coe_mul]
  norm_num

/-- The population count's low bit, for a number below 256. -/
theorem low_bit (k : ℕ) (h : k < 256) (x : Fin 256) (hx : x.val = k) :
    IntOp.andi (IntOp.ctpop (BitVec.ofNat 32 k)) 1#32 = BitVec.ofNat 32 (par k) := by
  subst hx
  exact ctpop_parity x

/-- A parity test read as a sign. -/
theorem sign_eq (p q : ℕ) (hp : p < 256) (hq : q < 256) :
    Scalar.select (IntOp.cmpi .eq (IntOp.andi (IntOp.ctpop (IntOp.andi (BitVec.ofNat 32 p) (BitVec.ofNat 32 q))) 1#32) 0#32) (1 : EReal) (-1) = sgn p q := by
  have hk : p &&& q < 256 := Nat.lt_of_le_of_lt Nat.and_le_left hp
  have e : IntOp.andi (BitVec.ofNat 32 p) (BitVec.ofNat 32 q) = BitVec.ofNat 32 (p &&& q) := by
    apply BitVec.eq_of_toNat_eq
    show (BitVec.ofNat 32 p &&& BitVec.ofNat 32 q).toNat = _
    rw [BitVec.toNat_and, BitVec.toNat_ofNat, BitVec.toNat_ofNat, BitVec.toNat_ofNat, Nat.mod_eq_of_lt (by omega), Nat.mod_eq_of_lt (by omega), Nat.mod_eq_of_lt (by omega)]
  rw [e, low_bit _ hk ⟨_, hk⟩ rfl]
  unfold sgn
  have hpar : par (p &&& q) = 0 ∨ par (p &&& q) = 1 := by
    have : ∀ x : Fin 256, par x.val = 0 ∨ par x.val = 1 := by decide +kernel
    exact this ⟨_, hk⟩
  rcases hpar with h | h <;> rw [h] <;> rfl

/-- The 256-row table holds the signs. -/
theorem table256_apply (p q : Fin 256) : table256 (ix2 p q) = sgn p.val q.val := by
  unfold table256 table even fill
  pointwise
  rw [neg_one_f32]
  exact sign_eq _ _ p.isLt q.isLt

/-- The 128-row table holds the signs. -/
theorem table128_apply (p q : Fin 128) : table128 (ix2 p q) = sgn p.val q.val := by
  unfold table128 table even fill
  pointwise
  rw [neg_one_f32]
  exact sign_eq _ _ (by have := p.isLt; omega) (by have := q.isLt; omega)

/-- The output gradient's rotation over outputs, entry by entry. -/
theorem rotDyoBy_apply (h : FVec Ideal S256x256 .bf16) (x : FVec Ideal S1792x8960 .bf16) (i : Fin 1792) (r : Fin 8960) :
    rotDyoBy h x (ix2 i r) = (∑ q : Fin 256, x (ix2 i ⟨256 * (r.val / 256) + q.val, by have := r.isLt; omega⟩) * h (ix2 q ⟨r.val % 256, by omega⟩)) * hOut := by
  unfold rotDyoBy fill hOut
  pointwise
  simp only [Nat.mul_comm]

/-- The weights' rotation over outputs, entry by entry. -/
theorem rotWBy_apply (h : FVec Ideal S256x256 .bf16) (x : FVec Ideal S8960x1536 .bf16) (r : Fin 8960) (j : Fin 1536) :
    rotWBy h x (ix2 r j) = (∑ q : Fin 256, h (ix2 q ⟨r.val % 256, by omega⟩) * x (ix2 ⟨256 * (r.val / 256) + q.val, by have := r.isLt; omega⟩ j)) * hOut := by
  unfold rotWBy fill hOut
  pointwise
  simp only [Nat.mul_comm]

/-- The output gradient's rotation over tokens, entry by entry. -/
theorem rotDytBy_apply (h : FVec Ideal S128x128 .bf16) (x : FVec Ideal S1792x8960 .bf16) (r : Fin 1792) (j : Fin 8960) :
    rotDytBy h x (ix2 r j) = (∑ q : Fin 128, h (ix2 q ⟨r.val % 128, by omega⟩) * x (ix2 ⟨128 * (r.val / 128) + q.val, by have := r.isLt; omega⟩ j)) * hTok := by
  unfold rotDytBy fill hTok
  pointwise
  simp only [Nat.mul_comm]

/-- The activations' rotation over tokens, entry by entry. -/
theorem rotXBy_apply (h : FVec Ideal S128x128 .bf16) (x : FVec Ideal S1792x1536 .bf16) (r : Fin 1792) (j : Fin 1536) :
    rotXBy h x (ix2 r j) = (∑ q : Fin 128, h (ix2 q ⟨r.val % 128, by omega⟩) * x (ix2 ⟨128 * (r.val / 128) + q.val, by have := r.isLt; omega⟩ j)) * hTok := by
  unfold rotXBy fill hTok
  pointwise
  simp only [Nat.mul_comm]

end Cert.RefRot

end
end
-- ==== Proof.Kit.lean ====
/- What every launch's block needs: reading a block written once, the scratch read back whole, a rotation's tiles and the codes. -/
module

public import proofs.«01_k».proof.Proof.Forms

@[expose] public section

set_option maxRecDepth 16384

noncomputable section

namespace Cert.Kit

open Idealize.ShloMosaic
open Cert.KernelIdeal Cert.KernelIdeal.Gen Cert.Scale Cert.Quant Cert.Forms

/-- A view written once, whole, reads as what was written. -/
theorem read_one {sig : RefSig} {κ : Kind} {sp : Space} {S : Shape} {e : EltTy} (v : View sig κ sp S e) {off : Fin S.rank → Nat}
    (h : off = fun _ => 0) (inb : ∀ a, off a + S.size a ≤ S.size a) (w : S.Idx → Elt Ideal e) :
    v.read (Elt Ideal) (v.writes (Elt Ideal) v.junk [⟨Rect.unit off S.size inb, w⟩]) = w := by
  funext y
  rw [View.read_writes_junk_apply_eq_canon, View.canon_cons_unit_zero h]

/-- A view written once, whole, and loaded back whole gives what was written. -/
theorem readCov_one {sig : RefSig} {κ : Kind} {sp : Space} {S : Shape} {e : EltTy} (v : View sig κ sp S e) {off : Fin S.rank → Nat}
    (h : off = fun _ => 0) (inb inb' : ∀ a, off a + S.size a ≤ S.size a) (w : S.Idx → Elt Ideal e) :
    v.readCov [⟨Rect.unit off S.size inb, w⟩] (Rect.unit off S.size inb').toLoadRect = w := by
  rw [View.readCov_eq_canon']
  funext y
  rw [View.canon_cons_unit_zero h]
  refine congrArg w ?_
  subst h
  show (Rect.unit _ S.size inb').emb y = y
  funext a; refine Fin.ext ?_
  show 0 + 1 * (y a).val = (y a).val
  omega

theorem zero2 : (![0, 0] : Fin 2 → ℕ) = fun _ => 0 := by decide +kernel

/-! ## Columns -/

/-- The stored tiles, loaded back whole, are the stacked array. -/
theorem cPieces_read (N R : ℕ) (hR : R = N * 256) (T : Fin N → FVec Ideal S256x256 .f32) {sig : RefSig} {κ : Kind} {sp : Space}
    (v : View sig κ sp ⟨2, ![R, 256]⟩ .f32) (inb) :
    v.readCov (cPieces N R hR T N le_rfl) (Rect.unit (s := ⟨2, ![R, 256]⟩) ![0, 0] ![R, 256] inb).toLoadRect = cStack N R hR T := by
  rw [View.readCov_eq_canon']
  funext y
  have hy : (y 0).val < R := (y 0).isLt
  have := cPieces_canon N R hR T (y 0) (y 1) N le_rfl (by omega)
  rw [ix2_eta] at this
  rw [← this]
  refine congrArg _ ?_
  show (Rect.unit (s := ⟨2, ![R, 256]⟩) _ ![R, 256] inb).emb y = y
  funext a; refine Fin.ext ?_
  match a with
  | ⟨0, _⟩ => show 0 + 1 * (y 0).val = (y 0).val; omega
  | ⟨1, _⟩ => show 0 + 1 * (y 1).val = (y 1).val; omega

/-- A tile as it is stored: cast to its own shape. -/
def cast0 (T : FVec Ideal S256x256 .f32) : FVec Ideal S256x256 .f32 := shapeCast S256x256 T shapeCasts_S256x256_S256x256

theorem cStack_cast (N R : ℕ) (hR : R = N * 256) (T : Fin N → FVec Ideal S256x256 .f32) :
    cStack N R hR (fun k => cast0 (T k)) = cStack N R hR T := by
  have : (fun k => cast0 (T k)) = T := funext fun k => shapeCast_self _ _
  rw [this]

/-- The `k`-th 256 rows of an array of `R` rows. -/
def rowsOf (N R : ℕ) (hR : R = N * 256) (x : FVec Ideal ⟨2, ![R, 256]⟩ .bf16) (k : Fin N) : FVec Ideal S256x256 .bf16 :=
  View.ld (Val := Elt Ideal) (e' := .bf16) x (Rect.unit (s := ⟨2, ![R, 256]⟩) ![256 * k.val, 0] S256x256.size (by
      intro a; have := k.isLt; match a with | ⟨0, _⟩ => show 256 * k.val + 256 ≤ R; omega | ⟨1, _⟩ => show 0 + 256 ≤ 256; omega))

theorem rowsOf_apply (N R : ℕ) (hR : R = N * 256) (x : FVec Ideal ⟨2, ![R, 256]⟩ .bf16) (k : Fin N) (q j : Fin 256) :
    rowsOf N R hR x k (ix2 q j) = x (ix2 ⟨256 * k.val + q.val, by have := k.isLt; omega⟩ j) := by
  unfold rowsOf
  rw [View.ld_apply]
  refine congrArg x ?_
  funext a
  refine Fin.ext ?_
  match a with
  | ⟨0, _⟩ => show 256 * k.val + 1 * q.val = 256 * k.val + q.val; omega
  | ⟨1, _⟩ => show 0 + 1 * j.val = j.val; omega

/-- The tile the table rotates out of 256 rows. -/
def tileOf (h x : FVec Ideal S256x256 .bf16) : FVec Ideal S256x256 .f32 :=
  matmul dot_S256x256_S256x256_S256x256_1_0_0_1_n_n none h x (constant S256x256 .f32 0x00000000#32)

theorem tileOf_apply (h x : FVec Ideal S256x256 .bf16) (p j : Fin 256) : tileOf h x (ix2 p j) = ∑ q : Fin 256, h (ix2 p q) * x (ix2 q j) := by
  unfold tileOf
  pointwise

/-- The codes of a stacked array: each entry times its column's reciprocal and the rotation's factor, clipped. -/
def cCode (R : ℕ) (hb : S1x256.Broadcasts ⟨2, ![R, 256]⟩) (w : BitVec 32) (G : FVec Ideal ⟨2, ![R, 256]⟩ .f32) (iv : FVec Ideal S1x256 .f32) :
    FVec Ideal ⟨2, ![R, 256]⟩ .fp8e4m3 :=
  truncf .fp8e4m3
    (minimumf (broadcast ⟨2, ![R, 256]⟩ (Scalar.ofBits (F := Ideal) .f32 0x43E00000#32))
      (maximumf (broadcast ⟨2, ![R, 256]⟩ (Scalar.ofBits (F := Ideal) .f32 0xC3E00000#32))
        (mulf G (broadcastTo ⟨2, ![R, 256]⟩ (mulf iv (broadcast S1x256 (Scalar.ofBits (F := Ideal) .f32 w))) hb)))) bitsLt_fp8e4m3_f32

theorem cCode_apply (R : ℕ) (hb) (w : BitVec 32) (G : FVec Ideal ⟨2, ![R, 256]⟩ .f32) (iv : FVec Ideal S1x256 .f32) (r : Fin R) (j : Fin 256) :
    cCode R hb w G iv (ix2 r j) = min (Ideal.ofBits .f32 0x43E00000#32) (max (Ideal.ofBits .f32 0xC3E00000#32)
      (G (ix2 r j) * (iv (ix2 0 j) * Ideal.ofBits .f32 w))) := by
  unfold cCode
  pointwise

theorem cQuot_eq (w : BitVec 32) (N R : ℕ) (hR : R = N * 256) [Nonempty (Fin R)] (T : Fin N → FVec Ideal S256x256 .f32) (j : Fin 256) :
    cQuot w (cChain N T N le_rfl) (ix2 0 j) = quot (Ideal.ofBits .f32 w) (fun r : Fin R => cStack N R hR T (ix2 r j)) := by
  rw [cQuot_apply, cChain_eq N R hR]
  rfl

/-- A column's scale is the scale of the column's entries. -/
theorem colScale (w : BitVec 32) (hw : Factor (Ideal.ofBits .f32 w)) (N R : ℕ) (hR : R = N * 256) [Nonempty (Fin R)]
    (T : Fin N → FVec Ideal S256x256 .f32) (j : Fin 256) :
    cScale (cQuot w (cChain N T N le_rfl)) (ix2 0 j) = scale (Ideal.ofBits .f32 w) (fun r : Fin R => cStack N R hR T (ix2 r j)) := by
  rw [cScale_apply _ _ (by rw [cQuot_eq w N R hR]; exact quot_nonneg _ _ hw), cQuot_eq w N R hR]
  rfl

/-- A bounded column's codes are the codes of its entries. -/
theorem colCode (w : BitVec 32) (hw : Factor (Ideal.ofBits .f32 w)) (N R : ℕ) (hR : R = N * 256) [Nonempty (Fin R)] (hb)
    (T : Fin N → FVec Ideal S256x256 .f32) (j : Fin 256) (hB : Bounded fun r : Fin R => cStack N R hR T (ix2 r j)) (r : Fin R) :
    cCode R hb w (cStack N R hR T) (cInv (cQuot w (cChain N T N le_rfl))) (ix2 r j)
      = code (Ideal.ofBits .f32 w) (fun r : Fin R => cStack N R hR T (ix2 r j)) (cStack N R hR T (ix2 r j)) := by
  obtain ⟨x, hx, h0, h1⟩ := quot_real _ _ hw hB
  rw [cCode_apply, cInv_apply _ _ (by rw [cQuot_eq w N R hR]; exact quot_nonneg _ _ hw)
    (by rw [cQuot_eq w N R hR, hx]; exact expField_le_253 x h0 h1), cQuot_eq w N R hR]
  rfl

/-! ## Rows -/

/-- The stored tiles, loaded back whole, are the stacked array. -/
theorem rPieces_read (N R : ℕ) (hR : R = N * 256) (T : Fin N → FVec Ideal S128x256 .f32) {sig : RefSig} {κ : Kind} {sp : Space}
    (v : View sig κ sp ⟨2, ![128, R]⟩ .f32) (inb) :
    v.readCov (rPieces N R hR T N le_rfl) (Rect.unit (s := ⟨2, ![128, R]⟩) ![0, 0] ![128, R] inb).toLoadRect = rStack N R hR T := by
  rw [View.readCov_eq_canon']
  funext y
  have hy : (y 1).val < R := (y 1).isLt
  have := rPieces_canon N R hR T (y 0) (y 1) N le_rfl (by omega)
  rw [ix2_eta] at this
  rw [← this]
  refine congrArg _ ?_
  show (Rect.unit (s := ⟨2, ![128, R]⟩) _ ![128, R] inb).emb y = y
  funext a; refine Fin.ext ?_
  match a with
  | ⟨0, _⟩ => show 0 + 1 * (y 0).val = (y 0).val; omega
  | ⟨1, _⟩ => show 0 + 1 * (y 1).val = (y 1).val; omega

/-- A tile as it is stored: cast to its own shape. -/
def cast1 (T : FVec Ideal S128x256 .f32) : FVec Ideal S128x256 .f32 := shapeCast S128x256 T shapeCasts_S128x256_S128x256

theorem rStack_cast (N R : ℕ) (hR : R = N * 256) (T : Fin N → FVec Ideal S128x256 .f32) :
    rStack N R hR (fun k => cast1 (T k)) = rStack N R hR T := by
  have : (fun k => cast1 (T k)) = T := funext fun k => shapeCast_self _ _
  rw [this]

/-- The `k`-th 256 columns of an array of `R` columns. -/
def colsOf (N R : ℕ) (hR : R = N * 256) (x : FVec Ideal ⟨2, ![128, R]⟩ .bf16) (k : Fin N) : FVec Ideal S128x256 .bf16 :=
  View.ld (Val := Elt Ideal) (e' := .bf16) x (Rect.unit (s := ⟨2, ![128, R]⟩) ![0, 256 * k.val] S128x256.size (by
      intro a; have := k.isLt; match a with | ⟨0, _⟩ => show 0 + 128 ≤ 128; omega | ⟨1, _⟩ => show 256 * k.val + 256 ≤ R; omega))

theorem colsOf_apply (N R : ℕ) (hR : R = N * 256) (x : FVec Ideal ⟨2, ![128, R]⟩ .bf16) (k : Fin N) (i : Fin 128) (q : Fin 256) :
    colsOf N R hR x k (ix2 i q) = x (ix2 i ⟨256 * k.val + q.val, by have := k.isLt; omega⟩) := by
  unfold colsOf
  rw [View.ld_apply]
  refine congrArg x ?_
  funext a
  refine Fin.ext ?_
  match a with
  | ⟨0, _⟩ => show 0 + 1 * i.val = i.val; omega
  | ⟨1, _⟩ => show 256 * k.val + 1 * q.val = 256 * k.val + q.val; omega

/-- The tile the table rotates out of 256 columns. -/
def tileRow (x : FVec Ideal S128x256 .bf16) (h : FVec Ideal S256x256 .bf16) : FVec Ideal S128x256 .f32 :=
  matmul dot_S128x256_S256x256_S128x256_1_0_0_1_n_n none (shapeCast S128x256 x shapeCasts_S128x256_S128x256) h
    (constant S128x256 .f32 0x00000000#32)

theorem tileRow_apply (x : FVec Ideal S128x256 .bf16) (h : FVec Ideal S256x256 .bf16) (i : Fin 128) (p : Fin 256) :
    tileRow x h (ix2 i p) = ∑ q : Fin 256, x (ix2 i q) * h (ix2 q p) := by
  unfold tileRow
  rw [shapeCast_self]
  pointwise

/-- The codes of a stacked array: each entry times its row's reciprocal and the rotation's factor, clipped. -/
def rCode (R : ℕ) (hb : S128x1.Broadcasts ⟨2, ![128, R]⟩) (w : BitVec 32) (G : FVec Ideal ⟨2, ![128, R]⟩ .f32) (iv : FVec Ideal S128x1 .f32) :
    FVec Ideal ⟨2, ![128, R]⟩ .fp8e4m3 :=
  truncf .fp8e4m3
    (minimumf (broadcast ⟨2, ![128, R]⟩ (Scalar.ofBits (F := Ideal) .f32 0x43E00000#32))
      (maximumf (broadcast ⟨2, ![128, R]⟩ (Scalar.ofBits (F := Ideal) .f32 0xC3E00000#32))
        (mulf G (broadcastTo ⟨2, ![128, R]⟩ (mulf iv (broadcast S128x1 (Scalar.ofBits (F := Ideal) .f32 w))) hb)))) bitsLt_fp8e4m3_f32

theorem rCode_apply (R : ℕ) (hb) (w : BitVec 32) (G : FVec Ideal ⟨2, ![128, R]⟩ .f32) (iv : FVec Ideal S128x1 .f32) (i : Fin 128) (r : Fin R) :
    rCode R hb w G iv (ix2 i r) = min (Ideal.ofBits .f32 0x43E00000#32) (max (Ideal.ofBits .f32 0xC3E00000#32)
      (G (ix2 i r) * (iv (ix2 i 0) * Ideal.ofBits .f32 w))) := by
  unfold rCode
  pointwise

theorem rQuot_eq (w : BitVec 32) (N R : ℕ) (hN : 0 < N) (hR : R = N * 256) (T : Fin N → FVec Ideal S128x256 .f32) (i : Fin 128) :
    rQuot w (rTop (rChain N T N le_rfl)) (ix2 i 0) = quot (Ideal.ofBits .f32 w) (fun r : Fin R => rStack N R hR T (ix2 i r)) := by
  rw [rQuot_apply, rChain_eq N R hN hR]
  rfl

/-- A row's scale is the scale of the row's entries. -/
theorem rowScale (w : BitVec 32) (hw : Factor (Ideal.ofBits .f32 w)) (N R : ℕ) (hN : 0 < N) (hR : R = N * 256) [Nonempty (Fin R)]
    (T : Fin N → FVec Ideal S128x256 .f32) (i : Fin 128) :
    rScale (rQuot w (rTop (rChain N T N le_rfl))) (ix2 i 0) = scale (Ideal.ofBits .f32 w) (fun r : Fin R => rStack N R hR T (ix2 i r)) := by
  rw [rScale_apply _ _ (by rw [rQuot_eq w N R hN hR]; exact quot_nonneg _ _ hw), rQuot_eq w N R hN hR]
  rfl

/-- A bounded row's codes are the codes of its entries. -/
theorem rowCode (w : BitVec 32) (hw : Factor (Ideal.ofBits .f32 w)) (N R : ℕ) (hN : 0 < N) (hR : R = N * 256) [Nonempty (Fin R)] (hb)
    (T : Fin N → FVec Ideal S128x256 .f32) (i : Fin 128) (hB : Bounded fun r : Fin R => rStack N R hR T (ix2 i r)) (r : Fin R) :
    rCode R hb w (rStack N R hR T) (rInv (rQuot w (rTop (rChain N T N le_rfl)))) (ix2 i r)
      = code (Ideal.ofBits .f32 w) (fun r : Fin R => rStack N R hR T (ix2 i r)) (rStack N R hR T (ix2 i r)) := by
  obtain ⟨x, hx, h0, h1⟩ := quot_real _ _ hw hB
  rw [rCode_apply, rInv_apply _ _ (by rw [rQuot_eq w N R hN hR]; exact quot_nonneg _ _ hw)
    (by rw [rQuot_eq w N R hN hR, hx]; exact expField_le_253 x h0 h1), rQuot_eq w N R hN hR]
  rfl

end Cert.Kit

end
end
-- ==== Proof.Rot.lean ====
/- The rotations as sums, over any table and any array: what every launch's scratch holds, and what the quantised arrays are made of. -/
module

public import proofs.«01_k».proof.Proof.Kit

@[expose] public section

noncomputable section

namespace Cert.Rot

open Idealize.ShloMosaic
open Cert.KernelIdeal Cert.Quant

/-- A rotation down the rows: row `r` of the result mixes the 256 rows of `r`'s group by row `r % 256` of the table. -/
def down (M n : ℕ) (hM : M % 256 = 0) (h : FVec Ideal S256x256 .bf16) (x : FVec Ideal ⟨2, ![M, n]⟩ .bf16) (r : Fin M) (j : Fin n) : EReal :=
  ∑ q : Fin 256, h (ix2 ⟨r.val % 256, by omega⟩ q) * x (ix2 ⟨256 * (r.val / 256) + q.val, by have := r.isLt; omega⟩ j)

/-- A rotation along the columns: column `r` of the result mixes the 256 columns of `r`'s group by column `r % 256` of the table. -/
def along (m N : ℕ) (hN : N % 256 = 0) (h : FVec Ideal S256x256 .bf16) (x : FVec Ideal ⟨2, ![m, N]⟩ .bf16) (i : Fin m) (r : Fin N) : EReal :=
  ∑ q : Fin 256, x (ix2 i ⟨256 * (r.val / 256) + q.val, by have := r.isLt; omega⟩) * h (ix2 q ⟨r.val % 256, by omega⟩)

/-- The codes of an array quantised by column. -/
def codesDown (M n : ℕ) (w : EReal) (g : Fin M → Fin n → EReal) : FVec Ideal ⟨2, ![M, n]⟩ .fp8e4m3 :=
  fun y => code w (fun r => g r (y 1)) (g (y 0) (y 1))

/-- The scales of an array quantised by column, as a row. -/
def scalesDown (M n : ℕ) (w : EReal) (g : Fin M → Fin n → EReal) : FVec Ideal ⟨2, ![1, n]⟩ .f32 :=
  fun y => scale w (fun r => g r (y 1))

/-- The codes of an array quantised by row. -/
def codesAlong (m N : ℕ) (w : EReal) (g : Fin m → Fin N → EReal) : FVec Ideal ⟨2, ![m, N]⟩ .fp8e4m3 :=
  fun y => code w (fun r => g (y 0) r) (g (y 0) (y 1))

/-- The scales of an array quantised by row, as a column. -/
def scalesAlong (m N : ℕ) (w : EReal) (g : Fin m → Fin N → EReal) : FVec Ideal ⟨2, ![m, 1]⟩ .f32 :=
  fun y => scale w (fun r => g (y 0) r)

end Cert.Rot

end
end
-- ==== Proof.Plain.lean ====
/- The four rotations as plain signed sums of the arguments; the bound on them; and what quantising them gives. -/
module

public import proofs.«01_k».proof.Proof.RefQuant
public import proofs.«01_k».proof.Proof.RefRot
public import proofs.«01_k».proof.Proof.Rot

@[expose] public section

noncomputable section

namespace Cert.Plain

open Idealize.ShloMosaic
open Cert.Quant Cert.Tables Cert.Rot

/-! ## The rotations -/

/-- A member of a group of `k` rows is a row. -/
theorem group_lt {k M r q : ℕ} (hM : M % k = 0) (hr : r < M) (hq : q < k) : k * (r / k) + q < M := by
  obtain ⟨d, rfl⟩ := Nat.dvd_of_mod_eq_zero hM
  have h1 : r / k < d := Nat.div_lt_of_lt_mul hr
  have h2 : k * (r / k + 1) ≤ k * d := Nat.mul_le_mul_left k h1
  rw [Nat.mul_add, Nat.mul_one] at h2
  omega

/-- A rotation down the rows, in groups of `k`. -/
def down (k M n : ℕ) (hM : M % k = 0) (x : FVec Ideal ⟨2, ![M, n]⟩ .bf16) (r : Fin M) (j : Fin n) : EReal :=
  ∑ q : Fin k, sgn q.val (r.val % k) * x (ix2 ⟨k * (r.val / k) + q.val, group_lt hM r.isLt q.isLt⟩ j)

/-- A rotation along the columns, in groups of 256. -/
def along (m N : ℕ) (hN : N % 256 = 0) (x : FVec Ideal ⟨2, ![m, N]⟩ .bf16) (i : Fin m) (r : Fin N) : EReal :=
  ∑ q : Fin 256, sgn q.val (r.val % 256) * x (ix2 i ⟨256 * (r.val / 256) + q.val, group_lt hN r.isLt q.isLt⟩)

theorem down_bounded (k M n : ℕ) (hM : M % k = 0) (hk : k ≤ 256) (x : FVec Ideal ⟨2, ![M, n]⟩ .bf16) (hx : ∀ y, Small (x y)) (j : Fin n) :
    Bounded fun r => down k M n hM x r j :=
  fun r => bounded_sum k hk _ _ (fun q => sgn_cases _ _) fun q => hx _

theorem along_bounded (m N : ℕ) (hN : N % 256 = 0) (x : FVec Ideal ⟨2, ![m, N]⟩ .bf16) (hx : ∀ y, Small (x y)) (i : Fin m) :
    Bounded fun r => along m N hN x i r :=
  fun r => bounded_sum 256 le_rfl _ _ (fun q => sgn_cases _ _) fun q => hx _

/-! ## A rotation over 256 rows by the table of two 128-row blocks is one over 128 rows -/

/-- The sum over a block of 256 keeps only the half `r` lies in. -/
theorem tok_sum (M : ℕ) (f : Fin M → EReal) (r : Fin M) (h256 : M % 256 = 0) (h128 : M % 128 = 0) :
    (∑ q : Fin 256, sgnTok (r.val % 256) q.val * f ⟨256 * (r.val / 256) + q.val, group_lt h256 r.isLt q.isLt⟩)
      = ∑ q : Fin 128, sgn q.val (r.val % 128) * f ⟨128 * (r.val / 128) + q.val, group_lt h128 r.isLt q.isLt⟩ := by
  have split : ∀ F : Fin (128 + 128) → EReal, (∑ q, F q) = (∑ q : Fin 128, F (Fin.castAdd 128 q)) + ∑ q : Fin 128, F (Fin.natAdd 128 q) := fun F => Fin.sum_univ_add F
  refine (split _).trans ?_
  have hr : r.val % 256 / 128 = 0 ∨ r.val % 256 / 128 = 1 := by omega
  rcases hr with h | h
  · have z : ∀ q : Fin 128, sgnTok (r.val % 256) (Fin.natAdd 128 q).val = 0 := fun q => by
      have := q.isLt
      unfold sgnTok
      rw [if_neg]
      simp only [Fin.val_natAdd]
      omega
    rw [Finset.sum_eq_zero (s := Finset.univ) (f := fun q : Fin 128 => _ * f ⟨256 * (r.val / 256) + (Fin.natAdd 128 q).val, _⟩) (fun q _ => by rw [z, zero_mul]), add_zero]
    refine Finset.sum_congr rfl fun q _ => ?_
    have := q.isLt
    unfold sgnTok
    simp only [Fin.val_castAdd]
    rw [if_pos (by omega), sgn_comm, Nat.mod_eq_of_lt this, show r.val % 256 % 128 = r.val % 128 by omega]
    congr 3
    omega
  · have z : ∀ q : Fin 128, sgnTok (r.val % 256) (Fin.castAdd 128 q).val = 0 := fun q => by
      have := q.isLt
      unfold sgnTok
      rw [if_neg]
      simp only [Fin.val_castAdd]
      omega
    rw [Finset.sum_eq_zero (s := Finset.univ) (f := fun q : Fin 128 => _ * f ⟨256 * (r.val / 256) + (Fin.castAdd 128 q).val, _⟩) (fun q _ => by rw [z, zero_mul]), zero_add]
    refine Finset.sum_congr rfl fun q _ => ?_
    have := q.isLt
    unfold sgnTok
    simp only [Fin.val_natAdd]
    rw [if_pos (by omega), sgn_comm, show (128 + q.val) % 128 = q.val by omega, show r.val % 256 % 128 = r.val % 128 by omega]
    congr 3
    omega

/-! ## Quantising a scaled family -/

open Cert.HostVals Cert.RefQuant Cert.ReferenceIdeal

section
variable (M n : ℕ) [NeZero M] (hr : (⟨2, ![M, n]⟩ : Shape).ReducesTo [0] ⟨1, ![n]⟩) (h1 : (⟨1, ![n]⟩ : Shape).BroadcastsInDim ⟨2, ![1, n]⟩ ![1])
  (h : S_.BroadcastsInDim ⟨2, ![1, n]⟩ ![]) (hT : S_.BroadcastsInDim ⟨2, ![M, n]⟩ ![])
  (hd : (⟨2, ![1, n]⟩ : Shape).BroadcastsInDim ⟨2, ![M, n]⟩ ![0, 1])
  (w : EReal) (hw : Factor w) (R : FVec Ideal ⟨2, ![M, n]⟩ .f32) (g : Fin M → Fin n → EReal) (hR : ∀ r j, R (ix2 r j) = g r j * w)
  (hB : ∀ j, Bounded fun r => g r j)
include hw hR hB

/-- The reference's codes of columns are the plain ones. -/
theorem col_codes : coded ⟨2, ![M, n]⟩ ⟨2, ![1, n]⟩ ![0, 1] h hT hd R (exps ⟨2, ![1, n]⟩ h (colQuot M n hr h1 h R)) = codesDown M n w g := by
  funext y
  obtain ⟨r, j, rfl⟩ : ∃ r j, y = ix2 r j := ⟨y 0, y 1, (ix2_eta y).symm⟩
  haveI : Nonempty (Fin M) := ⟨0⟩
  rw [coded_col, exps_apply, colQuot_apply]
  refine Eq.trans ?_ (code_eq_ref w _ hw (hB j) (g r j)).symm
  simp only [hR]

/-- The reference's scales of columns are the plain ones. -/
theorem col_scales : pows ⟨2, ![1, n]⟩ h (exps ⟨2, ![1, n]⟩ h (colQuot M n hr h1 h R)) = scalesDown M n w g := by
  funext y
  obtain ⟨i, j, rfl⟩ : ∃ i j, y = ix2 i j := ⟨y 0, y 1, (ix2_eta y).symm⟩
  obtain rfl : i = 0 := Subsingleton.elim _ _
  rw [pows_apply, exps_apply, colQuot_apply]
  haveI : Nonempty (Fin M) := ⟨0⟩
  refine Eq.trans ?_ (scale_eq_ref w _ hw (hB j)).symm
  simp only [hR]
end

section
variable (m N : ℕ) [NeZero N] (hr : (⟨2, ![m, N]⟩ : Shape).ReducesTo [1] ⟨1, ![m]⟩) (h1 : (⟨1, ![m]⟩ : Shape).BroadcastsInDim ⟨2, ![m, 1]⟩ ![0])
  (h : S_.BroadcastsInDim ⟨2, ![m, 1]⟩ ![]) (hT : S_.BroadcastsInDim ⟨2, ![m, N]⟩ ![])
  (hd : (⟨2, ![m, 1]⟩ : Shape).BroadcastsInDim ⟨2, ![m, N]⟩ ![0, 1])
  (w : EReal) (hw : Factor w) (R : FVec Ideal ⟨2, ![m, N]⟩ .f32) (g : Fin m → Fin N → EReal) (hR : ∀ i r, R (ix2 i r) = g i r * w)
  (hB : ∀ i, Bounded fun r => g i r)
include hw hR hB

/-- The reference's codes of rows are the plain ones. -/
theorem row_codes : coded ⟨2, ![m, N]⟩ ⟨2, ![m, 1]⟩ ![0, 1] h hT hd R (exps ⟨2, ![m, 1]⟩ h (rowQuot m N hr h1 h R)) = codesAlong m N w g := by
  funext y
  obtain ⟨i, r, rfl⟩ : ∃ i r, y = ix2 i r := ⟨y 0, y 1, (ix2_eta y).symm⟩
  haveI : Nonempty (Fin N) := ⟨0⟩
  rw [coded_row, exps_apply, rowQuot_apply]
  refine Eq.trans ?_ (code_eq_ref w _ hw (hB i) (g i r)).symm
  simp only [hR]

/-- The reference's scales of rows are the plain ones. -/
theorem row_scales : pows ⟨2, ![m, 1]⟩ h (exps ⟨2, ![m, 1]⟩ h (rowQuot m N hr h1 h R)) = scalesAlong m N w g := by
  funext y
  obtain ⟨i, j, rfl⟩ : ∃ i j, y = ix2 i j := ⟨y 0, y 1, (ix2_eta y).symm⟩
  obtain rfl : j = 0 := Subsingleton.elim _ _
  rw [pows_apply, exps_apply, rowQuot_apply]
  haveI : Nonempty (Fin N) := ⟨0⟩
  refine Eq.trans ?_ (scale_eq_ref w _ hw (hB i)).symm
  simp only [hR]
end

end Cert.Plain

end
end
-- ==== Proof.Run.lean ====
/- The kernel program's run on the exact numbers: every execution ends with the ten result arrays at what the four regions leave in
   them, and each region starts with its inputs at the arguments' contents, the tables, or an earlier region's results. -/
module

public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every buffer of the core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- Result `main_v2_0` ends at what region 0 leaves. -/
theorem end_v2_0 (c : Dev nD) : V5 m ρ c main_v2_0 = (dat0 (V1 m ρ) c).arrAt 2 cfg0.N :=
  Eq.trans (W5_of m ρ c main_v2_0 (by decide +kernel)) (Eq.trans (W4_of m ρ c main_v2_0 (by decide +kernel)) (Eq.trans (W3_of m ρ c main_v2_0 (by decide +kernel)) ((W2_arr m ρ c 2))))

/-- Result `main_v2_1` ends at what region 0 leaves. -/
theorem end_v2_1 (c : Dev nD) : V5 m ρ c main_v2_1 = (dat0 (V1 m ρ) c).arrAt 3 cfg0.N :=
  Eq.trans (W5_of m ρ c main_v2_1 (by decide +kernel)) (Eq.trans (W4_of m ρ c main_v2_1 (by decide +kernel)) (Eq.trans (W3_of m ρ c main_v2_1 (by decide +kernel)) ((W2_arr m ρ c 3))))

/-- Result `main_v3_0` ends at what region 1 leaves. -/
theorem end_v3_0 (c : Dev nD) : V5 m ρ c main_v3_0 = (dat1 (V2 m ρ) c).arrAt 4 cfg1.N :=
  Eq.trans (W5_of m ρ c main_v3_0 (by decide +kernel)) (Eq.trans (W4_of m ρ c main_v3_0 (by decide +kernel)) ((W3_arr m ρ c 4)))

/-- Result `main_v3_1` ends at what region 1 leaves. -/
theorem end_v3_1 (c : Dev nD) : V5 m ρ c main_v3_1 = (dat1 (V2 m ρ) c).arrAt 5 cfg1.N :=
  Eq.trans (W5_of m ρ c main_v3_1 (by decide +kernel)) (Eq.trans (W4_of m ρ c main_v3_1 (by decide +kernel)) ((W3_arr m ρ c 5)))

/-- Result `main_v3_2` ends at what region 1 leaves. -/
theorem end_v3_2 (c : Dev nD) : V5 m ρ c main_v3_2 = (dat1 (V2 m ρ) c).arrAt 6 cfg1.N :=
  Eq.trans (W5_of m ρ c main_v3_2 (by decide +kernel)) (Eq.trans (W4_of m ρ c main_v3_2 (by decide +kernel)) ((W3_arr m ρ c 6)))

/-- Result `main_v4_0` ends at what region 2 leaves. -/
theorem end_v4_0 (c : Dev nD) : V5 m ρ c main_v4_0 = (dat2 (V3 m ρ) c).arrAt 2 cfg2.N :=
  Eq.trans (W5_of m ρ c main_v4_0 (by decide +kernel)) ((W4_arr m ρ c 2))

/-- Result `main_v4_1` ends at what region 2 leaves. -/
theorem end_v4_1 (c : Dev nD) : V5 m ρ c main_v4_1 = (dat2 (V3 m ρ) c).arrAt 3 cfg2.N :=
  Eq.trans (W5_of m ρ c main_v4_1 (by decide +kernel)) ((W4_arr m ρ c 3))

/-- Result `main_v5_0` ends at what region 3 leaves. -/
theorem end_v5_0 (c : Dev nD) : V5 m ρ c main_v5_0 = (dat3 (V4 m ρ) c).arrAt 4 cfg3.N :=
  (W5_arr m ρ c 4)

/-- Result `main_v5_1` ends at what region 3 leaves. -/
theorem end_v5_1 (c : Dev nD) : V5 m ρ c main_v5_1 = (dat3 (V4 m ρ) c).arrAt 5 cfg3.N :=
  (W5_arr m ρ c 5)

/-- Result `main_v5_2` ends at what region 3 leaves. -/
theorem end_v5_2 (c : Dev nD) : V5 m ρ c main_v5_2 = (dat3 (V4 m ρ) c).arrAt 6 cfg3.N :=
  (W5_arr m ρ c 6)

/-- Region 1 reads `main_v2_0` as region 0 leaves it. -/
theorem start2_v2_0 (c : Dev nD) : V2 m ρ c main_v2_0 = (dat0 (V1 m ρ) c).arrAt 2 cfg0.N :=
  W2_arr m ρ c 2

/-- Region 1 reads `main_v2_1` as region 0 leaves it. -/
theorem start2_v2_1 (c : Dev nD) : V2 m ρ c main_v2_1 = (dat0 (V1 m ρ) c).arrAt 3 cfg0.N :=
  W2_arr m ρ c 3

/-- Region 3 reads `main_v4_0` as region 2 leaves it. -/
theorem start4_v4_0 (c : Dev nD) : V4 m ρ c main_v4_0 = (dat2 (V3 m ρ) c).arrAt 2 cfg2.N :=
  W4_arr m ρ c 2

/-- Region 3 reads `main_v4_1` as region 2 leaves it. -/
theorem start4_v4_1 (c : Dev nD) : V4 m ρ c main_v4_1 = (dat2 (V3 m ρ) c).arrAt 3 cfg2.N :=
  W4_arr m ρ c 3

/-- Region 1 reads `main_cst_0` as the host lines leave it. -/
theorem start2_cst_0 (c : Dev nD) : V2 m ρ c main_cst_0 = V1 m ρ c main_cst_0 :=
  (W2_of m ρ c main_cst_0 (by decide +kernel))

/-- Region 1 reads `main_v1` as the host lines leave it. -/
theorem start2_v1 (c : Dev nD) : V2 m ρ c main_v1 = V1 m ρ c main_v1 :=
  (W2_of m ρ c main_v1 (by decide +kernel))

/-- Region 2 reads `main_cst` as the host lines leave it. -/
theorem start3_cst (c : Dev nD) : V3 m ρ c main_cst = V1 m ρ c main_cst :=
  Eq.trans (W3_of m ρ c main_cst (by decide +kernel)) ((W2_of m ρ c main_cst (by decide +kernel)))

/-- Region 2 reads `main_v1` as the host lines leave it. -/
theorem start3_v1 (c : Dev nD) : V3 m ρ c main_v1 = V1 m ρ c main_v1 :=
  Eq.trans (W3_of m ρ c main_v1 (by decide +kernel)) ((W2_of m ρ c main_v1 (by decide +kernel)))

/-- Region 3 reads `main_cst` as the host lines leave it. -/
theorem start4_cst (c : Dev nD) : V4 m ρ c main_cst = V1 m ρ c main_cst :=
  Eq.trans (W4_of m ρ c main_cst (by decide +kernel)) (Eq.trans (W3_of m ρ c main_cst (by decide +kernel)) ((W2_of m ρ c main_cst (by decide +kernel))))

/-- Region 3 reads the weights as launched. -/
theorem start4_arg1 (c : Dev nD) : V4 m ρ c main_arg1 = m ((c : Thread nD τ).loc main_arg1) :=
  W4_args m ρ c main_arg1 (by decide +kernel)

/-- The host lines leave the first table in `main_cst`. -/
theorem start1_cst (c : Dev nD) : V1 m ρ c main_cst = fun i => FloatOps.ofBits .bf16 (lit0 (S256x256.rowMajor i)) := by
  show StableHlo.after hostOps0 (W0 m ρ c) _ = _
  after_results
  rfl

/-- The host lines leave the second table in `main_cst_0`. -/
theorem start1_cst_0 (c : Dev nD) : V1 m ρ c main_cst_0 = fun i => FloatOps.ofBits .bf16 (lit1 (S256x256.rowMajor i)) := by
  show StableHlo.after hostOps0 (W0 m ρ c) _ = _
  after_results
  rfl

/-- The host lines leave the activations, tokens flattened, in `main_v0`. -/
theorem start1_v0 (c : Dev nD) : V1 m ρ c main_v0 = shapeCast S1792x1536 (m ((c : Thread nD τ).loc main_arg0)) shapeCasts_S2x896x1536_S1792x1536 := by
  show StableHlo.after hostOps0 (W0 m ρ c) _ = _
  after_results
  rfl

/-- The host lines leave the output gradient, tokens flattened, in `main_v1`. -/
theorem start1_v1 (c : Dev nD) : V1 m ρ c main_v1 = shapeCast S1792x8960 (m ((c : Thread nD τ).loc main_arg2)) shapeCasts_S2x896x8960_S1792x8960 := by
  show StableHlo.after hostOps0 (W0 m ρ c) _ = _
  after_results
  rfl

end Cert.KernelIdeal.Gen

end

end
-- ==== Proof.Block1.lean ====
/- The second launch's block: a column block of dy, rotated over its tokens in 256-row tiles, quantised by column, and multiplied with x's codes. -/
module

public import proofs.«01_k».proof.Proof.Run
public import proofs.«01_k».proof.Proof.Kit

@[expose] public section

set_option maxRecDepth 65536

noncomputable section

namespace Cert.Block1

open Idealize.ShloMosaic Idealize.ShloMosaic.TcCoe Idealize.ShloMosaic.Tactic
open Cert.KernelIdeal Cert.KernelIdeal.Gen Cert.Scale Cert.Quant Cert.Forms Cert.Kit

variable (V : (c : Dev nD) → (b : Ref sig .tc) → Buf (Elt Ideal) ((c : Thread nD τ).loc b))

/-- The `k`-th rotated tile. -/
def tile (h : FVec Ideal S256x256 .bf16) (x : FVec Ideal S1792x256 .bf16) (k : Fin 7) : FVec Ideal S256x256 .f32 :=
  tileOf h (shapeCast S256x256 (rowsOf 7 1792 rfl x k) shapeCasts_S256x256_S256x256)

/-- The rotated block: what the scratch holds. -/
def rot (h : FVec Ideal S256x256 .bf16) (x : FVec Ideal S1792x256 .bf16) : FVec Ideal S1792x256 .f32 := cStack 7 1792 rfl (tile h x)

theorem rot_apply (h : FVec Ideal S256x256 .bf16) (x : FVec Ideal S1792x256 .bf16) (r : Fin 1792) (j : Fin 256) :
    rot h x (ix2 r j) = ∑ q : Fin 256, h (ix2 ⟨r.val % 256, by omega⟩ q) * x (ix2 ⟨256 * (r.val / 256) + q.val, by omega⟩ j) := by
  unfold rot
  rw [cStack_apply]
  unfold tile
  rw [shapeCast_self, tileOf_apply]
  exact Finset.sum_congr rfl fun q _ => by rw [rowsOf_apply]

/-- The scale row of a block. -/
def scales (h : FVec Ideal S256x256 .bf16) (x : FVec Ideal S1792x256 .bf16) : FVec Ideal S1x256 .f32 :=
  cScale (cQuot 0x3DB504F3#32 (cChain 7 (tile h x) 7 le_rfl))

/-- The codes of a block. -/
def codes (h : FVec Ideal S256x256 .bf16) (x : FVec Ideal S1792x256 .bf16) : FVec Ideal S1792x256 .fp8e4m3 :=
  cCode 1792 broadcasts_S1x256_S1792x256 0x3DB504F3#32 (rot h x) (cInv (cQuot 0x3DB504F3#32 (cChain 7 (tile h x) 7 le_rfl)))

theorem scales_apply (h : FVec Ideal S256x256 .bf16) (x : FVec Ideal S1792x256 .bf16) (j : Fin 256) :
    scales h x (ix2 0 j) = scale hTok (fun r : Fin 1792 => rot h x (ix2 r j)) :=
  colScale 0x3DB504F3#32 factor_hTok 7 1792 rfl (tile h x) j

theorem codes_apply (h : FVec Ideal S256x256 .bf16) (x : FVec Ideal S1792x256 .bf16) (j : Fin 256)
    (hB : Bounded fun r : Fin 1792 => rot h x (ix2 r j)) (r : Fin 1792) :
    codes h x (ix2 r j) = code hTok (fun r : Fin 1792 => rot h x (ix2 r j)) (rot h x (ix2 r j)) :=
  colCode 0x3DB504F3#32 factor_hTok 7 1792 rfl _ (tile h x) j hB r

theorem chain_eq (h : FVec Ideal S256x256 .bf16) (x : FVec Ideal S1792x256 .bf16) :
    cMax (k1_pay16 h (k1_pay9 h (rowsOf 7 1792 rfl x 0) (rowsOf 7 1792 rfl x 1) (rowsOf 7 1792 rfl x 2)) (rowsOf 7 1792 rfl x 3) (rowsOf 7 1792 rfl x 4)
      (rowsOf 7 1792 rfl x 5)) (k1_pay17 h (rowsOf 7 1792 rfl x 6)) = cChain 7 (tile h x) 7 le_rfl := rfl

theorem pieces_eq (h : FVec Ideal S256x256 .bf16) (x : FVec Ideal S1792x256 .bf16) :
    ([⟨Rect.unit (s := S1792x256) ![1536, 0] S256x256.size inb_S1792x256_S256x256_1536_0, k1_pay18 (F := Ideal) h (rowsOf 7 1792 rfl x 6)⟩,
      ⟨Rect.unit (s := S1792x256) ![1280, 0] S256x256.size inb_S1792x256_S256x256_1280_0, k1_pay15 (F := Ideal) h (rowsOf 7 1792 rfl x 5)⟩,
      ⟨Rect.unit (s := S1792x256) ![1024, 0] S256x256.size inb_S1792x256_S256x256_1024_0, k1_pay13 (F := Ideal) h (rowsOf 7 1792 rfl x 4)⟩,
      ⟨Rect.unit (s := S1792x256) ![768, 0] S256x256.size inb_S1792x256_S256x256_768_0, k1_pay11 (F := Ideal) h (rowsOf 7 1792 rfl x 3)⟩,
      ⟨Rect.unit (s := S1792x256) ![512, 0] S256x256.size inb_S1792x256_S256x256_512_0, k1_pay8 (F := Ideal) h (rowsOf 7 1792 rfl x 2)⟩,
      ⟨Rect.unit (s := S1792x256) ![256, 0] S256x256.size inb_S1792x256_S256x256_256_0, k1_pay6 (F := Ideal) h (rowsOf 7 1792 rfl x 1)⟩,
      ⟨Rect.unit (s := S1792x256) ![0, 0] S256x256.size inb_S1792x256_S256x256_0_0, k1_pay4 (F := Ideal) h (rowsOf 7 1792 rfl x 0)⟩] : List (View.Piece (Elt Ideal) S1792x256 .f32)) = cPieces 7 1792 rfl (fun k => cast0 (tile h x k)) 7 le_rfl := rfl

theorem scale_pay (a : FVec Ideal S1x256 .f32) (T : FVec Ideal S256x256 .f32) :
    k1_pay21 (F := Ideal) a T = cScale (cQuot 0x3DB504F3#32 (cMax a T)) := rfl

theorem codes_pay (a : FVec Ideal S1x256 .f32) (T : FVec Ideal S256x256 .f32) (G : FVec Ideal S1792x256 .f32) :
    k1_pay1 (F := Ideal) (k1_pay22 a T G) (FloatOps.ofBits .f32 0xC3E00000#32)
      = cCode 1792 broadcasts_S1x256_S1792x256 0x3DB504F3#32 G (cInv (cQuot 0x3DB504F3#32 (cMax a T))) := rfl

/-- The block's codes from its chain and its stored tiles. -/
theorem codes_whole (h : FVec Ideal S256x256 .bf16) (x : FVec Ideal S1792x256 .bf16) (a : FVec Ideal S1x256 .f32) (T : FVec Ideal S256x256 .f32)
    (ha : cMax a T = cChain 7 (tile h x) 7 le_rfl) (v : View sig .tc .vmem S1792x256 .f32) (inb)
    (L : List (View.Piece (Elt Ideal) S1792x256 .f32)) (hL : L = cPieces 7 1792 rfl (fun k => cast0 (tile h x k)) 7 le_rfl) :
    k1_pay1 (F := Ideal) (k1_pay22 a T (v.readCov L (Rect.unit (s := S1792x256) ![0, 0] S1792x256.size inb).toLoadRect))
      (FloatOps.ofBits .f32 0xC3E00000#32) = codes h x := by
  rw [codes_pay, ha, hL]
  unfold codes rot
  rw [← cStack_cast 7 1792 rfl (tile h x)]
  exact congrArg (fun G => cCode 1792 broadcasts_S1x256_S1792x256 0x3DB504F3#32 G _) (cPieces_read 7 1792 rfl _ v inb)

/-- The product of the block's codes with x's codes, over all tokens, times the two scales. -/
theorem dw_apply (s : FVec Ideal S1x256 .f32) (a : FVec Ideal S1792x256 .fp8e4m3) (b : FVec Ideal S1792x1536 .fp8e4m3) (u : FVec Ideal S1x1536 .f32)
    (i : Fin 256) (j : Fin 1536) :
    k1_pay2 (F := Ideal) s a b u (ix2 i j) = (∑ r : Fin 1792, a (ix2 r i) * b (ix2 r j)) * s (ix2 0 i) * u (ix2 0 j) := by
  unfold k1_pay2
  rw [shapeCast_self, shapeCast_self, shapeCast_self, shapeCast_self]
  pointwise

theorem outs_codes (c : Dev nD) (t : Fin cfg1.N) : (outsAt1 V c t).1 = codes (iblk1 V c 0 t) (iblk1 V c 3 t) := by
  unfold outsAt1
  frame_open
  simp only [View.readAt_eq_ld, (hs1_0 t).read_unread, (hs1_3 t).read_unread]
  rw [View.ld_unit_zero (S := S256x256) zero2]
  refine (read_one _ zero2 _ _).trans ?_
  exact codes_whole _ _ _ _ (chain_eq _ _) _ _ _ (pieces_eq _ _)

theorem outs_scales (c : Dev nD) (t : Fin cfg1.N) : (outsAt1 V c t).2.1 = scales (iblk1 V c 0 t) (iblk1 V c 3 t) := by
  unfold outsAt1
  frame_open
  simp only [View.readAt_eq_ld, (hs1_0 t).read_unread, (hs1_3 t).read_unread]
  rw [View.ld_unit_zero (S := S256x256) zero2]
  refine (read_one _ zero2 _ _).trans ?_
  rw [scale_pay]
  exact congrArg (fun q => cScale (cQuot 0x3DB504F3#32 q)) (chain_eq _ _)

theorem outs_dw (c : Dev nD) (t : Fin cfg1.N) : (outsAt1 V c t).2.2
    = k1_pay2 (scales (iblk1 V c 0 t) (iblk1 V c 3 t)) (codes (iblk1 V c 0 t) (iblk1 V c 3 t)) (iblk1 V c 1 t) (iblk1 V c 2 t) := by
  unfold outsAt1
  frame_open
  simp only [View.readAt_eq_ld, (hs1_0 t).read_unread, (hs1_1 t).read_unread, (hs1_2 t).read_unread, (hs1_3 t).read_unread]
  rw [View.ld_unit_zero (S := S256x256) zero2, View.ld_unit_zero (S := S1792x1536) zero2, View.ld_unit_zero (S := S1x1536) zero2]
  refine (read_one _ zero2 _ _).trans ?_
  rw [scale_pay]
  refine congrArg₂ (fun q G => k1_pay2 (cScale (cQuot 0x3DB504F3#32 q)) G (iblk1 V c 1 t) (iblk1 V c 2 t)) (chain_eq _ _) ?_
  refine (readCov_one _ zero2 _ _ _).trans ?_
  exact codes_whole _ _ _ _ (chain_eq _ _) _ _ _ (pieces_eq _ _)

end Cert.Block1

end
end
-- ==== Proof.Arr1.lean ====
/- The second launch's arrays: dy's codes and scales over the tokens, and dw. -/
module

public import proofs.«01_k».proof.Proof.Block1
public import proofs.«01_k».proof.Proof.Rot

@[expose] public section

noncomputable section

namespace Cert.Arr1

open Idealize.ShloMosaic Idealize.ShloMosaic.TcCoe Idealize.ShloMosaic.Tactic
open Cert.KernelIdeal Cert.KernelIdeal.Gen Cert.Scale Cert.Quant Cert.Rot

variable (V : (c : Dev nD) → (b : Ref sig .tc) → Buf (Elt Ideal) ((c : Thread nD τ).loc b)) (c : Dev nD)

/-- dy's rotation over its tokens. -/
def g : Fin 1792 → Fin 8960 → EReal := down 1792 8960 (by decide) (V c main_cst_0) (V c main_v1)

theorem e0 : ∀ t : Fin cfg1.N, win1_0.index t = ![0, 0] := (by decide +kernel : ∀ t : Fin grid1.N, win1_0.index t = ![0, 0])
theorem e1 : ∀ t : Fin cfg1.N, win1_1.index t = ![0, 0] := (by decide +kernel : ∀ t : Fin grid1.N, win1_1.index t = ![0, 0])
theorem e2 : ∀ t : Fin cfg1.N, win1_2.index t = ![0, 0] := (by decide +kernel : ∀ t : Fin grid1.N, win1_2.index t = ![0, 0])
theorem e3 : ∀ t : Fin cfg1.N, win1_3.index t = ![0, t.val] := (by decide +kernel : ∀ t : Fin grid1.N, win1_3.index t = ![0, t.val])
theorem e4 : ∀ t : Fin cfg1.N, win1_4.index t = ![0, t.val] := (by decide +kernel : ∀ t : Fin grid1.N, win1_4.index t = ![0, t.val])
theorem e5 : ∀ t : Fin cfg1.N, win1_5.index t = ![0, t.val] := (by decide +kernel : ∀ t : Fin grid1.N, win1_5.index t = ![0, t.val])
theorem e6 : ∀ t : Fin cfg1.N, win1_6.index t = ![t.val, 0] := (by decide +kernel : ∀ t : Fin grid1.N, win1_6.index t = ![t.val, 0])

theorem lt (t : Fin cfg1.N) (j : Fin 256) : 256 * t.val + j.val < 8960 := by
  have h : t.val < 35 := t.isLt
  omega

theorem in0 (t : Fin cfg1.N) (p : Fin 256) (q : Fin 256) : iblk1 V c 0 t (ix2 p q) = V c main_cst_0 (ix2 p q) := by
  blk_simp [iblk1]
  refine congrArg _ ?_
  blk_ext [e0]

theorem in1 (t : Fin cfg1.N) (p : Fin 1792) (q : Fin 1536) : iblk1 V c 1 t (ix2 p q) = V c main_v2_0 (ix2 p q) := by
  blk_simp [iblk1]
  refine congrArg _ ?_
  blk_ext [e1]

theorem in2 (t : Fin cfg1.N) (p : Fin 1) (q : Fin 1536) : iblk1 V c 2 t (ix2 p q) = V c main_v2_1 (ix2 p q) := by
  blk_simp [iblk1]
  refine congrArg _ ?_
  blk_ext [e2]

theorem in3 (t : Fin cfg1.N) (r : Fin 1792) (j : Fin 256) : iblk1 V c 3 t (ix2 r j) = V c main_v1 (ix2 r ⟨256 * t.val + j.val, lt t j⟩) := by
  blk_simp [iblk1]
  refine congrArg _ ?_
  blk_ext [e3]

theorem rot_eq (t : Fin cfg1.N) (r : Fin 1792) (j : Fin 256) :
    Block1.rot (iblk1 V c 0 t) (iblk1 V c 3 t) (ix2 r j) = g V c r ⟨256 * t.val + j.val, lt t j⟩ := by
  rw [Block1.rot_apply]
  unfold g down
  exact Finset.sum_congr rfl fun q _ => by rw [in0, in3]

/-- A block's codes. -/
theorem codes_blk (hB : ∀ j, Bounded fun r => g V c r j) (t : Fin cfg1.N) (r : Fin 1792) (j : Fin 256) :
    Block1.codes (iblk1 V c 0 t) (iblk1 V c 3 t) (ix2 r j)
      = codesDown 1792 8960 hTok (g V c) (ix2 r ⟨256 * t.val + j.val, lt t j⟩) := by
  rw [Block1.codes_apply _ _ _ (by simp only [rot_eq]; exact hB _)]
  simp only [rot_eq]
  rfl

/-- A block's scales. -/
theorem scales_blk (t : Fin cfg1.N) (j : Fin 256) :
    Block1.scales (iblk1 V c 0 t) (iblk1 V c 3 t) (ix2 0 j)
      = scalesDown 1792 8960 hTok (g V c) (ix2 0 ⟨256 * t.val + j.val, lt t j⟩) := by
  rw [Block1.scales_apply]
  simp only [rot_eq]
  rfl

/-- dy's codes. -/
theorem codes_eq (hB : ∀ j, Bounded fun r => g V c r j) : (dat1 V c).arrAt 4 cfg1.N = codesDown 1792 8960 hTok (g V c) := by
  refine (dat1 V c).arrAt_eq_of_covers 4 _ (by decide +kernel) fun t hf y => ?_
  blk_simp
  rw [after1_4, Block1.outs_codes]
  obtain ⟨r, j, rfl⟩ : ∃ (r : Fin 1792) (j : Fin 256), y = ix2 r j := ⟨y 0, y 1, (ix2_eta (n0 := 1792) (n1 := 256) y).symm⟩
  have e : ((cfg1.win 4).blk t).view.emb (ix2 r j) = ix2 (n0 := 1792) (n1 := 8960) r ⟨256 * t.val + j.val, lt t j⟩ := by
    blk_ext [e4]
  rw [e, codes_blk V c hB]

/-- dy's scales. -/
theorem scales_eq : (dat1 V c).arrAt 5 cfg1.N = scalesDown 1792 8960 hTok (g V c) := by
  refine (dat1 V c).arrAt_eq_of_covers 5 _ (by decide +kernel) fun t hf y => ?_
  blk_simp
  rw [after1_5, Block1.outs_scales]
  obtain ⟨r, j, rfl⟩ : ∃ (r : Fin 1) (j : Fin 256), y = ix2 r j := ⟨y 0, y 1, (ix2_eta (n0 := 1) (n1 := 256) y).symm⟩
  obtain rfl : r = 0 := Subsingleton.elim _ _
  have e : ((cfg1.win 5).blk t).view.emb (ix2 0 j) = ix2 (n0 := 1) (n1 := 8960) 0 ⟨256 * t.val + j.val, lt t j⟩ := by
    blk_ext [e5]
  rw [e, scales_blk]

/-- The product over tokens of dy's codes and given codes, times the two scales. -/
def dw (a : FVec Ideal S1792x8960 .fp8e4m3) (s : FVec Ideal S1x8960 .f32) (b : FVec Ideal S1792x1536 .fp8e4m3) (u : FVec Ideal S1x1536 .f32) :
    FVec Ideal S8960x1536 .f32 :=
  fun y => (∑ r : Fin 1792, a (ix2 (n0 := 1792) (n1 := 8960) r (y 0)) * b (ix2 (n0 := 1792) (n1 := 1536) r (y 1)))
    * s (ix2 (n0 := 1) (n1 := 8960) 0 (y 0)) * u (ix2 (n0 := 1) (n1 := 1536) 0 (y 1))

/-- dw. -/
theorem dw_eq (hB : ∀ j, Bounded fun r => g V c r j) : (dat1 V c).arrAt 6 cfg1.N
    = dw (codesDown 1792 8960 hTok (g V c)) (scalesDown 1792 8960 hTok (g V c)) (V c main_v2_0) (V c main_v2_1) := by
  refine (dat1 V c).arrAt_eq_of_covers 6 _ (by decide +kernel) fun t hf y => ?_
  blk_simp
  rw [after1_6, Block1.outs_dw]
  obtain ⟨i, j, rfl⟩ : ∃ (i : Fin 256) (j : Fin 1536), y = ix2 i j := ⟨y 0, y 1, (ix2_eta (n0 := 256) (n1 := 1536) y).symm⟩
  have e : ((cfg1.win 6).blk t).view.emb (ix2 i j) = ix2 (n0 := 8960) (n1 := 1536) ⟨256 * t.val + i.val, lt t i⟩ j := by
    blk_ext [e6]
  rw [e, Block1.dw_apply]
  simp only [codes_blk V c hB, scales_blk V c, in1, in2]
  rfl

end Cert.Arr1

end
end
-- ==== Proof.Block3.lean ====
/- The fourth launch's block: a column block of w, rotated over its outputs in 256-row tiles, quantised by column, and multiplied with dyo's codes. -/
module

public import proofs.«01_k».proof.Proof.Run
public import proofs.«01_k».proof.Proof.Kit

@[expose] public section

set_option maxRecDepth 65536

noncomputable section

namespace Cert.Block3

open Idealize.ShloMosaic Idealize.ShloMosaic.TcCoe Idealize.ShloMosaic.Tactic
open Cert.KernelIdeal Cert.KernelIdeal.Gen Cert.Scale Cert.Quant Cert.Forms Cert.Kit

variable (V : (c : Dev nD) → (b : Ref sig .tc) → Buf (Elt Ideal) ((c : Thread nD τ).loc b))

/-- The `k`-th rotated tile. -/
def tile (h : FVec Ideal S256x256 .bf16) (x : FVec Ideal S8960x256 .bf16) (k : Fin 35) : FVec Ideal S256x256 .f32 :=
  tileOf h (rowsOf 35 8960 rfl x k)

/-- The rotated block: what the scratch holds. -/
def rot (h : FVec Ideal S256x256 .bf16) (x : FVec Ideal S8960x256 .bf16) : FVec Ideal S8960x256 .f32 := cStack 35 8960 rfl (tile h x)

theorem rot_apply (h : FVec Ideal S256x256 .bf16) (x : FVec Ideal S8960x256 .bf16) (r : Fin 8960) (j : Fin 256) :
    rot h x (ix2 r j) = ∑ q : Fin 256, h (ix2 ⟨r.val % 256, by omega⟩ q) * x (ix2 ⟨256 * (r.val / 256) + q.val, by omega⟩ j) := by
  unfold rot
  rw [cStack_apply]
  unfold tile
  rw [tileOf_apply]
  exact Finset.sum_congr rfl fun q _ => by rw [rowsOf_apply]

/-- The scale row of a block. -/
def scales (h : FVec Ideal S256x256 .bf16) (x : FVec Ideal S8960x256 .bf16) : FVec Ideal S1x256 .f32 :=
  cScale (cQuot 0x3D800000#32 (cChain 35 (tile h x) 35 le_rfl))

/-- The codes of a block. -/
def codes (h : FVec Ideal S256x256 .bf16) (x : FVec Ideal S8960x256 .bf16) : FVec Ideal S8960x256 .fp8e4m3 :=
  cCode 8960 broadcasts_S1x256_S8960x256 0x3D800000#32 (rot h x) (cInv (cQuot 0x3D800000#32 (cChain 35 (tile h x) 35 le_rfl)))

theorem scales_apply (h : FVec Ideal S256x256 .bf16) (x : FVec Ideal S8960x256 .bf16) (j : Fin 256) :
    scales h x (ix2 0 j) = scale hOut (fun r : Fin 8960 => rot h x (ix2 r j)) :=
  colScale 0x3D800000#32 factor_hOut 35 8960 rfl (tile h x) j

theorem codes_apply (h : FVec Ideal S256x256 .bf16) (x : FVec Ideal S8960x256 .bf16) (j : Fin 256)
    (hB : Bounded fun r : Fin 8960 => rot h x (ix2 r j)) (r : Fin 8960) :
    codes h x (ix2 r j) = code hOut (fun r : Fin 8960 => rot h x (ix2 r j)) (rot h x (ix2 r j)) :=
  colCode 0x3D800000#32 factor_hOut 35 8960 rfl _ (tile h x) j hB r

/-! The running maxima, a group of tiles at a time. -/

theorem step7 (h : FVec Ideal S256x256 .bf16) (t0 t1 t2 : FVec Ideal S256x256 .bf16) :
    k3_pay7 h t0 t1 t2 = cMax (cMax (cMax (broadcast S1x256 (Scalar.ofBits (F := Ideal) .f32 0x00000000#32)) (tileOf h t0)) (tileOf h t1)) (tileOf h t2) := rfl

theorem step16 (h : FVec Ideal S256x256 .bf16) (a : FVec Ideal S1x256 .f32) (t0 t1 t2 t3 : FVec Ideal S256x256 .bf16) :
    k3_pay16 h a (k3_pay8 h t0) t1 t2 t3 = cMax (cMax (cMax (cMax (a) (tileOf h t0)) (tileOf h t1)) (tileOf h t2)) (tileOf h t3) := rfl

theorem step23 (h : FVec Ideal S256x256 .bf16) (a : FVec Ideal S1x256 .f32) (t0 t1 t2 : FVec Ideal S256x256 .bf16) :
    k3_pay23 h a t0 t1 t2 = cMax (cMax (cMax (a) (tileOf h t0)) (tileOf h t1)) (tileOf h t2) := rfl

theorem step33 (h : FVec Ideal S256x256 .bf16) (a : FVec Ideal S1x256 .f32) (t0 t1 t2 t3 : FVec Ideal S256x256 .bf16) :
    k3_pay33 h a (k3_pay26 h t0) t1 t2 t3 = cMax (cMax (cMax (cMax (a) (tileOf h t0)) (tileOf h t1)) (tileOf h t2)) (tileOf h t3) := rfl

theorem step42 (h : FVec Ideal S256x256 .bf16) (a : FVec Ideal S1x256 .f32) (t0 t1 t2 t3 : FVec Ideal S256x256 .bf16) :
    k3_pay42 h a (k3_pay34 h t0) t1 t2 t3 = cMax (cMax (cMax (cMax (a) (tileOf h t0)) (tileOf h t1)) (tileOf h t2)) (tileOf h t3) := rfl

theorem step51 (h : FVec Ideal S256x256 .bf16) (a : FVec Ideal S1x256 .f32) (t0 t1 t2 t3 : FVec Ideal S256x256 .bf16) :
    k3_pay51 h a (k3_pay43 h t0) t1 t2 t3 = cMax (cMax (cMax (cMax (a) (tileOf h t0)) (tileOf h t1)) (tileOf h t2)) (tileOf h t3) := rfl

theorem step58 (h : FVec Ideal S256x256 .bf16) (a : FVec Ideal S1x256 .f32) (t0 t1 t2 : FVec Ideal S256x256 .bf16) :
    k3_pay58 h a t0 t1 t2 = cMax (cMax (cMax (a) (tileOf h t0)) (tileOf h t1)) (tileOf h t2) := rfl

theorem step68 (h : FVec Ideal S256x256 .bf16) (a : FVec Ideal S1x256 .f32) (t0 t1 t2 t3 : FVec Ideal S256x256 .bf16) :
    k3_pay68 h a (k3_pay61 h t0) t1 t2 t3 = cMax (cMax (cMax (cMax (a) (tileOf h t0)) (tileOf h t1)) (tileOf h t2)) (tileOf h t3) := rfl

theorem step77 (h : FVec Ideal S256x256 .bf16) (a : FVec Ideal S1x256 .f32) (t0 t1 t2 t3 : FVec Ideal S256x256 .bf16) :
    k3_pay77 h a (k3_pay69 h t0) t1 t2 t3 = cMax (cMax (cMax (cMax (a) (tileOf h t0)) (tileOf h t1)) (tileOf h t2)) (tileOf h t3) := rfl

theorem scale_pay (h : FVec Ideal S256x256 .bf16) (a : FVec Ideal S1x256 .f32) (t0 t1 : FVec Ideal S256x256 .bf16) :
    k3_pay86 (F := Ideal) (k3_pay84 h a (k3_pay78 h t0) t1) = cScale (cQuot 0x3D800000#32 (cMax (cMax a (tileOf h t0)) (tileOf h t1))) := rfl

theorem codes_pay (h : FVec Ideal S256x256 .bf16) (a : FVec Ideal S1x256 .f32) (t0 t1 : FVec Ideal S256x256 .bf16) (g : FVec Ideal S8960x256 .f32) :
    k3_pay87 (F := Ideal) (k3_pay85 h a (k3_pay78 h t0) t1) g
      = cCode 8960 broadcasts_S1x256_S8960x256 0x3D800000#32 g (cInv (cQuot 0x3D800000#32 (cMax (cMax a (tileOf h t0)) (tileOf h t1)))) := rfl

theorem chain_eq (h : FVec Ideal S256x256 .bf16) (x : FVec Ideal S8960x256 .bf16) :
    cMax (cMax (k3_pay77 h (k3_pay68 h (k3_pay58 h (k3_pay51 h (k3_pay42 h (k3_pay33 h (k3_pay23 h (k3_pay16 h (k3_pay7 h (rowsOf 35 8960 rfl x 0) (rowsOf 35 8960 rfl x 1) (rowsOf 35 8960 rfl x 2))
      (k3_pay8 h (rowsOf 35 8960 rfl x 3)) (rowsOf 35 8960 rfl x 4) (rowsOf 35 8960 rfl x 5) (rowsOf 35 8960 rfl x 6))
      (rowsOf 35 8960 rfl x 7) (rowsOf 35 8960 rfl x 8) (rowsOf 35 8960 rfl x 9))
      (k3_pay26 h (rowsOf 35 8960 rfl x 10)) (rowsOf 35 8960 rfl x 11) (rowsOf 35 8960 rfl x 12) (rowsOf 35 8960 rfl x 13))
      (k3_pay34 h (rowsOf 35 8960 rfl x 14)) (rowsOf 35 8960 rfl x 15) (rowsOf 35 8960 rfl x 16) (rowsOf 35 8960 rfl x 17))
      (k3_pay43 h (rowsOf 35 8960 rfl x 18)) (rowsOf 35 8960 rfl x 19) (rowsOf 35 8960 rfl x 20) (rowsOf 35 8960 rfl x 21))
      (rowsOf 35 8960 rfl x 22) (rowsOf 35 8960 rfl x 23) (rowsOf 35 8960 rfl x 24))
      (k3_pay61 h (rowsOf 35 8960 rfl x 25)) (rowsOf 35 8960 rfl x 26) (rowsOf 35 8960 rfl x 27) (rowsOf 35 8960 rfl x 28))
      (k3_pay69 h (rowsOf 35 8960 rfl x 29)) (rowsOf 35 8960 rfl x 30) (rowsOf 35 8960 rfl x 31) (rowsOf 35 8960 rfl x 32)) (tileOf h (rowsOf 35 8960 rfl x 33))) (tileOf h (rowsOf 35 8960 rfl x 34)) = cChain 35 (tile h x) 35 le_rfl := by
  rw [step7, step16, step23, step33, step42, step51, step58, step68, step77]
  rfl

theorem pieces_eq (h : FVec Ideal S256x256 .bf16) (x : FVec Ideal S8960x256 .bf16) :
    ([⟨Rect.unit (s := S8960x256) ![8704, 0] S256x256.size inb_S8960x256_S256x256_8704_0, k3_pay81 (F := Ideal) h (rowsOf 35 8960 rfl x 34)⟩,
      ⟨Rect.unit (s := S8960x256) ![8448, 0] S256x256.size inb_S8960x256_S256x256_8448_0, k3_pay79 (F := Ideal) (k3_pay78 h (rowsOf 35 8960 rfl x 33))⟩,
      ⟨Rect.unit (s := S8960x256) ![8192, 0] S256x256.size inb_S8960x256_S256x256_8192_0, k3_pay76 (F := Ideal) h (rowsOf 35 8960 rfl x 32)⟩,
      ⟨Rect.unit (s := S8960x256) ![7936, 0] S256x256.size inb_S8960x256_S256x256_7936_0, k3_pay74 (F := Ideal) h (rowsOf 35 8960 rfl x 31)⟩,
      ⟨Rect.unit (s := S8960x256) ![7680, 0] S256x256.size inb_S8960x256_S256x256_7680_0, k3_pay72 (F := Ideal) h (rowsOf 35 8960 rfl x 30)⟩,
      ⟨Rect.unit (s := S8960x256) ![7424, 0] S256x256.size inb_S8960x256_S256x256_7424_0, k3_pay70 (F := Ideal) h (rowsOf 35 8960 rfl x 29)⟩,
      ⟨Rect.unit (s := S8960x256) ![7168, 0] S256x256.size inb_S8960x256_S256x256_7168_0, k3_pay67 (F := Ideal) h (rowsOf 35 8960 rfl x 28)⟩,
      ⟨Rect.unit (s := S8960x256) ![6912, 0] S256x256.size inb_S8960x256_S256x256_6912_0, k3_pay65 (F := Ideal) h (rowsOf 35 8960 rfl x 27)⟩,
      ⟨Rect.unit (s := S8960x256) ![6656, 0] S256x256.size inb_S8960x256_S256x256_6656_0, k3_pay63 (F := Ideal) h (rowsOf 35 8960 rfl x 26)⟩,
      ⟨Rect.unit (s := S8960x256) ![6400, 0] S256x256.size inb_S8960x256_S256x256_6400_0, k3_pay60 (F := Ideal) h (rowsOf 35 8960 rfl x 25)⟩,
      ⟨Rect.unit (s := S8960x256) ![6144, 0] S256x256.size inb_S8960x256_S256x256_6144_0, k3_pay57 (F := Ideal) h (rowsOf 35 8960 rfl x 24)⟩,
      ⟨Rect.unit (s := S8960x256) ![5888, 0] S256x256.size inb_S8960x256_S256x256_5888_0, k3_pay55 (F := Ideal) h (rowsOf 35 8960 rfl x 23)⟩,
      ⟨Rect.unit (s := S8960x256) ![5632, 0] S256x256.size inb_S8960x256_S256x256_5632_0, k3_pay53 (F := Ideal) h (rowsOf 35 8960 rfl x 22)⟩,
      ⟨Rect.unit (s := S8960x256) ![5376, 0] S256x256.size inb_S8960x256_S256x256_5376_0, k3_pay50 (F := Ideal) h (rowsOf 35 8960 rfl x 21)⟩,
      ⟨Rect.unit (s := S8960x256) ![5120, 0] S256x256.size inb_S8960x256_S256x256_5120_0, k3_pay48 (F := Ideal) h (rowsOf 35 8960 rfl x 20)⟩,
      ⟨Rect.unit (s := S8960x256) ![4864, 0] S256x256.size inb_S8960x256_S256x256_4864_0, k3_pay46 (F := Ideal) h (rowsOf 35 8960 rfl x 19)⟩,
      ⟨Rect.unit (s := S8960x256) ![4608, 0] S256x256.size inb_S8960x256_S256x256_4608_0, k3_pay44 (F := Ideal) (k3_pay43 h (rowsOf 35 8960 rfl x 18))⟩,
      ⟨Rect.unit (s := S8960x256) ![4352, 0] S256x256.size inb_S8960x256_S256x256_4352_0, k3_pay41 (F := Ideal) h (rowsOf 35 8960 rfl x 17)⟩,
      ⟨Rect.unit (s := S8960x256) ![4096, 0] S256x256.size inb_S8960x256_S256x256_4096_0, k3_pay39 (F := Ideal) h (rowsOf 35 8960 rfl x 16)⟩,
      ⟨Rect.unit (s := S8960x256) ![3840, 0] S256x256.size inb_S8960x256_S256x256_3840_0, k3_pay37 (F := Ideal) h (rowsOf 35 8960 rfl x 15)⟩,
      ⟨Rect.unit (s := S8960x256) ![3584, 0] S256x256.size inb_S8960x256_S256x256_3584_0, k3_pay35 (F := Ideal) h (rowsOf 35 8960 rfl x 14)⟩,
      ⟨Rect.unit (s := S8960x256) ![3328, 0] S256x256.size inb_S8960x256_S256x256_3328_0, k3_pay32 (F := Ideal) h (rowsOf 35 8960 rfl x 13)⟩,
      ⟨Rect.unit (s := S8960x256) ![3072, 0] S256x256.size inb_S8960x256_S256x256_3072_0, k3_pay30 (F := Ideal) h (rowsOf 35 8960 rfl x 12)⟩,
      ⟨Rect.unit (s := S8960x256) ![2816, 0] S256x256.size inb_S8960x256_S256x256_2816_0, k3_pay28 (F := Ideal) h (rowsOf 35 8960 rfl x 11)⟩,
      ⟨Rect.unit (s := S8960x256) ![2560, 0] S256x256.size inb_S8960x256_S256x256_2560_0, k3_pay25 (F := Ideal) h (rowsOf 35 8960 rfl x 10)⟩,
      ⟨Rect.unit (s := S8960x256) ![2304, 0] S256x256.size inb_S8960x256_S256x256_2304_0, k3_pay22 (F := Ideal) h (rowsOf 35 8960 rfl x 9)⟩,
      ⟨Rect.unit (s := S8960x256) ![2048, 0] S256x256.size inb_S8960x256_S256x256_2048_0, k3_pay20 (F := Ideal) h (rowsOf 35 8960 rfl x 8)⟩,
      ⟨Rect.unit (s := S8960x256) ![1792, 0] S256x256.size inb_S8960x256_S256x256_1792_0, k3_pay18 (F := Ideal) h (rowsOf 35 8960 rfl x 7)⟩,
      ⟨Rect.unit (s := S8960x256) ![1536, 0] S256x256.size inb_S8960x256_S256x256_1536_0, k3_pay15 (F := Ideal) h (rowsOf 35 8960 rfl x 6)⟩,
      ⟨Rect.unit (s := S8960x256) ![1280, 0] S256x256.size inb_S8960x256_S256x256_1280_0, k3_pay13 (F := Ideal) h (rowsOf 35 8960 rfl x 5)⟩,
      ⟨Rect.unit (s := S8960x256) ![1024, 0] S256x256.size inb_S8960x256_S256x256_1024_0, k3_pay11 (F := Ideal) h (rowsOf 35 8960 rfl x 4)⟩,
      ⟨Rect.unit (s := S8960x256) ![768, 0] S256x256.size inb_S8960x256_S256x256_768_0, k3_pay9 (F := Ideal) (k3_pay8 h (rowsOf 35 8960 rfl x 3))⟩,
      ⟨Rect.unit (s := S8960x256) ![512, 0] S256x256.size inb_S8960x256_S256x256_512_0, k3_pay6 (F := Ideal) h (rowsOf 35 8960 rfl x 2)⟩,
      ⟨Rect.unit (s := S8960x256) ![256, 0] S256x256.size inb_S8960x256_S256x256_256_0, k3_pay4 (F := Ideal) h (rowsOf 35 8960 rfl x 1)⟩,
      ⟨Rect.unit (s := S8960x256) ![0, 0] S256x256.size inb_S8960x256_S256x256_0_0, k3_pay2 (F := Ideal) h (rowsOf 35 8960 rfl x 0)⟩] : List (View.Piece (Elt Ideal) S8960x256 .f32)) = cPieces 35 8960 rfl (fun k => cast0 (tile h x k)) 35 le_rfl := rfl

/-- The block's codes from its chain and its stored tiles. -/
theorem codes_whole (h : FVec Ideal S256x256 .bf16) (x : FVec Ideal S8960x256 .bf16) (a : FVec Ideal S1x256 .f32) (t0 t1 : FVec Ideal S256x256 .bf16)
    (ha : cMax (cMax a (tileOf h t0)) (tileOf h t1) = cChain 35 (tile h x) 35 le_rfl) (v : View sig .tc .vmem S8960x256 .f32) (inb)
    (L : List (View.Piece (Elt Ideal) S8960x256 .f32)) (hL : L = cPieces 35 8960 rfl (fun k => cast0 (tile h x k)) 35 le_rfl) :
    k3_pay87 (F := Ideal) (k3_pay85 h a (k3_pay78 h t0) t1) (v.readCov L (Rect.unit (s := S8960x256) ![0, 0] S8960x256.size inb).toLoadRect)
      = codes h x := by
  rw [codes_pay, ha, hL]
  unfold codes rot
  rw [← cStack_cast 35 8960 rfl (tile h x)]
  exact congrArg (fun g => cCode 8960 broadcasts_S1x256_S8960x256 0x3D800000#32 g _) (cPieces_read 35 8960 rfl _ v inb)

/-- The product of dyo's codes with the block's codes, over all outputs, times the two scales. -/
theorem dx_apply (s : IVec S1x256 32) (a : FVec Ideal S1792x8960 .fp8e4m3) (b : FVec Ideal S8960x256 .fp8e4m3) (u : FVec Ideal S1792x1 .f32)
    (i : Fin 1792) (j : Fin 256) :
    k3_pay88 (F := Ideal) s a b u (ix2 i j)
      = (∑ k : Fin 8960, a (ix2 i k) * b (ix2 k j)) * u (ix2 i 0) * k3_pay86 (F := Ideal) s (ix2 0 j) := by
  unfold k3_pay88
  rw [shapeCast_self, shapeCast_self, shapeCast_self]
  pointwise

/-- The block of dx from dyo's codes and scales and the block's own. -/
def dx (c : FVec Ideal S8960x256 .fp8e4m3) (s : FVec Ideal S1x256 .f32) (a : FVec Ideal S1792x8960 .fp8e4m3) (u : FVec Ideal S1792x1 .f32) :
    FVec Ideal S1792x256 .bf16 :=
  fun y => (∑ k : Fin 8960, a (ix2 (n0 := 1792) (n1 := 8960) (y 0) k) * c (ix2 (n0 := 8960) (n1 := 256) k (y 1)))
    * u (ix2 (n0 := 1792) (n1 := 1) (y 0) 0) * s (ix2 (n0 := 1) (n1 := 256) 0 (y 1))

theorem dx_pay (s : IVec S1x256 32) (a : FVec Ideal S1792x8960 .fp8e4m3) (b c : FVec Ideal S8960x256 .fp8e4m3) (u : FVec Ideal S1792x1 .f32)
    (v : FVec Ideal S1x256 .f32) (hs : k3_pay86 (F := Ideal) s = v) (hb : b = c) : k3_pay88 (F := Ideal) s a b u = dx c v a u := by
  subst hs hb
  funext y
  have := dx_apply s a b u (y 0) (y 1)
  rw [ix2_eta] at this
  exact this

theorem outs_codes (c : Dev nD) (t : Fin cfg3.N) : (outsAt3 V c t).1 = codes (iblk3 V c 0 t) (iblk3 V c 3 t) := by
  unfold outsAt3
  frame_open
  simp only [View.readAt_eq_ld, (hs3_0 t).read_unread, (hs3_3 t).read_unread]
  rw [View.ld_unit_zero (S := S256x256) zero2]
  refine (read_one _ zero2 _ _).trans ?_
  exact codes_whole _ _ _ _ _ (chain_eq _ _) _ _ _ (pieces_eq _ _)

theorem outs_scales (c : Dev nD) (t : Fin cfg3.N) : (outsAt3 V c t).2.1 = scales (iblk3 V c 0 t) (iblk3 V c 3 t) := by
  unfold outsAt3
  frame_open
  simp only [View.readAt_eq_ld, (hs3_0 t).read_unread, (hs3_3 t).read_unread]
  rw [View.ld_unit_zero (S := S256x256) zero2]
  refine (read_one _ zero2 _ _).trans ?_
  rw [scale_pay]
  exact congrArg (fun q => cScale (cQuot 0x3D800000#32 q)) (chain_eq _ _)

theorem outs_dx (c : Dev nD) (t : Fin cfg3.N) : (outsAt3 V c t).2.2
    = dx (codes (iblk3 V c 0 t) (iblk3 V c 3 t)) (scales (iblk3 V c 0 t) (iblk3 V c 3 t)) (iblk3 V c 1 t) (iblk3 V c 2 t) := by
  unfold outsAt3
  frame_open
  simp only [View.readAt_eq_ld, (hs3_0 t).read_unread, (hs3_1 t).read_unread, (hs3_2 t).read_unread, (hs3_3 t).read_unread]
  rw [View.ld_unit_zero (S := S256x256) zero2, View.ld_unit_zero (S := S1792x8960) zero2, View.ld_unit_zero (S := S1792x1) zero2]
  refine (read_one _ zero2 _ _).trans ?_
  refine dx_pay _ _ _ _ _ _ ?_ ?_
  · rw [scale_pay]
    exact congrArg (fun q => cScale (cQuot 0x3D800000#32 q)) (chain_eq _ _)
  · refine (readCov_one _ zero2 _ _ _).trans ?_
    exact codes_whole _ _ _ _ _ (chain_eq _ _) _ _ _ (pieces_eq _ _)

end Cert.Block3

end
end
-- ==== Proof.Arr3.lean ====
/- The fourth launch's arrays: w's codes and scales over the outputs, and dx. -/
module

public import proofs.«01_k».proof.Proof.Block3
public import proofs.«01_k».proof.Proof.Rot

@[expose] public section

set_option maxRecDepth 65536

noncomputable section

namespace Cert.Arr3

open Idealize.ShloMosaic Idealize.ShloMosaic.TcCoe Idealize.ShloMosaic.Tactic
open Cert.KernelIdeal Cert.KernelIdeal.Gen Cert.Scale Cert.Quant Cert.Rot

variable (V : (c : Dev nD) → (b : Ref sig .tc) → Buf (Elt Ideal) ((c : Thread nD τ).loc b)) (c : Dev nD)

/-- w's rotation over its outputs. -/
def g : Fin 8960 → Fin 1536 → EReal := down 8960 1536 (by decide) (V c main_cst) (V c main_arg1)

theorem e0 : ∀ t : Fin cfg3.N, win3_0.index t = ![0, 0] := (by decide +kernel : ∀ t : Fin grid3.N, win3_0.index t = ![0, 0])
theorem e1 : ∀ t : Fin cfg3.N, win3_1.index t = ![0, 0] := (by decide +kernel : ∀ t : Fin grid3.N, win3_1.index t = ![0, 0])
theorem e2 : ∀ t : Fin cfg3.N, win3_2.index t = ![0, 0] := (by decide +kernel : ∀ t : Fin grid3.N, win3_2.index t = ![0, 0])
theorem e3 : ∀ t : Fin cfg3.N, win3_3.index t = ![0, t.val] := (by decide +kernel : ∀ t : Fin grid3.N, win3_3.index t = ![0, t.val])
theorem e4 : ∀ t : Fin cfg3.N, win3_4.index t = ![0, t.val] := (by decide +kernel : ∀ t : Fin grid3.N, win3_4.index t = ![0, t.val])
theorem e5 : ∀ t : Fin cfg3.N, win3_5.index t = ![0, t.val] := (by decide +kernel : ∀ t : Fin grid3.N, win3_5.index t = ![0, t.val])
theorem e6 : ∀ t : Fin cfg3.N, win3_6.index t = ![0, t.val] := (by decide +kernel : ∀ t : Fin grid3.N, win3_6.index t = ![0, t.val])

theorem lt (t : Fin cfg3.N) (j : Fin 256) : 256 * t.val + j.val < 1536 := by
  have h : t.val < 6 := t.isLt
  omega

theorem in0 (t : Fin cfg3.N) (p : Fin 256) (q : Fin 256) : iblk3 V c 0 t (ix2 p q) = V c main_cst (ix2 p q) := by
  blk_simp [iblk3]
  refine congrArg _ ?_
  blk_ext [e0]

theorem in1 (t : Fin cfg3.N) (p : Fin 1792) (q : Fin 8960) : iblk3 V c 1 t (ix2 p q) = V c main_v4_0 (ix2 p q) := by
  blk_simp [iblk3]
  refine congrArg _ ?_
  blk_ext [e1]

theorem in2 (t : Fin cfg3.N) (p : Fin 1792) (q : Fin 1) : iblk3 V c 2 t (ix2 p q) = V c main_v4_1 (ix2 p q) := by
  blk_simp [iblk3]
  refine congrArg _ ?_
  blk_ext [e2]

theorem in3 (t : Fin cfg3.N) (r : Fin 8960) (j : Fin 256) : iblk3 V c 3 t (ix2 r j) = V c main_arg1 (ix2 r ⟨256 * t.val + j.val, lt t j⟩) := by
  blk_simp [iblk3]
  refine congrArg _ ?_
  blk_ext [e3]

theorem rot_eq (t : Fin cfg3.N) (r : Fin 8960) (j : Fin 256) :
    Block3.rot (iblk3 V c 0 t) (iblk3 V c 3 t) (ix2 r j) = g V c r ⟨256 * t.val + j.val, lt t j⟩ := by
  rw [Block3.rot_apply]
  unfold g down
  exact Finset.sum_congr rfl fun q _ => by rw [in0, in3]

/-- A block's codes. -/
theorem codes_blk (hB : ∀ j, Bounded fun r => g V c r j) (t : Fin cfg3.N) (r : Fin 8960) (j : Fin 256) :
    Block3.codes (iblk3 V c 0 t) (iblk3 V c 3 t) (ix2 r j)
      = codesDown 8960 1536 hOut (g V c) (ix2 r ⟨256 * t.val + j.val, lt t j⟩) := by
  rw [Block3.codes_apply _ _ _ (by simp only [rot_eq]; exact hB _)]
  simp only [rot_eq]
  rfl

/-- A block's scales. -/
theorem scales_blk (t : Fin cfg3.N) (j : Fin 256) :
    Block3.scales (iblk3 V c 0 t) (iblk3 V c 3 t) (ix2 0 j)
      = scalesDown 8960 1536 hOut (g V c) (ix2 0 ⟨256 * t.val + j.val, lt t j⟩) := by
  rw [Block3.scales_apply]
  simp only [rot_eq]
  rfl

/-- w's codes. -/
theorem codes_eq (hB : ∀ j, Bounded fun r => g V c r j) : (dat3 V c).arrAt 4 cfg3.N = codesDown 8960 1536 hOut (g V c) := by
  refine (dat3 V c).arrAt_eq_of_covers 4 _ (by decide +kernel) fun t hf y => ?_
  blk_simp
  rw [after3_4, Block3.outs_codes]
  obtain ⟨r, j, rfl⟩ : ∃ (r : Fin 8960) (j : Fin 256), y = ix2 r j := ⟨y 0, y 1, (ix2_eta (n0 := 8960) (n1 := 256) y).symm⟩
  have e : ((cfg3.win 4).blk t).view.emb (ix2 r j) = ix2 (n0 := 8960) (n1 := 1536) r ⟨256 * t.val + j.val, lt t j⟩ := by
    blk_ext [e4]
  rw [e, codes_blk V c hB]

/-- w's scales. -/
theorem scales_eq : (dat3 V c).arrAt 5 cfg3.N = scalesDown 8960 1536 hOut (g V c) := by
  refine (dat3 V c).arrAt_eq_of_covers 5 _ (by decide +kernel) fun t hf y => ?_
  blk_simp
  rw [after3_5, Block3.outs_scales]
  obtain ⟨r, j, rfl⟩ : ∃ (r : Fin 1) (j : Fin 256), y = ix2 r j := ⟨y 0, y 1, (ix2_eta (n0 := 1) (n1 := 256) y).symm⟩
  obtain rfl : r = 0 := Subsingleton.elim _ _
  have e : ((cfg3.win 5).blk t).view.emb (ix2 0 j) = ix2 (n0 := 1) (n1 := 1536) 0 ⟨256 * t.val + j.val, lt t j⟩ := by
    blk_ext [e5]
  rw [e, scales_blk]

/-- The product over outputs of given codes and w's codes, times the two scales. -/
def dx (b : FVec Ideal S8960x1536 .fp8e4m3) (s : FVec Ideal S1x1536 .f32) (a : FVec Ideal S1792x8960 .fp8e4m3) (u : FVec Ideal S1792x1 .f32) :
    FVec Ideal S1792x1536 .bf16 :=
  fun y => (∑ k : Fin 8960, a (ix2 (n0 := 1792) (n1 := 8960) (y 0) k) * b (ix2 (n0 := 8960) (n1 := 1536) k (y 1)))
    * u (ix2 (n0 := 1792) (n1 := 1) (y 0) 0) * s (ix2 (n0 := 1) (n1 := 1536) 0 (y 1))

/-- A block of dx at an index. -/
theorem dx_block (b : FVec Ideal S8960x256 .fp8e4m3) (s : FVec Ideal S1x256 .f32) (a : FVec Ideal S1792x8960 .fp8e4m3) (u : FVec Ideal S1792x1 .f32)
    (i : Fin 1792) (j : Fin 256) : Block3.dx b s a u (ix2 i j)
      = (∑ k : Fin 8960, a (ix2 i k) * b (ix2 k j)) * u (ix2 i 0) * s (ix2 0 j) := rfl

/-- dx. -/
theorem dx_eq (hB : ∀ j, Bounded fun r => g V c r j) : (dat3 V c).arrAt 6 cfg3.N
    = dx (codesDown 8960 1536 hOut (g V c)) (scalesDown 8960 1536 hOut (g V c)) (V c main_v4_0) (V c main_v4_1) := by
  refine (dat3 V c).arrAt_eq_of_covers 6 _ (by decide +kernel) fun t hf y => ?_
  blk_simp
  rw [after3_6, Block3.outs_dx]
  obtain ⟨r, j, rfl⟩ : ∃ (r : Fin 1792) (j : Fin 256), y = ix2 r j := ⟨y 0, y 1, (ix2_eta (n0 := 1792) (n1 := 256) y).symm⟩
  have e : ((cfg3.win 6).blk t).view.emb (ix2 r j) = ix2 (n0 := 1792) (n1 := 1536) r ⟨256 * t.val + j.val, lt t j⟩ := by
    blk_ext [e6]
  rw [e]
  rw [dx_block]
  simp only [codes_blk V c hB, scales_blk V c, in1, in2]
  rfl

end Cert.Arr3

end
end
-- ==== Proof.Results.lean ====
/- The ten results both programs leave, as functions of the arguments with the tokens flattened. -/
module

public import proofs.«01_k».proof.Proof.Plain
public import proofs.«01_k».proof.Proof.Arr1
public import proofs.«01_k».proof.Proof.Arr3

@[expose] public section

noncomputable section

namespace Cert.Results

open Idealize.ShloMosaic
open Cert.KernelIdeal Cert.Quant Cert.Rot

variable (x : FVec Ideal S1792x1536 .bf16) (w : FVec Ideal S8960x1536 .bf16) (d : FVec Ideal S1792x8960 .bf16)

/-- The activations' rotation over tokens. -/
def gX : Fin 1792 → Fin 1536 → EReal := Plain.down 128 1792 1536 (by decide) x

/-- The output gradient's rotation over tokens. -/
def gDyt : Fin 1792 → Fin 8960 → EReal := Plain.down 128 1792 8960 (by decide) d

/-- The output gradient's rotation over outputs. -/
def gDyo : Fin 1792 → Fin 8960 → EReal := Plain.along 1792 8960 (by decide) d

/-- The weights' rotation over outputs. -/
def gW : Fin 8960 → Fin 1536 → EReal := Plain.down 256 8960 1536 (by decide) w

/-- The activations' codes. -/
def xCodes : FVec Ideal S1792x1536 .fp8e4m3 := codesDown 1792 1536 hTok (gX x)

/-- The activations' scales. -/
def xScales : FVec Ideal S1x1536 .f32 := scalesDown 1792 1536 hTok (gX x)

/-- The output gradient's codes by token. -/
def dytCodes : FVec Ideal S1792x8960 .fp8e4m3 := codesDown 1792 8960 hTok (gDyt d)

/-- The output gradient's scales by token. -/
def dytScales : FVec Ideal S1x8960 .f32 := scalesDown 1792 8960 hTok (gDyt d)

/-- The output gradient's codes by output. -/
def dyoCodes : FVec Ideal S1792x8960 .fp8e4m3 := codesAlong 1792 8960 hOut (gDyo d)

/-- The output gradient's scales by output. -/
def dyoScales : FVec Ideal S1792x1 .f32 := scalesAlong 1792 8960 hOut (gDyo d)

/-- The weights' codes. -/
def wCodes : FVec Ideal S8960x1536 .fp8e4m3 := codesDown 8960 1536 hOut (gW w)

/-- The weights' scales. -/
def wScales : FVec Ideal S1x1536 .f32 := scalesDown 8960 1536 hOut (gW w)

/-- The weight gradient. -/
def dw : FVec Ideal S8960x1536 .f32 := Arr1.dw (dytCodes d) (dytScales d) (xCodes x) (xScales x)

/-- The input gradient. -/
def dx : FVec Ideal S1792x1536 .bf16 := Arr3.dx (wCodes w) (wScales w) (dyoCodes d) (dyoScales d)

end Cert.Results

end
end
-- ==== Proof.Block0.lean ====
/- The first launch's block: a column block of x, rotated over its tokens in 256-row tiles and quantised by column. -/
module

public import proofs.«01_k».proof.Proof.Run
public import proofs.«01_k».proof.Proof.Kit

@[expose] public section

set_option maxRecDepth 65536

noncomputable section

namespace Cert.Block0

open Idealize.ShloMosaic Idealize.ShloMosaic.TcCoe Idealize.ShloMosaic.Tactic
open Cert.KernelIdeal Cert.KernelIdeal.Gen Cert.Scale Cert.Quant Cert.Forms Cert.Kit

variable (V : (c : Dev nD) → (b : Ref sig .tc) → Buf (Elt Ideal) ((c : Thread nD τ).loc b))

/-- The `k`-th rotated tile. -/
def tile (h : FVec Ideal S256x256 .bf16) (x : FVec Ideal S1792x256 .bf16) (k : Fin 7) : FVec Ideal S256x256 .f32 :=
  tileOf h (shapeCast S256x256 (rowsOf 7 1792 rfl x k) shapeCasts_S256x256_S256x256)

/-- The rotated block: what the scratch holds. -/
def rot (h : FVec Ideal S256x256 .bf16) (x : FVec Ideal S1792x256 .bf16) : FVec Ideal S1792x256 .f32 := cStack 7 1792 rfl (tile h x)

theorem rot_apply (h : FVec Ideal S256x256 .bf16) (x : FVec Ideal S1792x256 .bf16) (r : Fin 1792) (j : Fin 256) :
    rot h x (ix2 r j) = ∑ q : Fin 256, h (ix2 ⟨r.val % 256, by omega⟩ q) * x (ix2 ⟨256 * (r.val / 256) + q.val, by omega⟩ j) := by
  unfold rot
  rw [cStack_apply]
  unfold tile
  rw [shapeCast_self, tileOf_apply]
  exact Finset.sum_congr rfl fun q _ => by rw [rowsOf_apply]

/-- The scale row of a block. -/
def scales (h : FVec Ideal S256x256 .bf16) (x : FVec Ideal S1792x256 .bf16) : FVec Ideal S1x256 .f32 :=
  cScale (cQuot 0x3DB504F3#32 (cChain 7 (tile h x) 7 le_rfl))

/-- The codes of a block. -/
def codes (h : FVec Ideal S256x256 .bf16) (x : FVec Ideal S1792x256 .bf16) : FVec Ideal S1792x256 .fp8e4m3 :=
  cCode 1792 broadcasts_S1x256_S1792x256 0x3DB504F3#32 (rot h x) (cInv (cQuot 0x3DB504F3#32 (cChain 7 (tile h x) 7 le_rfl)))

theorem scales_apply (h : FVec Ideal S256x256 .bf16) (x : FVec Ideal S1792x256 .bf16) (j : Fin 256) :
    scales h x (ix2 0 j) = scale hTok (fun r : Fin 1792 => rot h x (ix2 r j)) :=
  colScale 0x3DB504F3#32 factor_hTok 7 1792 rfl (tile h x) j

theorem codes_apply (h : FVec Ideal S256x256 .bf16) (x : FVec Ideal S1792x256 .bf16) (j : Fin 256)
    (hB : Bounded fun r : Fin 1792 => rot h x (ix2 r j)) (r : Fin 1792) :
    codes h x (ix2 r j) = code hTok (fun r : Fin 1792 => rot h x (ix2 r j)) (rot h x (ix2 r j)) :=
  colCode 0x3DB504F3#32 factor_hTok 7 1792 rfl _ (tile h x) j hB r

theorem chain_eq (h : FVec Ideal S256x256 .bf16) (x : FVec Ideal S1792x256 .bf16) :
    cMax (k0_pay15 h (k0_pay8 h (rowsOf 7 1792 rfl x 0) (rowsOf 7 1792 rfl x 1) (rowsOf 7 1792 rfl x 2)) (rowsOf 7 1792 rfl x 3) (rowsOf 7 1792 rfl x 4)
      (rowsOf 7 1792 rfl x 5)) (k0_pay16 h (rowsOf 7 1792 rfl x 6)) = cChain 7 (tile h x) 7 le_rfl := rfl

theorem pieces_eq (h : FVec Ideal S256x256 .bf16) (x : FVec Ideal S1792x256 .bf16) :
    ([⟨Rect.unit (s := S1792x256) ![1536, 0] S256x256.size inb_S1792x256_S256x256_1536_0, k0_pay17 (F := Ideal) h (rowsOf 7 1792 rfl x 6)⟩,
      ⟨Rect.unit (s := S1792x256) ![1280, 0] S256x256.size inb_S1792x256_S256x256_1280_0, k0_pay14 (F := Ideal) h (rowsOf 7 1792 rfl x 5)⟩,
      ⟨Rect.unit (s := S1792x256) ![1024, 0] S256x256.size inb_S1792x256_S256x256_1024_0, k0_pay12 (F := Ideal) h (rowsOf 7 1792 rfl x 4)⟩,
      ⟨Rect.unit (s := S1792x256) ![768, 0] S256x256.size inb_S1792x256_S256x256_768_0, k0_pay10 (F := Ideal) h (rowsOf 7 1792 rfl x 3)⟩,
      ⟨Rect.unit (s := S1792x256) ![512, 0] S256x256.size inb_S1792x256_S256x256_512_0, k0_pay7 (F := Ideal) h (rowsOf 7 1792 rfl x 2)⟩,
      ⟨Rect.unit (s := S1792x256) ![256, 0] S256x256.size inb_S1792x256_S256x256_256_0, k0_pay5 (F := Ideal) h (rowsOf 7 1792 rfl x 1)⟩,
      ⟨Rect.unit (s := S1792x256) ![0, 0] S256x256.size inb_S1792x256_S256x256_0_0, k0_pay3 (F := Ideal) h (rowsOf 7 1792 rfl x 0)⟩] : List (View.Piece (Elt Ideal) S1792x256 .f32)) = cPieces 7 1792 rfl (fun k => cast0 (tile h x k)) 7 le_rfl := rfl

theorem scale_pay (a : FVec Ideal S1x256 .f32) (T : FVec Ideal S256x256 .f32) :
    k0_pay20 (F := Ideal) a T = cScale (cQuot 0x3DB504F3#32 (cMax a T)) := rfl

theorem codes_pay (a : FVec Ideal S1x256 .f32) (T : FVec Ideal S256x256 .f32) (G : FVec Ideal S1792x256 .f32) :
    k0_pay1 (F := Ideal) (k0_pay21 a T G) (FloatOps.ofBits .f32 0xC3E00000#32)
      = cCode 1792 broadcasts_S1x256_S1792x256 0x3DB504F3#32 G (cInv (cQuot 0x3DB504F3#32 (cMax a T))) := rfl

/-- The block's codes from its chain and its stored tiles. -/
theorem codes_whole (h : FVec Ideal S256x256 .bf16) (x : FVec Ideal S1792x256 .bf16) (a : FVec Ideal S1x256 .f32) (T : FVec Ideal S256x256 .f32)
    (ha : cMax a T = cChain 7 (tile h x) 7 le_rfl) (v : View sig .tc .vmem S1792x256 .f32) (inb)
    (L : List (View.Piece (Elt Ideal) S1792x256 .f32)) (hL : L = cPieces 7 1792 rfl (fun k => cast0 (tile h x k)) 7 le_rfl) :
    k0_pay1 (F := Ideal) (k0_pay21 a T (v.readCov L (Rect.unit (s := S1792x256) ![0, 0] S1792x256.size inb).toLoadRect))
      (FloatOps.ofBits .f32 0xC3E00000#32) = codes h x := by
  rw [codes_pay, ha, hL]
  unfold codes rot
  rw [← cStack_cast 7 1792 rfl (tile h x)]
  exact congrArg (fun G => cCode 1792 broadcasts_S1x256_S1792x256 0x3DB504F3#32 G _) (cPieces_read 7 1792 rfl _ v inb)

theorem outs_codes (c : Dev nD) (t : Fin cfg0.N) : (outsAt0 V c t).1 = codes (iblk0 V c 0 t) (iblk0 V c 1 t) := by
  unfold outsAt0
  frame_open
  simp only [View.readAt_eq_ld, (hs0_0 t).read_unread, (hs0_1 t).read_unread]
  rw [View.ld_unit_zero (S := S256x256) zero2]
  refine (read_one _ zero2 _ _).trans ?_
  exact codes_whole _ _ _ _ (chain_eq _ _) _ _ _ (pieces_eq _ _)

theorem outs_scales (c : Dev nD) (t : Fin cfg0.N) : (outsAt0 V c t).2 = scales (iblk0 V c 0 t) (iblk0 V c 1 t) := by
  unfold outsAt0
  frame_open
  simp only [View.readAt_eq_ld, (hs0_0 t).read_unread, (hs0_1 t).read_unread]
  rw [View.ld_unit_zero (S := S256x256) zero2]
  refine (read_one _ zero2 _ _).trans ?_
  rw [scale_pay]
  exact congrArg (fun q => cScale (cQuot 0x3DB504F3#32 q)) (chain_eq _ _)

end Cert.Block0

end
end
-- ==== Proof.Arr0.lean ====
/- The first launch's arrays: x's codes and scales. -/
module

public import proofs.«01_k».proof.Proof.Block0
public import proofs.«01_k».proof.Proof.Rot

@[expose] public section

noncomputable section

namespace Cert.Arr0

open Idealize.ShloMosaic Idealize.ShloMosaic.TcCoe Idealize.ShloMosaic.Tactic
open Cert.KernelIdeal Cert.KernelIdeal.Gen Cert.Scale Cert.Quant Cert.Rot

variable (V : (c : Dev nD) → (b : Ref sig .tc) → Buf (Elt Ideal) ((c : Thread nD τ).loc b)) (c : Dev nD)

/-- x's rotation over its tokens. -/
def g : Fin 1792 → Fin 1536 → EReal := down 1792 1536 (by decide) (V c main_cst_0) (V c main_v0)

theorem e0 : ∀ t : Fin cfg0.N, win0_0.index t = ![0, 0] := (by decide +kernel : ∀ t : Fin grid0.N, win0_0.index t = ![0, 0])
theorem e1 : ∀ t : Fin cfg0.N, win0_1.index t = ![0, t.val] := (by decide +kernel : ∀ t : Fin grid0.N, win0_1.index t = ![0, t.val])
theorem e2 : ∀ t : Fin cfg0.N, win0_2.index t = ![0, t.val] := (by decide +kernel : ∀ t : Fin grid0.N, win0_2.index t = ![0, t.val])
theorem e3 : ∀ t : Fin cfg0.N, win0_3.index t = ![0, t.val] := (by decide +kernel : ∀ t : Fin grid0.N, win0_3.index t = ![0, t.val])

theorem lt (t : Fin cfg0.N) (j : Fin 256) : 256 * t.val + j.val < 1536 := by
  have h : t.val < 6 := t.isLt
  omega

theorem in0 (t : Fin cfg0.N) (p q : Fin 256) : iblk0 V c 0 t (ix2 p q) = V c main_cst_0 (ix2 p q) := by
  blk_simp [iblk0]
  refine congrArg _ ?_
  blk_ext [e0]

theorem in1 (t : Fin cfg0.N) (r : Fin 1792) (j : Fin 256) : iblk0 V c 1 t (ix2 r j) = V c main_v0 (ix2 r ⟨256 * t.val + j.val, lt t j⟩) := by
  blk_simp [iblk0]
  refine congrArg _ ?_
  blk_ext [e1]

theorem rot_eq (t : Fin cfg0.N) (r : Fin 1792) (j : Fin 256) :
    Block0.rot (iblk0 V c 0 t) (iblk0 V c 1 t) (ix2 r j) = g V c r ⟨256 * t.val + j.val, lt t j⟩ := by
  rw [Block0.rot_apply]
  unfold g down
  exact Finset.sum_congr rfl fun q _ => by rw [in0, in1]

/-- x's codes. -/
theorem codes_eq (hB : ∀ j, Bounded fun r => g V c r j) : (dat0 V c).arrAt 2 cfg0.N = codesDown 1792 1536 hTok (g V c) := by
  refine (dat0 V c).arrAt_eq_of_covers 2 _ (by decide +kernel) fun t hf y => ?_
  blk_simp
  rw [after0_2, Block0.outs_codes]
  obtain ⟨r, j, rfl⟩ : ∃ (r : Fin 1792) (j : Fin 256), y = ix2 r j := ⟨y 0, y 1, (ix2_eta (n0 := 1792) (n1 := 256) y).symm⟩
  have e : ((cfg0.win 2).blk t).view.emb (ix2 r j) = ix2 (n0 := 1792) (n1 := 1536) r ⟨256 * t.val + j.val, lt t j⟩ := by
    blk_ext [e2]
  rw [e, Block0.codes_apply _ _ _ (by simp only [rot_eq]; exact hB _)]
  simp only [rot_eq]
  rfl

/-- x's scales. -/
theorem scales_eq : (dat0 V c).arrAt 3 cfg0.N = scalesDown 1792 1536 hTok (g V c) := by
  refine (dat0 V c).arrAt_eq_of_covers 3 _ (by decide +kernel) fun t hf y => ?_
  blk_simp
  rw [after0_3, Block0.outs_scales]
  obtain ⟨r, j, rfl⟩ : ∃ (r : Fin 1) (j : Fin 256), y = ix2 r j := ⟨y 0, y 1, (ix2_eta (n0 := 1) (n1 := 256) y).symm⟩
  obtain rfl : r = 0 := Subsingleton.elim _ _
  have e : ((cfg0.win 3).blk t).view.emb (ix2 0 j) = ix2 (n0 := 1) (n1 := 1536) 0 ⟨256 * t.val + j.val, lt t j⟩ := by
    blk_ext [e3]
  rw [e, Block0.scales_apply]
  simp only [rot_eq]
  rfl

end Cert.Arr0

end
end
-- ==== Proof.Block2.lean ====
/- The third launch's block: 128 rows of dy, rotated over their outputs in 256-column tiles and quantised by row. -/
module

public import proofs.«01_k».proof.Proof.Run
public import proofs.«01_k».proof.Proof.Kit

@[expose] public section

set_option maxRecDepth 65536

noncomputable section

namespace Cert.Block2

open Idealize.ShloMosaic Idealize.ShloMosaic.TcCoe Idealize.ShloMosaic.Tactic
open Cert.KernelIdeal Cert.KernelIdeal.Gen Cert.Scale Cert.Quant Cert.Forms Cert.Kit

variable (V : (c : Dev nD) → (b : Ref sig .tc) → Buf (Elt Ideal) ((c : Thread nD τ).loc b))

/-- The `k`-th rotated tile. -/
def tile (h : FVec Ideal S256x256 .bf16) (x : FVec Ideal S128x8960 .bf16) (k : Fin 35) : FVec Ideal S128x256 .f32 :=
  tileRow (colsOf 35 8960 rfl x k) h

/-- The rotated block: what the scratch holds. -/
def rot (h : FVec Ideal S256x256 .bf16) (x : FVec Ideal S128x8960 .bf16) : FVec Ideal S128x8960 .f32 := rStack 35 8960 rfl (tile h x)

theorem rot_apply (h : FVec Ideal S256x256 .bf16) (x : FVec Ideal S128x8960 .bf16) (i : Fin 128) (r : Fin 8960) :
    rot h x (ix2 i r) = ∑ q : Fin 256, x (ix2 i ⟨256 * (r.val / 256) + q.val, by omega⟩) * h (ix2 q ⟨r.val % 256, by omega⟩) := by
  unfold rot
  rw [rStack_apply]
  unfold tile
  rw [tileRow_apply]
  exact Finset.sum_congr rfl fun q _ => by rw [colsOf_apply]

/-- The scale column of a block. -/
def scales (h : FVec Ideal S256x256 .bf16) (x : FVec Ideal S128x8960 .bf16) : FVec Ideal S128x1 .f32 :=
  rScale (rQuot 0x3D800000#32 (rTop (rChain 35 (tile h x) 35 le_rfl)))

/-- The codes of a block. -/
def codes (h : FVec Ideal S256x256 .bf16) (x : FVec Ideal S128x8960 .bf16) : FVec Ideal S128x8960 .fp8e4m3 :=
  rCode 8960 broadcasts_S128x1_S128x8960 0x3D800000#32 (rot h x) (rInv (rQuot 0x3D800000#32 (rTop (rChain 35 (tile h x) 35 le_rfl))))

theorem scales_apply (h : FVec Ideal S256x256 .bf16) (x : FVec Ideal S128x8960 .bf16) (i : Fin 128) :
    scales h x (ix2 i 0) = scale hOut (fun r : Fin 8960 => rot h x (ix2 i r)) :=
  rowScale 0x3D800000#32 factor_hOut 35 8960 (by decide) rfl (tile h x) i

theorem codes_apply (h : FVec Ideal S256x256 .bf16) (x : FVec Ideal S128x8960 .bf16) (i : Fin 128)
    (hB : Bounded fun r : Fin 8960 => rot h x (ix2 i r)) (r : Fin 8960) :
    codes h x (ix2 i r) = code hOut (fun r : Fin 8960 => rot h x (ix2 i r)) (rot h x (ix2 i r)) :=
  rowCode 0x3D800000#32 factor_hOut 35 8960 (by decide) rfl _ (tile h x) i hB r

/-! The running maxima, a group of tiles at a time. -/

theorem step5 (h : FVec Ideal S256x256 .bf16) (t0 t1 : FVec Ideal S128x256 .bf16) :
    k2_pay5 t0 h t1 h = rMax (rMax (broadcast S128x128 (Scalar.ofBits (F := Ideal) .f32 0x00000000#32)) (tileRow t0 h)) (tileRow t1 h) := rfl

theorem step14 (h : FVec Ideal S256x256 .bf16) (a : FVec Ideal S128x128 .f32) (t0 t1 t2 : FVec Ideal S128x256 .bf16) :
    k2_pay14 a (k2_pay8 t0 h) (k2_pay9 t0 h) t1 h t2 h = rMax (rMax (rMax a (tileRow t0 h)) (tileRow t1 h)) (tileRow t2 h) := rfl

theorem step23 (h : FVec Ideal S256x256 .bf16) (a : FVec Ideal S128x128 .f32) (t0 t1 t2 : FVec Ideal S128x256 .bf16) :
    k2_pay23 a (k2_pay17 t0 h) (k2_pay18 t0 h) t1 h t2 h = rMax (rMax (rMax a (tileRow t0 h)) (tileRow t1 h)) (tileRow t2 h) := rfl

theorem step32 (h : FVec Ideal S256x256 .bf16) (a : FVec Ideal S128x128 .f32) (t0 t1 t2 : FVec Ideal S128x256 .bf16) :
    k2_pay32 a (k2_pay26 t0 h) (k2_pay27 t0 h) t1 h t2 h = rMax (rMax (rMax a (tileRow t0 h)) (tileRow t1 h)) (tileRow t2 h) := rfl

theorem step41 (h : FVec Ideal S256x256 .bf16) (a : FVec Ideal S128x128 .f32) (t0 t1 t2 : FVec Ideal S128x256 .bf16) :
    k2_pay41 a (k2_pay35 t0 h) (k2_pay36 t0 h) t1 h t2 h = rMax (rMax (rMax a (tileRow t0 h)) (tileRow t1 h)) (tileRow t2 h) := rfl

theorem step50 (h : FVec Ideal S256x256 .bf16) (a : FVec Ideal S128x128 .f32) (t0 t1 t2 : FVec Ideal S128x256 .bf16) :
    k2_pay50 a (k2_pay44 t0 h) (k2_pay45 t0 h) t1 h t2 h = rMax (rMax (rMax a (tileRow t0 h)) (tileRow t1 h)) (tileRow t2 h) := rfl

theorem step59 (h : FVec Ideal S256x256 .bf16) (a : FVec Ideal S128x128 .f32) (t0 t1 t2 : FVec Ideal S128x256 .bf16) :
    k2_pay59 a (k2_pay53 t0 h) (k2_pay54 t0 h) t1 h t2 h = rMax (rMax (rMax a (tileRow t0 h)) (tileRow t1 h)) (tileRow t2 h) := rfl

theorem step68 (h : FVec Ideal S256x256 .bf16) (a : FVec Ideal S128x128 .f32) (t0 t1 t2 : FVec Ideal S128x256 .bf16) :
    k2_pay68 a (k2_pay62 t0 h) (k2_pay63 t0 h) t1 h t2 h = rMax (rMax (rMax a (tileRow t0 h)) (tileRow t1 h)) (tileRow t2 h) := rfl

theorem step77 (h : FVec Ideal S256x256 .bf16) (a : FVec Ideal S128x128 .f32) (t0 t1 t2 : FVec Ideal S128x256 .bf16) :
    k2_pay77 a (k2_pay71 t0 h) (k2_pay72 t0 h) t1 h t2 h = rMax (rMax (rMax a (tileRow t0 h)) (tileRow t1 h)) (tileRow t2 h) := rfl

theorem step86 (h : FVec Ideal S256x256 .bf16) (a : FVec Ideal S128x128 .f32) (t0 t1 t2 : FVec Ideal S128x256 .bf16) :
    k2_pay86 a (k2_pay80 t0 h) (k2_pay81 t0 h) t1 h t2 h = rMax (rMax (rMax a (tileRow t0 h)) (tileRow t1 h)) (tileRow t2 h) := rfl

theorem step95 (h : FVec Ideal S256x256 .bf16) (a : FVec Ideal S128x128 .f32) (t0 t1 t2 : FVec Ideal S128x256 .bf16) :
    k2_pay95 a (k2_pay89 t0 h) (k2_pay90 t0 h) t1 h t2 h = rMax (rMax (rMax a (tileRow t0 h)) (tileRow t1 h)) (tileRow t2 h) := rfl

theorem scale_pay (h : FVec Ideal S256x256 .bf16) (a : FVec Ideal S128x128 .f32) (t0 t1 t2 : FVec Ideal S128x256 .bf16) :
    k2_pay107 (F := Ideal) (iota .tc S128x256 32 [1] iota_S128x256_d1_w32) (k2_pay104 a (k2_pay98 t0 h) (k2_pay99 t0 h) t1 h t2 h) 0#32
      = rScale (rQuot 0x3D800000#32 (rTop (rMax (rMax (rMax a (tileRow t0 h)) (tileRow t1 h)) (tileRow t2 h)))) := rfl

theorem codes_pay (h : FVec Ideal S256x256 .bf16) (a : FVec Ideal S128x128 .f32) (t0 t1 t2 : FVec Ideal S128x256 .bf16) (g : FVec Ideal S128x8960 .f32) :
    k2_pay108 (F := Ideal) (iota .tc S128x256 32 [1] iota_S128x256_d1_w32) (k2_pay104 a (k2_pay98 t0 h) (k2_pay99 t0 h) t1 h t2 h) 0#32 g
      = rCode 8960 broadcasts_S128x1_S128x8960 0x3D800000#32 g (rInv (rQuot 0x3D800000#32 (rTop (rMax (rMax (rMax a (tileRow t0 h)) (tileRow t1 h)) (tileRow t2 h))))) := rfl

theorem chain_eq (h : FVec Ideal S256x256 .bf16) (x : FVec Ideal S128x8960 .bf16) :
    rMax (rMax (rMax (k2_pay95 (k2_pay86 (k2_pay77 (k2_pay68 (k2_pay59 (k2_pay50 (k2_pay41 (k2_pay32 (k2_pay23 (k2_pay14 (k2_pay5 (colsOf 35 8960 rfl x 0) h (colsOf 35 8960 rfl x 1) h)
      (k2_pay8 (colsOf 35 8960 rfl x 2) h) (k2_pay9 (colsOf 35 8960 rfl x 2) h) (colsOf 35 8960 rfl x 3) h (colsOf 35 8960 rfl x 4) h)
      (k2_pay17 (colsOf 35 8960 rfl x 5) h) (k2_pay18 (colsOf 35 8960 rfl x 5) h) (colsOf 35 8960 rfl x 6) h (colsOf 35 8960 rfl x 7) h)
      (k2_pay26 (colsOf 35 8960 rfl x 8) h) (k2_pay27 (colsOf 35 8960 rfl x 8) h) (colsOf 35 8960 rfl x 9) h (colsOf 35 8960 rfl x 10) h)
      (k2_pay35 (colsOf 35 8960 rfl x 11) h) (k2_pay36 (colsOf 35 8960 rfl x 11) h) (colsOf 35 8960 rfl x 12) h (colsOf 35 8960 rfl x 13) h)
      (k2_pay44 (colsOf 35 8960 rfl x 14) h) (k2_pay45 (colsOf 35 8960 rfl x 14) h) (colsOf 35 8960 rfl x 15) h (colsOf 35 8960 rfl x 16) h)
      (k2_pay53 (colsOf 35 8960 rfl x 17) h) (k2_pay54 (colsOf 35 8960 rfl x 17) h) (colsOf 35 8960 rfl x 18) h (colsOf 35 8960 rfl x 19) h)
      (k2_pay62 (colsOf 35 8960 rfl x 20) h) (k2_pay63 (colsOf 35 8960 rfl x 20) h) (colsOf 35 8960 rfl x 21) h (colsOf 35 8960 rfl x 22) h)
      (k2_pay71 (colsOf 35 8960 rfl x 23) h) (k2_pay72 (colsOf 35 8960 rfl x 23) h) (colsOf 35 8960 rfl x 24) h (colsOf 35 8960 rfl x 25) h)
      (k2_pay80 (colsOf 35 8960 rfl x 26) h) (k2_pay81 (colsOf 35 8960 rfl x 26) h) (colsOf 35 8960 rfl x 27) h (colsOf 35 8960 rfl x 28) h)
      (k2_pay89 (colsOf 35 8960 rfl x 29) h) (k2_pay90 (colsOf 35 8960 rfl x 29) h) (colsOf 35 8960 rfl x 30) h (colsOf 35 8960 rfl x 31) h)
      (tileRow (colsOf 35 8960 rfl x 32) h)) (tileRow (colsOf 35 8960 rfl x 33) h)) (tileRow (colsOf 35 8960 rfl x 34) h) = rChain 35 (tile h x) 35 le_rfl := by
  rw [step5, step14, step23, step32, step41, step50, step59, step68, step77, step86, step95]
  rfl

theorem pieces_eq (h : FVec Ideal S256x256 .bf16) (x : FVec Ideal S128x8960 .bf16) :
    ([⟨Rect.unit (s := S128x8960) ![0, 8704] S128x256.size inb_S128x8960_S128x256_0_8704, k2_pay103 (F := Ideal) (colsOf 35 8960 rfl x 34) h⟩,
      ⟨Rect.unit (s := S128x8960) ![0, 8448] S128x256.size inb_S128x8960_S128x256_0_8448, k2_pay101 (F := Ideal) (colsOf 35 8960 rfl x 33) h⟩,
      ⟨Rect.unit (s := S128x8960) ![0, 8192] S128x256.size inb_S128x8960_S128x256_0_8192, k2_pay97 (F := Ideal) (colsOf 35 8960 rfl x 32) h⟩,
      ⟨Rect.unit (s := S128x8960) ![0, 7936] S128x256.size inb_S128x8960_S128x256_0_7936, k2_pay94 (F := Ideal) (colsOf 35 8960 rfl x 31) h⟩,
      ⟨Rect.unit (s := S128x8960) ![0, 7680] S128x256.size inb_S128x8960_S128x256_0_7680, k2_pay92 (F := Ideal) (colsOf 35 8960 rfl x 30) h⟩,
      ⟨Rect.unit (s := S128x8960) ![0, 7424] S128x256.size inb_S128x8960_S128x256_0_7424, k2_pay88 (F := Ideal) (colsOf 35 8960 rfl x 29) h⟩,
      ⟨Rect.unit (s := S128x8960) ![0, 7168] S128x256.size inb_S128x8960_S128x256_0_7168, k2_pay85 (F := Ideal) (colsOf 35 8960 rfl x 28) h⟩,
      ⟨Rect.unit (s := S128x8960) ![0, 6912] S128x256.size inb_S128x8960_S128x256_0_6912, k2_pay83 (F := Ideal) (colsOf 35 8960 rfl x 27) h⟩,
      ⟨Rect.unit (s := S128x8960) ![0, 6656] S128x256.size inb_S128x8960_S128x256_0_6656, k2_pay79 (F := Ideal) (colsOf 35 8960 rfl x 26) h⟩,
      ⟨Rect.unit (s := S128x8960) ![0, 6400] S128x256.size inb_S128x8960_S128x256_0_6400, k2_pay76 (F := Ideal) (colsOf 35 8960 rfl x 25) h⟩,
      ⟨Rect.unit (s := S128x8960) ![0, 6144] S128x256.size inb_S128x8960_S128x256_0_6144, k2_pay74 (F := Ideal) (colsOf 35 8960 rfl x 24) h⟩,
      ⟨Rect.unit (s := S128x8960) ![0, 5888] S128x256.size inb_S128x8960_S128x256_0_5888, k2_pay70 (F := Ideal) (colsOf 35 8960 rfl x 23) h⟩,
      ⟨Rect.unit (s := S128x8960) ![0, 5632] S128x256.size inb_S128x8960_S128x256_0_5632, k2_pay67 (F := Ideal) (colsOf 35 8960 rfl x 22) h⟩,
      ⟨Rect.unit (s := S128x8960) ![0, 5376] S128x256.size inb_S128x8960_S128x256_0_5376, k2_pay65 (F := Ideal) (colsOf 35 8960 rfl x 21) h⟩,
      ⟨Rect.unit (s := S128x8960) ![0, 5120] S128x256.size inb_S128x8960_S128x256_0_5120, k2_pay61 (F := Ideal) (colsOf 35 8960 rfl x 20) h⟩,
      ⟨Rect.unit (s := S128x8960) ![0, 4864] S128x256.size inb_S128x8960_S128x256_0_4864, k2_pay58 (F := Ideal) (colsOf 35 8960 rfl x 19) h⟩,
      ⟨Rect.unit (s := S128x8960) ![0, 4608] S128x256.size inb_S128x8960_S128x256_0_4608, k2_pay56 (F := Ideal) (colsOf 35 8960 rfl x 18) h⟩,
      ⟨Rect.unit (s := S128x8960) ![0, 4352] S128x256.size inb_S128x8960_S128x256_0_4352, k2_pay52 (F := Ideal) (colsOf 35 8960 rfl x 17) h⟩,
      ⟨Rect.unit (s := S128x8960) ![0, 4096] S128x256.size inb_S128x8960_S128x256_0_4096, k2_pay49 (F := Ideal) (colsOf 35 8960 rfl x 16) h⟩,
      ⟨Rect.unit (s := S128x8960) ![0, 3840] S128x256.size inb_S128x8960_S128x256_0_3840, k2_pay47 (F := Ideal) (colsOf 35 8960 rfl x 15) h⟩,
      ⟨Rect.unit (s := S128x8960) ![0, 3584] S128x256.size inb_S128x8960_S128x256_0_3584, k2_pay43 (F := Ideal) (colsOf 35 8960 rfl x 14) h⟩,
      ⟨Rect.unit (s := S128x8960) ![0, 3328] S128x256.size inb_S128x8960_S128x256_0_3328, k2_pay40 (F := Ideal) (colsOf 35 8960 rfl x 13) h⟩,
      ⟨Rect.unit (s := S128x8960) ![0, 3072] S128x256.size inb_S128x8960_S128x256_0_3072, k2_pay38 (F := Ideal) (colsOf 35 8960 rfl x 12) h⟩,
      ⟨Rect.unit (s := S128x8960) ![0, 2816] S128x256.size inb_S128x8960_S128x256_0_2816, k2_pay34 (F := Ideal) (colsOf 35 8960 rfl x 11) h⟩,
      ⟨Rect.unit (s := S128x8960) ![0, 2560] S128x256.size inb_S128x8960_S128x256_0_2560, k2_pay31 (F := Ideal) (colsOf 35 8960 rfl x 10) h⟩,
      ⟨Rect.unit (s := S128x8960) ![0, 2304] S128x256.size inb_S128x8960_S128x256_0_2304, k2_pay29 (F := Ideal) (colsOf 35 8960 rfl x 9) h⟩,
      ⟨Rect.unit (s := S128x8960) ![0, 2048] S128x256.size inb_S128x8960_S128x256_0_2048, k2_pay25 (F := Ideal) (colsOf 35 8960 rfl x 8) h⟩,
      ⟨Rect.unit (s := S128x8960) ![0, 1792] S128x256.size inb_S128x8960_S128x256_0_1792, k2_pay22 (F := Ideal) (colsOf 35 8960 rfl x 7) h⟩,
      ⟨Rect.unit (s := S128x8960) ![0, 1536] S128x256.size inb_S128x8960_S128x256_0_1536, k2_pay20 (F := Ideal) (colsOf 35 8960 rfl x 6) h⟩,
      ⟨Rect.unit (s := S128x8960) ![0, 1280] S128x256.size inb_S128x8960_S128x256_0_1280, k2_pay16 (F := Ideal) (colsOf 35 8960 rfl x 5) h⟩,
      ⟨Rect.unit (s := S128x8960) ![0, 1024] S128x256.size inb_S128x8960_S128x256_0_1024, k2_pay13 (F := Ideal) (colsOf 35 8960 rfl x 4) h⟩,
      ⟨Rect.unit (s := S128x8960) ![0, 768] S128x256.size inb_S128x8960_S128x256_0_768, k2_pay11 (F := Ideal) (colsOf 35 8960 rfl x 3) h⟩,
      ⟨Rect.unit (s := S128x8960) ![0, 512] S128x256.size inb_S128x8960_S128x256_0_512, k2_pay7 (F := Ideal) (colsOf 35 8960 rfl x 2) h⟩,
      ⟨Rect.unit (s := S128x8960) ![0, 256] S128x256.size inb_S128x8960_S128x256_0_256, k2_pay4 (F := Ideal) (colsOf 35 8960 rfl x 1) h⟩,
      ⟨Rect.unit (s := S128x8960) ![0, 0] S128x256.size inb_S128x8960_S128x256_0_0, k2_pay2 (F := Ideal) (colsOf 35 8960 rfl x 0) h⟩] : List (View.Piece (Elt Ideal) S128x8960 .f32)) = rPieces 35 8960 rfl (fun k => cast1 (tile h x k)) 35 le_rfl := rfl

/-- The block's codes from its chain and its stored tiles. -/
theorem codes_whole (h : FVec Ideal S256x256 .bf16) (x : FVec Ideal S128x8960 .bf16) (a : FVec Ideal S128x128 .f32) (t0 t1 t2 : FVec Ideal S128x256 .bf16)
    (ha : rMax (rMax (rMax a (tileRow t0 h)) (tileRow t1 h)) (tileRow t2 h) = rChain 35 (tile h x) 35 le_rfl) (v : View sig .tc .vmem S128x8960 .f32) (inb)
    (L : List (View.Piece (Elt Ideal) S128x8960 .f32)) (hL : L = rPieces 35 8960 rfl (fun k => cast1 (tile h x k)) 35 le_rfl) :
    k2_pay108 (F := Ideal) (iota .tc S128x256 32 [1] iota_S128x256_d1_w32) (k2_pay104 a (k2_pay98 t0 h) (k2_pay99 t0 h) t1 h t2 h) 0#32
      (v.readCov L (Rect.unit (s := S128x8960) ![0, 0] S128x8960.size inb).toLoadRect) = codes h x := by
  rw [codes_pay, ha, hL]
  unfold codes rot
  rw [← rStack_cast 35 8960 rfl (tile h x)]
  exact congrArg (fun g => rCode 8960 broadcasts_S128x1_S128x8960 0x3D800000#32 g _) (rPieces_read 35 8960 rfl _ v inb)

theorem outs_codes (c : Dev nD) (t : Fin cfg2.N) : (outsAt2 V c t).1 = codes (iblk2 V c 0 t) (iblk2 V c 1 t) := by
  unfold outsAt2
  frame_open
  simp only [View.readAt_eq_ld, (hs2_0 t).read_unread, (hs2_1 t).read_unread]
  rw [View.ld_unit_zero (S := S256x256) zero2]
  refine (read_one _ zero2 _ _).trans ?_
  exact codes_whole _ _ _ _ _ _ (chain_eq _ _) _ _ _ (pieces_eq _ _)

theorem outs_scales (c : Dev nD) (t : Fin cfg2.N) : (outsAt2 V c t).2 = scales (iblk2 V c 0 t) (iblk2 V c 1 t) := by
  unfold outsAt2
  frame_open
  simp only [View.readAt_eq_ld, (hs2_0 t).read_unread, (hs2_1 t).read_unread]
  rw [View.ld_unit_zero (S := S256x256) zero2]
  refine (read_one _ zero2 _ _).trans ?_
  rw [scale_pay]
  exact congrArg (fun q => rScale (rQuot 0x3D800000#32 (rTop q))) (chain_eq _ _)

end Cert.Block2

end
end
-- ==== Proof.Arr2.lean ====
/- The third launch's arrays: dy's codes and scales over the outputs. -/
module

public import proofs.«01_k».proof.Proof.Block2
public import proofs.«01_k».proof.Proof.Rot

@[expose] public section

noncomputable section

namespace Cert.Arr2

open Idealize.ShloMosaic Idealize.ShloMosaic.TcCoe Idealize.ShloMosaic.Tactic
open Cert.KernelIdeal Cert.KernelIdeal.Gen Cert.Scale Cert.Quant Cert.Rot

variable (V : (c : Dev nD) → (b : Ref sig .tc) → Buf (Elt Ideal) ((c : Thread nD τ).loc b)) (c : Dev nD)

/-- dy's rotation over its outputs. -/
def g : Fin 1792 → Fin 8960 → EReal := along 1792 8960 (by decide) (V c main_cst) (V c main_v1)

theorem e0 : ∀ t : Fin cfg2.N, win2_0.index t = ![0, 0] := (by decide +kernel : ∀ t : Fin grid2.N, win2_0.index t = ![0, 0])
theorem e1 : ∀ t : Fin cfg2.N, win2_1.index t = ![t.val, 0] := (by decide +kernel : ∀ t : Fin grid2.N, win2_1.index t = ![t.val, 0])
theorem e2 : ∀ t : Fin cfg2.N, win2_2.index t = ![t.val, 0] := (by decide +kernel : ∀ t : Fin grid2.N, win2_2.index t = ![t.val, 0])
theorem e3 : ∀ t : Fin cfg2.N, win2_3.index t = ![t.val, 0] := (by decide +kernel : ∀ t : Fin grid2.N, win2_3.index t = ![t.val, 0])

theorem lt (t : Fin cfg2.N) (i : Fin 128) : 128 * t.val + i.val < 1792 := by
  have h : t.val < 14 := t.isLt
  omega

theorem in0 (t : Fin cfg2.N) (p : Fin 256) (q : Fin 256) : iblk2 V c 0 t (ix2 p q) = V c main_cst (ix2 p q) := by
  blk_simp [iblk2]
  refine congrArg _ ?_
  blk_ext [e0]

theorem in1 (t : Fin cfg2.N) (i : Fin 128) (r : Fin 8960) : iblk2 V c 1 t (ix2 i r) = V c main_v1 (ix2 ⟨128 * t.val + i.val, lt t i⟩ r) := by
  blk_simp [iblk2]
  refine congrArg _ ?_
  blk_ext [e1]

theorem rot_eq (t : Fin cfg2.N) (i : Fin 128) (r : Fin 8960) :
    Block2.rot (iblk2 V c 0 t) (iblk2 V c 1 t) (ix2 i r) = g V c ⟨128 * t.val + i.val, lt t i⟩ r := by
  rw [Block2.rot_apply]
  unfold g along
  exact Finset.sum_congr rfl fun q _ => by rw [in0, in1]

/-- dy's codes. -/
theorem codes_eq (hB : ∀ i, Bounded (g V c i)) : (dat2 V c).arrAt 2 cfg2.N = codesAlong 1792 8960 hOut (g V c) := by
  refine (dat2 V c).arrAt_eq_of_covers 2 _ (by decide +kernel) fun t hf y => ?_
  blk_simp
  rw [after2_2, Block2.outs_codes]
  obtain ⟨r, j, rfl⟩ : ∃ (r : Fin 128) (j : Fin 8960), y = ix2 r j := ⟨y 0, y 1, (ix2_eta (n0 := 128) (n1 := 8960) y).symm⟩
  have e : ((cfg2.win 2).blk t).view.emb (ix2 r j) = ix2 (n0 := 1792) (n1 := 8960) ⟨128 * t.val + r.val, lt t r⟩ j := by
    blk_ext [e2]
  rw [e, Block2.codes_apply _ _ _ (by simp only [rot_eq]; exact hB _)]
  simp only [rot_eq]
  rfl

/-- dy's scales. -/
theorem scales_eq : (dat2 V c).arrAt 3 cfg2.N = scalesAlong 1792 8960 hOut (g V c) := by
  refine (dat2 V c).arrAt_eq_of_covers 3 _ (by decide +kernel) fun t hf y => ?_
  blk_simp
  rw [after2_3, Block2.outs_scales]
  obtain ⟨r, j, rfl⟩ : ∃ (r : Fin 128) (j : Fin 1), y = ix2 r j := ⟨y 0, y 1, (ix2_eta (n0 := 128) (n1 := 1) y).symm⟩
  obtain rfl : j = 0 := Subsingleton.elim _ _
  have e : ((cfg2.win 3).blk t).view.emb (ix2 r 0) = ix2 (n0 := 1792) (n1 := 1) ⟨128 * t.val + r.val, lt t r⟩ 0 := by
    blk_ext [e3]
  rw [e, Block2.scales_apply]
  simp only [rot_eq]
  rfl

end Cert.Arr2

end
end
-- ==== Proof.KerEnd.lean ====
/- What the kernel's run leaves in its ten results. -/
module

public import proofs.«01_k».proof.Proof.Results
public import proofs.«01_k».proof.Proof.Run
public import proofs.«01_k».proof.Proof.Arr0
public import proofs.«01_k».proof.Proof.Arr2

@[expose] public section

noncomputable section

namespace Cert.KerEnd

open Idealize.ShloMosaic Idealize.ShloMosaic.TcCoe Idealize.SL.Sem
open Cert.KernelIdeal Cert.KernelIdeal.Gen Cert.Quant Cert.Rot Cert.Tables

/-- Where a table's entry lies in its list. -/
theorem pos_lt (p q : Fin 256) : p.val * 256 + q.val < 65536 := by
  have := p.isLt
  have := q.isLt
  omega

theorem pos_eq (p q : Fin 256) : S256x256.rowMajor (ix2 p q) = ⟨p.val * 256 + q.val, pos_lt p q⟩ :=
  Fin.ext (Shape.rowMajor_val_two (ix2 p q))

/-- A kernel rotation by the table of signs, down the rows. -/
theorem down_out (M n : ℕ) (hM : M % 256 = 0) (h : FVec Ideal S256x256 .bf16) (hh : ∀ p q, h (ix2 p q) = sgn p.val q.val) (x : FVec Ideal ⟨2, ![M, n]⟩ .bf16) :
    Rot.down M n hM h x = Plain.down 256 M n hM x := by
  funext r j
  unfold Rot.down Plain.down
  refine Finset.sum_congr rfl fun q _ => ?_
  rw [hh, sgn_comm]

/-- A kernel rotation by the table of signs, along the columns. -/
theorem along_out (m N : ℕ) (hN : N % 256 = 0) (h : FVec Ideal S256x256 .bf16) (hh : ∀ p q, h (ix2 p q) = sgn p.val q.val) (x : FVec Ideal ⟨2, ![m, N]⟩ .bf16) :
    Rot.along m N hN h x = Plain.along m N hN x := by
  funext i r
  unfold Rot.along Plain.along
  refine Finset.sum_congr rfl fun q _ => ?_
  rw [hh, mul_comm]

/-- A kernel rotation by the table of two 128-row blocks, down the rows. -/
theorem down_tok (M n : ℕ) (hM : M % 256 = 0) (h128 : M % 128 = 0) (h : FVec Ideal S256x256 .bf16) (hh : ∀ p q, h (ix2 p q) = sgnTok p.val q.val)
    (x : FVec Ideal ⟨2, ![M, n]⟩ .bf16) : Rot.down M n hM h x = Plain.down 128 M n h128 x := by
  funext r j
  unfold Rot.down Plain.down
  refine Eq.trans ?_ (Plain.tok_sum M (fun r => x (ix2 r j)) r hM h128)
  refine Finset.sum_congr rfl fun q _ => ?_
  rw [hh]

variable (m : (ℓ : Loc nD τ sig) → Buf (Elt Ideal) ℓ) (ρ : Dev nD → PrngReg) (c : Dev nD)

/-- The activations with the tokens flattened. -/
def x0 : FVec Ideal S1792x1536 .bf16 := shapeCast S1792x1536 (m ((c : Thread nD τ).loc main_arg0)) shapeCasts_S2x896x1536_S1792x1536

/-- The weights. -/
def w0 : FVec Ideal S8960x1536 .bf16 := m ((c : Thread nD τ).loc main_arg1)

/-- The output gradient with the tokens flattened. -/
def dy0 : FVec Ideal S1792x8960 .bf16 := shapeCast S1792x8960 (m ((c : Thread nD τ).loc main_arg2)) shapeCasts_S2x896x8960_S1792x8960

theorem tab_out (p q : Fin 256) : (V1 m ρ c main_cst : FVec Ideal S256x256 .bf16) (ix2 p q) = sgn p.val q.val :=
  (congrFun (start1_cst m ρ c) (ix2 p q)).trans
    ((congrArg (fun k => Ideal.ofBits .bf16 (lit0 k)) (pos_eq p q)).trans (lit0_eq p q (pos_lt p q)))

theorem tab_tok (p q : Fin 256) : (V1 m ρ c main_cst_0 : FVec Ideal S256x256 .bf16) (ix2 p q) = sgnTok p.val q.val :=
  (congrFun (start1_cst_0 m ρ c) (ix2 p q)).trans
    ((congrArg (fun k => Ideal.ofBits .bf16 (lit1 k)) (pos_eq p q)).trans (lit1_eq p q (pos_lt p q)))

/-! ## The four rotations -/

theorem g0 : Arr0.g (V1 m ρ) c = Results.gX (x0 m c) := by
  unfold Arr0.g
  rw [down_tok 1792 1536 _ (by decide) _ (tab_tok m ρ c), start1_v0]
  rfl

theorem g1 : Arr1.g (V2 m ρ) c = Results.gDyt (dy0 m c) := by
  unfold Arr1.g
  rw [start2_cst_0, start2_v1, down_tok 1792 8960 _ (by decide) _ (tab_tok m ρ c), start1_v1]
  rfl

theorem g2 : Arr2.g (V3 m ρ) c = Results.gDyo (dy0 m c) := by
  unfold Arr2.g
  rw [start3_cst, start3_v1, along_out 1792 8960 _ _ (tab_out m ρ c), start1_v1]
  rfl

theorem g3 : Arr3.g (V4 m ρ) c = Results.gW (w0 m c) := by
  unfold Arr3.g
  rw [start4_cst, start4_arg1, down_out 8960 1536 _ _ (tab_out m ρ c)]
  rfl

/-! ## The results, when the arguments are small -/

variable (hx : ∀ y, Small (x0 m c y)) (hw : ∀ y, Small (w0 m c y)) (hd : ∀ y, Small (dy0 m c y))

include hx in
theorem b0 (j : Fin 1536) : Bounded fun r => Arr0.g (V1 m ρ) c r j := by
  rw [g0]
  exact Plain.down_bounded 128 1792 1536 _ (by decide) _ hx j

include hd in
theorem b1 (j : Fin 8960) : Bounded fun r => Arr1.g (V2 m ρ) c r j := by
  rw [g1]
  exact Plain.down_bounded 128 1792 8960 _ (by decide) _ hd j

include hd in
theorem b2 (i : Fin 1792) : Bounded (Arr2.g (V3 m ρ) c i) := by
  rw [g2]
  exact Plain.along_bounded 1792 8960 _ _ hd i

include hw in
theorem b3 (j : Fin 1536) : Bounded fun r => Arr3.g (V4 m ρ) c r j := by
  rw [g3]
  exact Plain.down_bounded 256 8960 1536 _ (by decide) _ hw j

include hx in
theorem r2_0 : (dat0 (V1 m ρ) c).arrAt 2 cfg0.N = Results.xCodes (x0 m c) := by
  rw [Arr0.codes_eq (V1 m ρ) c (b0 m ρ c hx), g0]
  rfl

theorem r2_1 : (dat0 (V1 m ρ) c).arrAt 3 cfg0.N = Results.xScales (x0 m c) := by
  rw [Arr0.scales_eq (V1 m ρ) c, g0]
  rfl

include hd in
theorem r3_0 : (dat1 (V2 m ρ) c).arrAt 4 cfg1.N = Results.dytCodes (dy0 m c) := by
  rw [Arr1.codes_eq (V2 m ρ) c (b1 m ρ c hd), g1]
  rfl

theorem r3_1 : (dat1 (V2 m ρ) c).arrAt 5 cfg1.N = Results.dytScales (dy0 m c) := by
  rw [Arr1.scales_eq (V2 m ρ) c, g1]
  rfl

include hx hd in
theorem r3_2 : (dat1 (V2 m ρ) c).arrAt 6 cfg1.N = Results.dw (x0 m c) (dy0 m c) := by
  rw [Arr1.dw_eq (V2 m ρ) c (b1 m ρ c hd), g1, start2_v2_0, start2_v2_1, r2_0 m ρ c hx, r2_1]
  rfl

include hd in
theorem r4_0 : (dat2 (V3 m ρ) c).arrAt 2 cfg2.N = Results.dyoCodes (dy0 m c) := by
  rw [Arr2.codes_eq (V3 m ρ) c (b2 m ρ c hd), g2]
  rfl

theorem r4_1 : (dat2 (V3 m ρ) c).arrAt 3 cfg2.N = Results.dyoScales (dy0 m c) := by
  rw [Arr2.scales_eq (V3 m ρ) c, g2]
  rfl

include hw in
theorem r5_0 : (dat3 (V4 m ρ) c).arrAt 4 cfg3.N = Results.wCodes (w0 m c) := by
  rw [Arr3.codes_eq (V4 m ρ) c (b3 m ρ c hw), g3]
  rfl

theorem r5_1 : (dat3 (V4 m ρ) c).arrAt 5 cfg3.N = Results.wScales (w0 m c) := by
  rw [Arr3.scales_eq (V4 m ρ) c, g3]
  rfl

include hw hd in
theorem r5_2 : (dat3 (V4 m ρ) c).arrAt 6 cfg3.N = Results.dx (w0 m c) (dy0 m c) := by
  rw [Arr3.dx_eq (V4 m ρ) c (b3 m ρ c hw), g3, start4_v4_0, start4_v4_1, r4_0 m ρ c hd, r4_1]
  rfl

/-! ## The run -/

/-- Every run of the kernel ends with the ten results and the arguments as they were. -/
theorem run (m : (ℓ : Loc nD τ sig) → Buf (Elt Ideal) ℓ) (ρ : Dev nD → PrngReg) (hx : ∀ c y, Small (x0 m c y)) (hw : ∀ c y, Small (w0 m c y))
    (hd : ∀ c y, Small (dy0 m c y)) :
    θ_run (defs (F := Ideal)) (onTc (τ := τ) (main (F := Ideal))) ⟨m, fun _ => 0, ρ⟩ (fun r => ∀ c : Dev nD,
      r.2.mem ((c : Thread nD τ).loc main_v5_2) = Results.dx (w0 m c) (dy0 m c)
      ∧ r.2.mem ((c : Thread nD τ).loc main_v3_2) = Results.dw (x0 m c) (dy0 m c)
      ∧ r.2.mem ((c : Thread nD τ).loc main_v4_0) = Results.dyoCodes (dy0 m c)
      ∧ r.2.mem ((c : Thread nD τ).loc main_v4_1) = Results.dyoScales (dy0 m c)
      ∧ r.2.mem ((c : Thread nD τ).loc main_v5_0) = Results.wCodes (w0 m c)
      ∧ r.2.mem ((c : Thread nD τ).loc main_v5_1) = Results.wScales (w0 m c)
      ∧ r.2.mem ((c : Thread nD τ).loc main_v3_0) = Results.dytCodes (dy0 m c)
      ∧ r.2.mem ((c : Thread nD τ).loc main_v3_1) = Results.dytScales (dy0 m c)
      ∧ r.2.mem ((c : Thread nD τ).loc main_v2_0) = Results.xCodes (x0 m c)
      ∧ r.2.mem ((c : Thread nD τ).loc main_v2_1) = Results.xScales (x0 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨
    (h c _ (mem_uc main_v5_2 (by decide))).trans ((end_v5_2 m ρ c).trans (r5_2 m ρ c (hw c) (hd c))),
    (h c _ (mem_uc main_v3_2 (by decide))).trans ((end_v3_2 m ρ c).trans (r3_2 m ρ c (hx c) (hd c))),
    (h c _ (mem_uc main_v4_0 (by decide))).trans ((end_v4_0 m ρ c).trans (r4_0 m ρ c (hd c))),
    (h c _ (mem_uc main_v4_1 (by decide))).trans ((end_v4_1 m ρ c).trans (r4_1 m ρ c)),
    (h c _ (mem_uc main_v5_0 (by decide))).trans ((end_v5_0 m ρ c).trans (r5_0 m ρ c (hw c))),
    (h c _ (mem_uc main_v5_1 (by decide))).trans ((end_v5_1 m ρ c).trans (r5_1 m ρ c)),
    (h c _ (mem_uc main_v3_0 (by decide))).trans ((end_v3_0 m ρ c).trans (r3_0 m ρ c (hd c))),
    (h c _ (mem_uc main_v3_1 (by decide))).trans ((end_v3_1 m ρ c).trans (r3_1 m ρ c)),
    (h c _ (mem_uc main_v2_0 (by decide))).trans ((end_v2_0 m ρ c).trans (r2_0 m ρ c (hx c))),
    (h c _ (mem_uc main_v2_1 (by decide))).trans ((end_v2_1 m ρ c).trans (r2_1 m ρ c)),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c)⟩) (run_all m ρ)

end Cert.KerEnd

end
end
-- ==== Proof.RefOut.lean ====
/- What the reference's last step leaves in its ten results, from the arrays it reads. -/
module

public import proofs.«01_k».proof.Proof.Gen.ReferenceIdeal.Value
public import proofs.«01_k».proof.Proof.Kit
public import Idealize.ShloMosaic.Lib.Pipeline.ValueKit
public import Idealize.ShloMosaic.Lib.Pointwise

@[expose] public section

set_option maxRecDepth 65536

noncomputable section

namespace Cert.RefOut

open Idealize.ShloMosaic Idealize.ShloMosaic.TcCoe Idealize.ShloMosaic.Tactic
open Cert.ReferenceIdeal Cert.ReferenceIdeal.Gen

variable (m : (ℓ : Loc nD τ sig) → Buf (Elt Ideal) ℓ) (c : Dev nD)

theorem zero2 : (![0, 0] : Fin 2 → ℕ) = fun _ => 0 := by
  funext a
  fin_cases a <;> rfl

/-! ## The blocks are whole arrays -/

theorem e0 : ∀ t : Fin cfg0.N, win0_0.index t = ![0, 0] := (by decide +kernel : ∀ t : Fin grid0.N, win0_0.index t = ![0, 0])

theorem rd0 (t : Fin cfg0.N) (v : Buf (Elt Ideal) ((c : Thread nD τ).loc main_v49)) (y : S1792x8960.Idx) : View.read (Elt Ideal) ((cfg0.win 0).blk t).view v y = v y := by
  blk_simp
  refine congrArg v ?_
  blk_ext [e0]

theorem in0 (t : Fin cfg0.N) : iblk m c 0 t = V m c main_v49 := funext fun y => rd0 c t (V m c main_v49) y

theorem e1 : ∀ t : Fin cfg0.N, win0_1.index t = ![0, 0] := (by decide +kernel : ∀ t : Fin grid0.N, win0_1.index t = ![0, 0])

theorem rd1 (t : Fin cfg0.N) (v : Buf (Elt Ideal) ((c : Thread nD τ).loc main_v43)) (y : S1792x1.Idx) : View.read (Elt Ideal) ((cfg0.win 1).blk t).view v y = v y := by
  blk_simp
  refine congrArg v ?_
  blk_ext [e1]

theorem in1 (t : Fin cfg0.N) : iblk m c 1 t = V m c main_v43 := funext fun y => rd1 c t (V m c main_v43) y

theorem e2 : ∀ t : Fin cfg0.N, win0_2.index t = ![0, 0] := (by decide +kernel : ∀ t : Fin grid0.N, win0_2.index t = ![0, 0])

theorem rd2 (t : Fin cfg0.N) (v : Buf (Elt Ideal) ((c : Thread nD τ).loc main_v78)) (y : S8960x1536.Idx) : View.read (Elt Ideal) ((cfg0.win 2).blk t).view v y = v y := by
  blk_simp
  refine congrArg v ?_
  blk_ext [e2]

theorem in2 (t : Fin cfg0.N) : iblk m c 2 t = V m c main_v78 := funext fun y => rd2 c t (V m c main_v78) y

theorem e3 : ∀ t : Fin cfg0.N, win0_3.index t = ![0, 0] := (by decide +kernel : ∀ t : Fin grid0.N, win0_3.index t = ![0, 0])

theorem rd3 (t : Fin cfg0.N) (v : Buf (Elt Ideal) ((c : Thread nD τ).loc main_v72)) (y : S1x1536.Idx) : View.read (Elt Ideal) ((cfg0.win 3).blk t).view v y = v y := by
  blk_simp
  refine congrArg v ?_
  blk_ext [e3]

theorem in3 (t : Fin cfg0.N) : iblk m c 3 t = V m c main_v72 := funext fun y => rd3 c t (V m c main_v72) y

theorem e4 : ∀ t : Fin cfg0.N, win0_4.index t = ![0, 0] := (by decide +kernel : ∀ t : Fin grid0.N, win0_4.index t = ![0, 0])

theorem rd4 (t : Fin cfg0.N) (v : Buf (Elt Ideal) ((c : Thread nD τ).loc main_v107)) (y : S1792x8960.Idx) : View.read (Elt Ideal) ((cfg0.win 4).blk t).view v y = v y := by
  blk_simp
  refine congrArg v ?_
  blk_ext [e4]

theorem in4 (t : Fin cfg0.N) : iblk m c 4 t = V m c main_v107 := funext fun y => rd4 c t (V m c main_v107) y

theorem e5 : ∀ t : Fin cfg0.N, win0_5.index t = ![0, 0] := (by decide +kernel : ∀ t : Fin grid0.N, win0_5.index t = ![0, 0])

theorem rd5 (t : Fin cfg0.N) (v : Buf (Elt Ideal) ((c : Thread nD τ).loc main_v101)) (y : S1x8960.Idx) : View.read (Elt Ideal) ((cfg0.win 5).blk t).view v y = v y := by
  blk_simp
  refine congrArg v ?_
  blk_ext [e5]

theorem in5 (t : Fin cfg0.N) : iblk m c 5 t = V m c main_v101 := funext fun y => rd5 c t (V m c main_v101) y

theorem e6 : ∀ t : Fin cfg0.N, win0_6.index t = ![0, 0] := (by decide +kernel : ∀ t : Fin grid0.N, win0_6.index t = ![0, 0])

theorem rd6 (t : Fin cfg0.N) (v : Buf (Elt Ideal) ((c : Thread nD τ).loc main_v136)) (y : S1792x1536.Idx) : View.read (Elt Ideal) ((cfg0.win 6).blk t).view v y = v y := by
  blk_simp
  refine congrArg v ?_
  blk_ext [e6]

theorem in6 (t : Fin cfg0.N) : iblk m c 6 t = V m c main_v136 := funext fun y => rd6 c t (V m c main_v136) y

theorem e7 : ∀ t : Fin cfg0.N, win0_7.index t = ![0, 0] := (by decide +kernel : ∀ t : Fin grid0.N, win0_7.index t = ![0, 0])

theorem rd7 (t : Fin cfg0.N) (v : Buf (Elt Ideal) ((c : Thread nD τ).loc main_v130)) (y : S1x1536.Idx) : View.read (Elt Ideal) ((cfg0.win 7).blk t).view v y = v y := by
  blk_simp
  refine congrArg v ?_
  blk_ext [e7]

theorem in7 (t : Fin cfg0.N) : iblk m c 7 t = V m c main_v130 := funext fun y => rd7 c t (V m c main_v130) y

theorem e11 : ∀ t : Fin cfg0.N, win0_11.index t = ![0, 0] := (by decide +kernel : ∀ t : Fin grid0.N, win0_11.index t = ![0, 0])

theorem rd11 (t : Fin cfg0.N) (v : Buf (Elt Ideal) ((c : Thread nD τ).loc main_v138_2)) (y : S1792x8960.Idx) : View.read (Elt Ideal) ((cfg0.win 11).blk t).view v y = v y := by
  blk_simp
  refine congrArg v ?_
  blk_ext [e11]

theorem e12 : ∀ t : Fin cfg0.N, win0_12.index t = ![0, 0] := (by decide +kernel : ∀ t : Fin grid0.N, win0_12.index t = ![0, 0])

theorem rd12 (t : Fin cfg0.N) (v : Buf (Elt Ideal) ((c : Thread nD τ).loc main_v138_3)) (y : S1792x1.Idx) : View.read (Elt Ideal) ((cfg0.win 12).blk t).view v y = v y := by
  blk_simp
  refine congrArg v ?_
  blk_ext [e12]

theorem e13 : ∀ t : Fin cfg0.N, win0_13.index t = ![0, 0] := (by decide +kernel : ∀ t : Fin grid0.N, win0_13.index t = ![0, 0])

theorem rd13 (t : Fin cfg0.N) (v : Buf (Elt Ideal) ((c : Thread nD τ).loc main_v138_4)) (y : S8960x1536.Idx) : View.read (Elt Ideal) ((cfg0.win 13).blk t).view v y = v y := by
  blk_simp
  refine congrArg v ?_
  blk_ext [e13]

theorem e14 : ∀ t : Fin cfg0.N, win0_14.index t = ![0, 0] := (by decide +kernel : ∀ t : Fin grid0.N, win0_14.index t = ![0, 0])

theorem rd14 (t : Fin cfg0.N) (v : Buf (Elt Ideal) ((c : Thread nD τ).loc main_v138_5)) (y : S1x1536.Idx) : View.read (Elt Ideal) ((cfg0.win 14).blk t).view v y = v y := by
  blk_simp
  refine congrArg v ?_
  blk_ext [e14]

theorem e15 : ∀ t : Fin cfg0.N, win0_15.index t = ![0, 0] := (by decide +kernel : ∀ t : Fin grid0.N, win0_15.index t = ![0, 0])

theorem rd15 (t : Fin cfg0.N) (v : Buf (Elt Ideal) ((c : Thread nD τ).loc main_v138_6)) (y : S1792x8960.Idx) : View.read (Elt Ideal) ((cfg0.win 15).blk t).view v y = v y := by
  blk_simp
  refine congrArg v ?_
  blk_ext [e15]

theorem e16 : ∀ t : Fin cfg0.N, win0_16.index t = ![0, 0] := (by decide +kernel : ∀ t : Fin grid0.N, win0_16.index t = ![0, 0])

theorem rd16 (t : Fin cfg0.N) (v : Buf (Elt Ideal) ((c : Thread nD τ).loc main_v138_7)) (y : S1x8960.Idx) : View.read (Elt Ideal) ((cfg0.win 16).blk t).view v y = v y := by
  blk_simp
  refine congrArg v ?_
  blk_ext [e16]

theorem e17 : ∀ t : Fin cfg0.N, win0_17.index t = ![0, 0] := (by decide +kernel : ∀ t : Fin grid0.N, win0_17.index t = ![0, 0])

theorem rd17 (t : Fin cfg0.N) (v : Buf (Elt Ideal) ((c : Thread nD τ).loc main_v138_8)) (y : S1792x1536.Idx) : View.read (Elt Ideal) ((cfg0.win 17).blk t).view v y = v y := by
  blk_simp
  refine congrArg v ?_
  blk_ext [e17]

theorem e18 : ∀ t : Fin cfg0.N, win0_18.index t = ![0, 0] := (by decide +kernel : ∀ t : Fin grid0.N, win0_18.index t = ![0, 0])

theorem rd18 (t : Fin cfg0.N) (v : Buf (Elt Ideal) ((c : Thread nD τ).loc main_v138_9)) (y : S1x1536.Idx) : View.read (Elt Ideal) ((cfg0.win 18).blk t).view v y = v y := by
  blk_simp
  refine congrArg v ?_
  blk_ext [e18]

/-! ## The payloads that only copy -/

theorem pay2_eq (P : Vec Ideal S1792x8960 .f32) : k0_pay2 P = P := by
  unfold k0_pay2
  rw [shapeCast_self]
  rfl

theorem pay6_eq (P : Vec Ideal S1792x1 .f32) : k0_pay6 P = P := by
  unfold k0_pay6
  rw [shapeCast_self]

theorem pay3_eq (P : Vec Ideal S8960x1536 .f32) : k0_pay3 P = P := by
  unfold k0_pay3
  rw [shapeCast_self]
  rfl

theorem pay7_eq (P : Vec Ideal S1x1536 .f32) : k0_pay7 P = P := by
  unfold k0_pay7
  rw [shapeCast_self]

theorem pay4_eq (P : Vec Ideal S1792x8960 .f32) : k0_pay4 P = P := by
  unfold k0_pay4
  rw [shapeCast_self]
  rfl

theorem pay8_eq (P : Vec Ideal S1x8960 .f32) : k0_pay8 P = P := by
  unfold k0_pay8
  rw [shapeCast_self]

theorem pay5_eq (P : Vec Ideal S1792x1536 .f32) : k0_pay5 P = P := by
  unfold k0_pay5
  rw [shapeCast_self]
  rfl

theorem pay9_eq (P : Vec Ideal S1x1536 .f32) : k0_pay9 P = P := by
  unfold k0_pay9
  rw [shapeCast_self]

/-! ## The results -/

theorem arr11_of (G : S1792x8960.Idx → EReal) (h : ∀ t, (dats m 0 c).after 11 t = G) : (dats m 0 c).arrAt 11 cfg0.N = G := by
  refine (dats m 0 c).arrAt_eq_of_covers 11 _ (by decide +kernel) fun t hf y => ?_
  exact (congrFun (h t) y).trans (rd11 c t G y).symm

/-- Result 2 is the array `main_v49`. -/
theorem arr11 : (dats m 0 c).arrAt 11 cfg0.N = V m c main_v49 := by
  refine arr11_of m c _ fun t => ?_
  rw [after0_11, in0]
  unfold out0_11
  rw [View.canon_cons_unit_zero zero2, View.ld_unit_zero (S := S1792x8960) zero2, pay2_eq]

theorem arr12_of (G : S1792x1.Idx → EReal) (h : ∀ t, (dats m 0 c).after 12 t = G) : (dats m 0 c).arrAt 12 cfg0.N = G := by
  refine (dats m 0 c).arrAt_eq_of_covers 12 _ (by decide +kernel) fun t hf y => ?_
  exact (congrFun (h t) y).trans (rd12 c t G y).symm

/-- Result 3 is the array `main_v43`. -/
theorem arr12 : (dats m 0 c).arrAt 12 cfg0.N = V m c main_v43 := by
  refine arr12_of m c _ fun t => ?_
  rw [after0_12, in1]
  unfold out0_12
  rw [View.canon_cons_unit_zero zero2, View.ld_unit_zero (S := S1792x1) zero2, pay6_eq]

theorem arr13_of (G : S8960x1536.Idx → EReal) (h : ∀ t, (dats m 0 c).after 13 t = G) : (dats m 0 c).arrAt 13 cfg0.N = G := by
  refine (dats m 0 c).arrAt_eq_of_covers 13 _ (by decide +kernel) fun t hf y => ?_
  exact (congrFun (h t) y).trans (rd13 c t G y).symm

/-- Result 4 is the array `main_v78`. -/
theorem arr13 : (dats m 0 c).arrAt 13 cfg0.N = V m c main_v78 := by
  refine arr13_of m c _ fun t => ?_
  rw [after0_13, in2]
  unfold out0_13
  rw [View.canon_cons_unit_zero zero2, View.ld_unit_zero (S := S8960x1536) zero2, pay3_eq]

theorem arr14_of (G : S1x1536.Idx → EReal) (h : ∀ t, (dats m 0 c).after 14 t = G) : (dats m 0 c).arrAt 14 cfg0.N = G := by
  refine (dats m 0 c).arrAt_eq_of_covers 14 _ (by decide +kernel) fun t hf y => ?_
  exact (congrFun (h t) y).trans (rd14 c t G y).symm

/-- Result 5 is the array `main_v72`. -/
theorem arr14 : (dats m 0 c).arrAt 14 cfg0.N = V m c main_v72 := by
  refine arr14_of m c _ fun t => ?_
  rw [after0_14, in3]
  unfold out0_14
  rw [View.canon_cons_unit_zero zero2, View.ld_unit_zero (S := S1x1536) zero2, pay7_eq]

theorem arr15_of (G : S1792x8960.Idx → EReal) (h : ∀ t, (dats m 0 c).after 15 t = G) : (dats m 0 c).arrAt 15 cfg0.N = G := by
  refine (dats m 0 c).arrAt_eq_of_covers 15 _ (by decide +kernel) fun t hf y => ?_
  exact (congrFun (h t) y).trans (rd15 c t G y).symm

/-- Result 6 is the array `main_v107`. -/
theorem arr15 : (dats m 0 c).arrAt 15 cfg0.N = V m c main_v107 := by
  refine arr15_of m c _ fun t => ?_
  rw [after0_15, in4]
  unfold out0_15
  rw [View.canon_cons_unit_zero zero2, View.ld_unit_zero (S := S1792x8960) zero2, pay4_eq]

theorem arr16_of (G : S1x8960.Idx → EReal) (h : ∀ t, (dats m 0 c).after 16 t = G) : (dats m 0 c).arrAt 16 cfg0.N = G := by
  refine (dats m 0 c).arrAt_eq_of_covers 16 _ (by decide +kernel) fun t hf y => ?_
  exact (congrFun (h t) y).trans (rd16 c t G y).symm

/-- Result 7 is the array `main_v101`. -/
theorem arr16 : (dats m 0 c).arrAt 16 cfg0.N = V m c main_v101 := by
  refine arr16_of m c _ fun t => ?_
  rw [after0_16, in5]
  unfold out0_16
  rw [View.canon_cons_unit_zero zero2, View.ld_unit_zero (S := S1x8960) zero2, pay8_eq]

theorem arr17_of (G : S1792x1536.Idx → EReal) (h : ∀ t, (dats m 0 c).after 17 t = G) : (dats m 0 c).arrAt 17 cfg0.N = G := by
  refine (dats m 0 c).arrAt_eq_of_covers 17 _ (by decide +kernel) fun t hf y => ?_
  exact (congrFun (h t) y).trans (rd17 c t G y).symm

/-- Result 8 is the array `main_v136`. -/
theorem arr17 : (dats m 0 c).arrAt 17 cfg0.N = V m c main_v136 := by
  refine arr17_of m c _ fun t => ?_
  rw [after0_17, in6]
  unfold out0_17
  rw [View.canon_cons_unit_zero zero2, View.ld_unit_zero (S := S1792x1536) zero2, pay5_eq]

theorem arr18_of (G : S1x1536.Idx → EReal) (h : ∀ t, (dats m 0 c).after 18 t = G) : (dats m 0 c).arrAt 18 cfg0.N = G := by
  refine (dats m 0 c).arrAt_eq_of_covers 18 _ (by decide +kernel) fun t hf y => ?_
  exact (congrFun (h t) y).trans (rd18 c t G y).symm

/-- Result 9 is the array `main_v130`. -/
theorem arr18 : (dats m 0 c).arrAt 18 cfg0.N = V m c main_v130 := by
  refine arr18_of m c _ fun t => ?_
  rw [after0_18, in7]
  unfold out0_18
  rw [View.canon_cons_unit_zero zero2, View.ld_unit_zero (S := S1x1536) zero2, pay9_eq]

end Cert.RefOut

end
end
-- ==== Proof.RefDots.lean ====
/- The reference's two products, from the arrays its last step reads. -/
module

public import proofs.«01_k».proof.Proof.RefOut

@[expose] public section

set_option maxRecDepth 65536

noncomputable section

namespace Cert.RefOut

open Idealize.ShloMosaic Idealize.ShloMosaic.TcCoe Idealize.ShloMosaic.Tactic
open Cert.ReferenceIdeal Cert.ReferenceIdeal.Gen

/-! ## The products, entry by entry -/

/-- The input gradient: codes times codes, summed over the outputs, times the two scales. -/
theorem pay10_apply (a : Vec Ideal S1792x8960 .f32) (b : Vec Ideal S8960x1536 .f32) (s : Vec Ideal S1792x1 .f32) (u : Vec Ideal S1x1536 .f32)
    (i : Fin 1792) (j : Fin 1536) :
    k0_pay10 a b s u (ix2 i j) = (∑ k : Fin 8960, a (ix2 i k) * b (ix2 k j)) * s (ix2 i 0) * u (ix2 0 j) := by
  pointwise [k0_pay10]

/-- The weight gradient: codes times codes, summed over the tokens, times the two scales. -/
theorem pay1_apply (a : Vec Ideal S1792x8960 .f32) (b : Vec Ideal S1792x1536 .f32) (s : Vec Ideal S8960x1 .f32) (u : Vec Ideal S1x1536 .f32)
    (r : Fin 8960) (j : Fin 1536) :
    k0_pay1 (k0_pay11 a b s) (k0_pay12 u) (ix2 r j) = (∑ k : Fin 1792, a (ix2 k r) * b (ix2 k j)) * s (ix2 r 0) * u (ix2 0 j) := by
  pointwise [k0_pay1, k0_pay11, k0_pay12]

/-- A row of scales stood up as a column. -/
theorem stand_apply (v : FVec Ideal S1x8960 .f32) (r : Fin 8960) : shapeCast S8960x1 v shapeCasts_S1x8960_S8960x1 (ix2 r 0) = v (ix2 0 r) := by
  pointwise

/-! ## The blocks are whole arrays -/

variable (m : (ℓ : Loc nD τ sig) → Buf (Elt Ideal) ℓ) (c : Dev nD)

theorem e8 : ∀ t : Fin cfg0.N, win0_8.index t = ![0, 0] := (by decide +kernel : ∀ t : Fin grid0.N, win0_8.index t = ![0, 0])

theorem rd8 (t : Fin cfg0.N) (v : Buf (Elt Ideal) ((c : Thread nD τ).loc main_v137)) (y : S8960x1.Idx) : View.read (Elt Ideal) ((cfg0.win 8).blk t).view v y = v y := by
  blk_simp
  refine congrArg v ?_
  blk_ext [e8]

theorem in8 (t : Fin cfg0.N) : iblk m c 8 t = V m c main_v137 := funext fun y => rd8 c t (V m c main_v137) y

theorem e9 : ∀ t : Fin cfg0.N, win0_9.index t = ![0, 0] := (by decide +kernel : ∀ t : Fin grid0.N, win0_9.index t = ![0, 0])

theorem rd9 (t : Fin cfg0.N) (v : Buf (Elt Ideal) ((c : Thread nD τ).loc main_v138_0)) (y : S1792x1536.Idx) : View.read (Elt Ideal) ((cfg0.win 9).blk t).view v y = v y := by
  blk_simp
  refine congrArg v ?_
  blk_ext [e9]

theorem e10 : ∀ t : Fin cfg0.N, win0_10.index t = ![0, 0] := (by decide +kernel : ∀ t : Fin grid0.N, win0_10.index t = ![0, 0])

theorem rd10 (t : Fin cfg0.N) (v : Buf (Elt Ideal) ((c : Thread nD τ).loc main_v138_1)) (y : S8960x1536.Idx) : View.read (Elt Ideal) ((cfg0.win 10).blk t).view v y = v y := by
  blk_simp
  refine congrArg v ?_
  blk_ext [e10]

/-! ## The results -/

theorem arr9_of (G : S1792x1536.Idx → EReal) (h : ∀ t, (dats m 0 c).after 9 t = G) : (dats m 0 c).arrAt 9 cfg0.N = G := by
  refine (dats m 0 c).arrAt_eq_of_covers 9 _ (by decide +kernel) fun t hf y => ?_
  exact (congrFun (h t) y).trans (rd9 c t G y).symm

/-- Result 0 is the input gradient. -/
theorem arr9 : (dats m 0 c).arrAt 9 cfg0.N = k0_pay10 (V m c main_v49) (V m c main_v78) (V m c main_v43) (V m c main_v72) := by
  refine arr9_of m c _ fun t => ?_
  rw [after0_9, in0, in1, in2, in3]
  unfold out0_9
  rw [View.canon_cons_unit_zero zero2, View.ld_unit_zero (S := S1792x8960) zero2, View.ld_unit_zero (S := S8960x1536) zero2, View.ld_unit_zero (S := S1792x1) zero2, View.ld_unit_zero (S := S1x1536) zero2]

theorem arr10_of (G : S8960x1536.Idx → EReal) (h : ∀ t, (dats m 0 c).after 10 t = G) : (dats m 0 c).arrAt 10 cfg0.N = G := by
  refine (dats m 0 c).arrAt_eq_of_covers 10 _ (by decide +kernel) fun t hf y => ?_
  exact (congrFun (h t) y).trans (rd10 c t G y).symm

/-- Result 1 is the weight gradient. -/
theorem arr10 : (dats m 0 c).arrAt 10 cfg0.N = k0_pay1 (k0_pay11 (V m c main_v107) (V m c main_v136) (V m c main_v137)) (k0_pay12 (V m c main_v130)) := by
  refine arr10_of m c _ fun t => ?_
  rw [after0_10, in4, in6, in7, in8]
  unfold out0_10
  rw [View.canon_cons_unit_zero zero2, View.ld_unit_zero (S := S1792x8960) zero2, View.ld_unit_zero (S := S1792x1536) zero2, View.ld_unit_zero (S := S8960x1) zero2, View.ld_unit_zero (S := S1x1536) zero2]

end Cert.RefOut

end
end
-- ==== Proof.RefEnd.lean ====
/- What the reference's run leaves in its ten results. -/
module

public import proofs.«01_k».proof.Proof.Results
public import proofs.«01_k».proof.Proof.RefDots

@[expose] public section

noncomputable section

namespace Cert.RefEnd

open Idealize.ShloMosaic Idealize.ShloMosaic.TcCoe Idealize.SL.Sem
open Cert.ReferenceIdeal Cert.ReferenceIdeal.Gen Cert.Quant Cert.HostVals Cert.RefRot

/-! ## The reference's rotations are the plain ones, scaled -/

theorem rotX_plain (x : FVec Ideal S1792x1536 .bf16) (r : Fin 1792) (j : Fin 1536) : rotX x (ix2 r j) = Results.gX x r j * hTok := by
  unfold rotX
  rw [rotXBy_apply]
  simp only [table128_apply]
  rfl

theorem rotDyt_plain (x : FVec Ideal S1792x8960 .bf16) (r : Fin 1792) (j : Fin 8960) : rotDyt x (ix2 r j) = Results.gDyt x r j * hTok := by
  unfold rotDyt
  rw [rotDytBy_apply]
  simp only [table128_apply]
  rfl

theorem rotW_plain (x : FVec Ideal S8960x1536 .bf16) (r : Fin 8960) (j : Fin 1536) : rotW x (ix2 r j) = Results.gW x r j * hOut := by
  unfold rotW
  rw [rotWBy_apply]
  simp only [table256_apply]
  rfl

theorem rotDyo_plain (x : FVec Ideal S1792x8960 .bf16) (i : Fin 1792) (r : Fin 8960) : rotDyo x (ix2 i r) = Results.gDyo x i r * hOut := by
  unfold rotDyo
  rw [rotDyoBy_apply]
  simp only [table256_apply, mul_comm (x _)]
  rfl

instance : NeZero 1792 := ⟨by decide⟩
instance : NeZero 8960 := ⟨by decide⟩

variable (m : (ℓ : Loc nD τ sig) → Buf (Elt Ideal) ℓ) (c : Dev nD)
variable (hx : ∀ y, Small (x0 m c y)) (hw : ∀ y, Small (w0 m c y)) (hd : ∀ y, Small (dy0 m c y))

/-! ## What the last step reads -/

include hx in
theorem v136 : V m c main_v136 = Results.xCodes (x0 m c) :=
  (V_v136 m c).trans (Plain.col_codes 1792 1536 _ _ _ _ _ hTok factor_hTok _ _ (rotX_plain (x0 m c)) (Plain.down_bounded 128 1792 1536 _ (by decide) _ hx))

include hx in
theorem v130 : V m c main_v130 = Results.xScales (x0 m c) :=
  (V_v130 m c).trans (Plain.col_scales 1792 1536 _ _ _ hTok factor_hTok _ _ (rotX_plain (x0 m c)) (Plain.down_bounded 128 1792 1536 _ (by decide) _ hx))

include hd in
theorem v107 : V m c main_v107 = Results.dytCodes (dy0 m c) :=
  (V_v107 m c).trans (Plain.col_codes 1792 8960 _ _ _ _ _ hTok factor_hTok _ _ (rotDyt_plain (dy0 m c)) (Plain.down_bounded 128 1792 8960 _ (by decide) _ hd))

include hd in
theorem pows_dyt : pows S1x8960 bcast_S_S1x8960 (eDyt (dy0 m c)) = Results.dytScales (dy0 m c) :=
  Plain.col_scales 1792 8960 _ _ _ hTok factor_hTok _ _ (rotDyt_plain (dy0 m c)) (Plain.down_bounded 128 1792 8960 _ (by decide) _ hd)

include hd in
theorem v101 : V m c main_v101 = Results.dytScales (dy0 m c) := (V_v101 m c).trans (pows_dyt m c hd)

include hd in
theorem v137 : V m c main_v137 = shapeCast S8960x1 (Results.dytScales (dy0 m c)) shapeCasts_S1x8960_S8960x1 :=
  (V_v137 m c).trans (congrArg (fun v : FVec Ideal S1x8960 .f32 => shapeCast S8960x1 v shapeCasts_S1x8960_S8960x1) (pows_dyt m c hd))

include hd in
theorem v49 : V m c main_v49 = Results.dyoCodes (dy0 m c) :=
  (V_v49 m c).trans (Plain.row_codes 1792 8960 _ _ _ _ _ hOut factor_hOut _ _ (rotDyo_plain (dy0 m c)) (Plain.along_bounded 1792 8960 _ _ hd))

include hd in
theorem v43 : V m c main_v43 = Results.dyoScales (dy0 m c) :=
  (V_v43 m c).trans (Plain.row_scales 1792 8960 _ _ _ hOut factor_hOut _ _ (rotDyo_plain (dy0 m c)) (Plain.along_bounded 1792 8960 _ _ hd))

include hw in
theorem v78 : V m c main_v78 = Results.wCodes (w0 m c) :=
  (V_v78 m c).trans (Plain.col_codes 8960 1536 _ _ _ _ _ hOut factor_hOut _ _ (rotW_plain (w0 m c)) (Plain.down_bounded 256 8960 1536 _ (by decide) _ hw))

include hw in
theorem v72 : V m c main_v72 = Results.wScales (w0 m c) :=
  (V_v72 m c).trans (Plain.col_scales 8960 1536 _ _ _ hOut factor_hOut _ _ (rotW_plain (w0 m c)) (Plain.down_bounded 256 8960 1536 _ (by decide) _ hw))

/-! ## The products -/

theorem dx_of (a : FVec Ideal S1792x8960 .f32) (b : FVec Ideal S8960x1536 .f32) (s : FVec Ideal S1792x1 .f32) (u : FVec Ideal S1x1536 .f32) :
    k0_pay10 a b s u = Arr3.dx b u a s := by
  funext y
  obtain ⟨i, j, rfl⟩ : ∃ i j, y = ix2 i j := ⟨y 0, y 1, (ix2_eta y).symm⟩
  exact RefOut.pay10_apply a b s u i j

theorem dw_of (a : FVec Ideal S1792x8960 .f32) (b : FVec Ideal S1792x1536 .f32) (s : FVec Ideal S1x8960 .f32) (u : FVec Ideal S1x1536 .f32) :
    k0_pay1 (k0_pay11 a b (shapeCast S8960x1 s shapeCasts_S1x8960_S8960x1)) (k0_pay12 u) = Arr1.dw a s b u := by
  funext y
  obtain ⟨r, j, rfl⟩ : ∃ r j, y = ix2 r j := ⟨y 0, y 1, (ix2_eta y).symm⟩
  rw [RefOut.pay1_apply, RefOut.stand_apply]
  rfl

include hw hd in
theorem r9 : (dats m 0 c).arrAt 9 cfg0.N = Results.dx (w0 m c) (dy0 m c) := by
  rw [RefOut.arr9, v49 m c hd, v78 m c hw, v43 m c hd, v72 m c hw]
  exact dx_of _ _ _ _

include hx hd in
theorem r10 : (dats m 0 c).arrAt 10 cfg0.N = Results.dw (x0 m c) (dy0 m c) := by
  rw [RefOut.arr10, v107 m c hd, v136 m c hx, v137 m c hd, v130 m c hx]
  exact dw_of _ _ _ _

include hd in
theorem r11 : (dats m 0 c).arrAt 11 cfg0.N = Results.dyoCodes (dy0 m c) := (RefOut.arr11 m c).trans (v49 m c hd)

include hd in
theorem r12 : (dats m 0 c).arrAt 12 cfg0.N = Results.dyoScales (dy0 m c) := (RefOut.arr12 m c).trans (v43 m c hd)

include hw in
theorem r13 : (dats m 0 c).arrAt 13 cfg0.N = Results.wCodes (w0 m c) := (RefOut.arr13 m c).trans (v78 m c hw)

include hw in
theorem r14 : (dats m 0 c).arrAt 14 cfg0.N = Results.wScales (w0 m c) := (RefOut.arr14 m c).trans (v72 m c hw)

include hd in
theorem r15 : (dats m 0 c).arrAt 15 cfg0.N = Results.dytCodes (dy0 m c) := (RefOut.arr15 m c).trans (v107 m c hd)

include hd in
theorem r16 : (dats m 0 c).arrAt 16 cfg0.N = Results.dytScales (dy0 m c) := (RefOut.arr16 m c).trans (v101 m c hd)

include hx in
theorem r17 : (dats m 0 c).arrAt 17 cfg0.N = Results.xCodes (x0 m c) := (RefOut.arr17 m c).trans (v136 m c hx)

include hx in
theorem r18 : (dats m 0 c).arrAt 18 cfg0.N = Results.xScales (x0 m c) := (RefOut.arr18 m c).trans (v130 m c hx)

end Cert.RefEnd

end
end
-- ==== Proof.RefRun.lean ====
/- The reference's run, ending with the ten results. -/
module

public import proofs.«01_k».proof.Proof.RefEnd

@[expose] public section

noncomputable section

namespace Cert.RefRun

open Idealize.ShloMosaic Idealize.ShloMosaic.TcCoe Idealize.SL.Sem
open Cert.ReferenceIdeal Cert.ReferenceIdeal.Gen Cert.Quant Cert.HostVals

/-! ## The run -/

/-- Every run of the reference ends with the ten results and the arguments as they were. -/
theorem run (m : (ℓ : Loc nD τ sig) → Buf (Elt Ideal) ℓ) (ρ : Dev nD → PrngReg)
    (hx : ∀ c y, Small (x0 m c y)) (hw : ∀ c y, Small (w0 m c y)) (hd : ∀ c y, Small (dy0 m c y)) :
    θ_run (defs (F := Ideal)) (onTc (τ := τ) (main (F := Ideal))) ⟨m, fun _ => 0, ρ⟩ (fun r => ∀ c : Dev nD,
      r.2.mem ((c : Thread nD τ).loc main_v138_0) = Results.dx (w0 m c) (dy0 m c)
      ∧ r.2.mem ((c : Thread nD τ).loc main_v138_1) = Results.dw (x0 m c) (dy0 m c)
      ∧ r.2.mem ((c : Thread nD τ).loc main_v138_2) = Results.dyoCodes (dy0 m c)
      ∧ r.2.mem ((c : Thread nD τ).loc main_v138_3) = Results.dyoScales (dy0 m c)
      ∧ r.2.mem ((c : Thread nD τ).loc main_v138_4) = Results.wCodes (w0 m c)
      ∧ r.2.mem ((c : Thread nD τ).loc main_v138_5) = Results.wScales (w0 m c)
      ∧ r.2.mem ((c : Thread nD τ).loc main_v138_6) = Results.dytCodes (dy0 m c)
      ∧ r.2.mem ((c : Thread nD τ).loc main_v138_7) = Results.dytScales (dy0 m c)
      ∧ r.2.mem ((c : Thread nD τ).loc main_v138_8) = Results.xCodes (x0 m c)
      ∧ r.2.mem ((c : Thread nD τ).loc main_v138_9) = Results.xScales (x0 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨
    (h c).1.trans (RefEnd.r9 m c (hw c) (hd c)),
    (h c).2.1.trans (RefEnd.r10 m c (hx c) (hd c)),
    (h c).2.2.1.trans (RefEnd.r11 m c (hd c)),
    (h c).2.2.2.1.trans (RefEnd.r12 m c (hd c)),
    (h c).2.2.2.2.1.trans (RefEnd.r13 m c (hw c)),
    (h c).2.2.2.2.2.1.trans (RefEnd.r14 m c (hw c)),
    (h c).2.2.2.2.2.2.1.trans (RefEnd.r15 m c (hd c)),
    (h c).2.2.2.2.2.2.2.1.trans (RefEnd.r16 m c (hd c)),
    (h c).2.2.2.2.2.2.2.2.1.trans (RefEnd.r17 m c (hx c)),
    (h c).2.2.2.2.2.2.2.2.2.1.trans (RefEnd.r18 m c (hx c)),
    (h c).2.2.2.2.2.2.2.2.2.2.1,
    (h c).2.2.2.2.2.2.2.2.2.2.2.1,
    (h c).2.2.2.2.2.2.2.2.2.2.2.2⟩) (Cert.ReferenceIdeal.Value.run_blocks m ρ)

end Cert.RefRun

end
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_finite
public import proofs.«01_k».proof.Proof.Finite
public import proofs.«01_k».proof.Proof.KerEnd
public import proofs.«01_k».proof.Proof.RefRun

@[expose] public section

noncomputable section

namespace Cert.Proof

open Idealize.ShloMosaic Idealize.SL.Sem Cert.Kernel Cert.Quant

/-- The two programs' ten results are equal under the precondition. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  have small := fun c => @Cert.Finite.small Cert.Pre_finite.Gen.facts _ _ _ (hpre c)
  have hx : ∀ c y, Small (KerEnd.x0 m c y) := fun c y => (small c).1 _
  have hw : ∀ c y, Small (KerEnd.w0 m c y) := fun c y => (small c).2.1 _
  have hd : ∀ c y, Small (KerEnd.dy0 m c y) := fun c y => (small c).2.2 _
  have ex : ∀ c, HostVals.x0 m' c = KerEnd.x0 m c := fun c =>
    congrArg (fun v : FVec Ideal Cert.KernelIdeal.S2x896x1536 .bf16 => shapeCast Cert.KernelIdeal.S1792x1536 v Cert.KernelIdeal.Gen.shapeCasts_S2x896x1536_S1792x1536) (hargs c).1
  have ew : ∀ c, HostVals.w0 m' c = KerEnd.w0 m c := fun c => (hargs c).2.1
  have ed : ∀ c, HostVals.dy0 m' c = KerEnd.dy0 m c := fun c =>
    congrArg (fun v : FVec Ideal Cert.KernelIdeal.S2x896x8960 .bf16 => shapeCast Cert.KernelIdeal.S1792x8960 v Cert.KernelIdeal.Gen.shapeCasts_S2x896x8960_S1792x8960) (hargs c).2.2
  have hx' : ∀ c y, Small (HostVals.x0 m' c y) := fun c => by rw [ex c]; exact hx c
  have hw' : ∀ c y, Small (HostVals.w0 m' c y) := fun c => by rw [ew c]; exact hw c
  have hd' : ∀ c y, Small (HostVals.dy0 m' c y) := fun c => by rw [ed c]; exact hd c
  refine ⟨fun c => Results.dx (KerEnd.w0 m c) (KerEnd.dy0 m c), fun c => Results.dw (KerEnd.x0 m c) (KerEnd.dy0 m c),
    fun c => Results.dyoCodes (KerEnd.dy0 m c), fun c => Results.dyoScales (KerEnd.dy0 m c),
    fun c => Results.wCodes (KerEnd.w0 m c), fun c => Results.wScales (KerEnd.w0 m c),
    fun c => Results.dytCodes (KerEnd.dy0 m c), fun c => Results.dytScales (KerEnd.dy0 m c),
    fun c => Results.xCodes (KerEnd.x0 m c), fun c => Results.xScales (KerEnd.x0 m c), ?_, ?_⟩
  · exact KerEnd.run m ρ hx hw hd
  · exact (θ_run _ _ _).mono (fun r h c => ⟨
      (h c).1.trans (congrArg₂ Results.dx (ew c) (ed c)),
      (h c).2.1.trans (congrArg₂ Results.dw (ex c) (ed c)),
      (h c).2.2.1.trans (congrArg Results.dyoCodes (ed c)),
      (h c).2.2.2.1.trans (congrArg Results.dyoScales (ed c)),
      (h c).2.2.2.2.1.trans (congrArg Results.wCodes (ew c)),
      (h c).2.2.2.2.2.1.trans (congrArg Results.wScales (ew c)),
      (h c).2.2.2.2.2.2.1.trans (congrArg Results.dytCodes (ed c)),
      (h c).2.2.2.2.2.2.2.1.trans (congrArg Results.dytScales (ed c)),
      (h c).2.2.2.2.2.2.2.2.1.trans (congrArg Results.xCodes (ex c)),
      (h c).2.2.2.2.2.2.2.2.2.1.trans (congrArg Results.xScales (ex c)),
      (h c).2.2.2.2.2.2.2.2.2.2.1,
      (h c).2.2.2.2.2.2.2.2.2.2.2.1,
      (h c).2.2.2.2.2.2.2.2.2.2.2.2⟩) (RefRun.run m' ρ' hx' hw' hd')

/-- Every claim the certificate states. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
